-- ==== Defs.lean ====
def Pre_Kernel [hPre_pages_exist : Cert.Pre_pages_exist.Facts] (m : (ℓ : Loc Cert.Kernel.nD Cert.Kernel.τ Cert.Kernel.sig) → Buf (Elt Bits) ℓ) : Prop :=
  ∀ c : Dev Cert.Kernel.nD,
    (Cert.Pre_pages_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_pages_exist : Cert.Pre_pages_exist.Facts] (m : (ℓ : Loc Cert.KernelIdeal.nD Cert.KernelIdeal.τ Cert.KernelIdeal.sig) → Buf (Elt Ideal) ℓ) : Prop :=
  ∀ c : Dev Cert.KernelIdeal.nD,
    (Cert.Pre_pages_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_args [hPre_finite_args : Cert.Pre_finite_args.Facts] (m : (ℓ : Loc Cert.CrossIdeal.nD Cert.CrossIdeal.τ Cert.CrossIdeal.sig) → Buf (Elt Ideal) ℓ) : Prop :=
  ∀ c : Dev Cert.CrossIdeal.nD,
    (Cert.Pre_finite_args.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6))) = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_finite_args [hPre_finite_args : Cert.Pre_finite_args.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_finite_args.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6))) = (fun _ => 1#1)

def Pre_MemK (m : (ℓ : Loc Cert.MemK.nD Cert.MemK.τ Cert.MemK.sig) → Buf (Elt Bits) ℓ) : Prop :=
  True

def Pre_MemKIdeal (m : (ℓ : Loc Cert.MemKIdeal.nD Cert.MemKIdeal.τ Cert.MemKIdeal.sig) → Buf (Elt Ideal) ℓ) : Prop :=
  True

def Pre_MemKRefIdeal (m : (ℓ : Loc Cert.MemKRefIdeal.nD Cert.MemKRefIdeal.τ Cert.MemKRefIdeal.sig) → Buf (Elt Ideal) ℓ) : Prop :=
  True

def Pre_MemV (m : (ℓ : Loc Cert.MemV.nD Cert.MemV.τ Cert.MemV.sig) → Buf (Elt Bits) ℓ) : Prop :=
  True

def Pre_MemVIdeal (m : (ℓ : Loc Cert.MemVIdeal.nD Cert.MemVIdeal.τ Cert.MemVIdeal.sig) → Buf (Elt Ideal) ℓ) : Prop :=
  True

def Pre_MemVRefIdeal (m : (ℓ : Loc Cert.MemVRefIdeal.nD Cert.MemVRefIdeal.τ Cert.MemVRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Cached (m : (ℓ : Loc Cert.Cached.nD Cert.Cached.τ Cert.Cached.sig) → Buf (Elt Bits) ℓ) : Prop :=
  True

def Pre_CachedIdeal (m : (ℓ : Loc Cert.CachedIdeal.nD Cert.CachedIdeal.τ Cert.CachedIdeal.sig) → Buf (Elt Ideal) ℓ) : Prop :=
  True

def Pre_CachedIdeal_finite_scores [hPre_finite_scores : Cert.Pre_finite_scores.Facts] (m : (ℓ : Loc Cert.CachedIdeal.nD Cert.CachedIdeal.τ Cert.CachedIdeal.sig) → Buf (Elt Ideal) ℓ) : Prop :=
  ∀ c : Dev Cert.CachedIdeal.nD,
    (Cert.Pre_finite_scores.fn (F := Ideal) (m ((c.tc : Thread Cert.CachedIdeal.nD Cert.CachedIdeal.τ).loc Cert.CachedIdeal.main_arg0)) (m ((c.tc : Thread Cert.CachedIdeal.nD Cert.CachedIdeal.τ).loc Cert.CachedIdeal.main_arg1)) (m ((c.tc : Thread Cert.CachedIdeal.nD Cert.CachedIdeal.τ).loc Cert.CachedIdeal.main_arg2))) = (fun _ => 1#1)

def Pre_CachedRefIdeal (m : (ℓ : Loc Cert.CachedRefIdeal.nD Cert.CachedRefIdeal.τ Cert.CachedRefIdeal.sig) → Buf (Elt Ideal) ℓ) : Prop :=
  True

def Pre_CachedRefIdeal_finite_scores [hPre_finite_scores : Cert.Pre_finite_scores.Facts] (m : (ℓ : Loc Cert.CachedRefIdeal.nD Cert.CachedRefIdeal.τ Cert.CachedRefIdeal.sig) → Buf (Elt Ideal) ℓ) : Prop :=
  ∀ c : Dev Cert.CachedRefIdeal.nD,
    (Cert.Pre_finite_scores.fn (F := Ideal) (m ((c.tc : Thread Cert.CachedRefIdeal.nD Cert.CachedRefIdeal.τ).loc Cert.CachedRefIdeal.main_arg0)) (m ((c.tc : Thread Cert.CachedRefIdeal.nD Cert.CachedRefIdeal.τ).loc Cert.CachedRefIdeal.main_arg1)) (m ((c.tc : Thread Cert.CachedRefIdeal.nD Cert.CachedRefIdeal.τ).loc Cert.CachedRefIdeal.main_arg2))) = (fun _ => 1#1)

def quiescent_Kernel [hKernel : Cert.Kernel.Facts] [hPre_pages_exist : Cert.Pre_pages_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_pages_exist : Cert.Pre_pages_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1)
      ∧ r.2.mem ((c.tc : Thread Cert.ProjARefIdeal.nD Cert.ProjARefIdeal.τ).loc Cert.ProjARefIdeal.main_arg2) = m ((c.tc : Thread Cert.ProjARefIdeal.nD Cert.ProjARefIdeal.τ).loc Cert.ProjARefIdeal.main_arg2))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1)
      ∧ r.2.mem ((c.tc : Thread Cert.ProjBRefIdeal.nD Cert.ProjBRefIdeal.τ).loc Cert.ProjBRefIdeal.main_arg2) = m ((c.tc : Thread Cert.ProjBRefIdeal.nD Cert.ProjBRefIdeal.τ).loc Cert.ProjBRefIdeal.main_arg2))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5)
      ∧ r.2.mem ((c.tc : Thread Cert.Cross.nD Cert.Cross.τ).loc Cert.Cross.main_arg6) = m ((c.tc : Thread Cert.Cross.nD Cert.Cross.τ).loc Cert.Cross.main_arg6))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ r.2.sem = fun _ => 0)

def quiescent_CrossIdeal_pre_finite_args [hCrossIdeal : Cert.CrossIdeal.Facts] [hPre_finite_args : Cert.Pre_finite_args.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_args m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6))
      ∧ r.2.sem = fun _ => 0)

def quiescent_CrossRefIdeal_pre_finite_args [hCrossRefIdeal : Cert.CrossRefIdeal.Facts] [hPre_finite_args : Cert.Pre_finite_args.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_finite_args m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6))
      ∧ r.2.sem = fun _ => 0)

def quiescent_MemK [hMemK : Cert.MemK.Facts] : Prop :=
  ∀ (m : (ℓ : Loc Cert.MemK.nD Cert.MemK.τ Cert.MemK.sig) → Buf (Elt Bits) ℓ) (g : Dev Cert.MemK.nD → PrngReg), Pre_MemK m →
    θ_run (Cert.MemK.defs (F := Bits)) (onTc (τ := Cert.MemK.τ) (Cert.MemK.main (F := Bits))) ⟨m, fun _ => 0, g⟩ (fun r => (∀ c : Dev Cert.MemK.nD,
      r.2.mem ((c.tc : Thread Cert.MemK.nD Cert.MemK.τ).loc Cert.MemK.main_arg0) = m ((c.tc : Thread Cert.MemK.nD Cert.MemK.τ).loc Cert.MemK.main_arg0)
      ∧ r.2.mem ((c.tc : Thread Cert.MemK.nD Cert.MemK.τ).loc Cert.MemK.main_arg1) = m ((c.tc : Thread Cert.MemK.nD Cert.MemK.τ).loc Cert.MemK.main_arg1)
      ∧ r.2.mem ((c.tc : Thread Cert.MemK.nD Cert.MemK.τ).loc Cert.MemK.main_arg2) = m ((c.tc : Thread Cert.MemK.nD Cert.MemK.τ).loc Cert.MemK.main_arg2)
      ∧ r.2.mem ((c.tc : Thread Cert.MemK.nD Cert.MemK.τ).loc Cert.MemK.main_arg3) = m ((c.tc : Thread Cert.MemK.nD Cert.MemK.τ).loc Cert.MemK.main_arg3))
      ∧ r.2.sem = fun _ => 0)

def quiescent_MemKIdeal [hMemKIdeal : Cert.MemKIdeal.Facts] : Prop :=
  ∀ (m : (ℓ : Loc Cert.MemKIdeal.nD Cert.MemKIdeal.τ Cert.MemKIdeal.sig) → Buf (Elt Ideal) ℓ) (g : Dev Cert.MemKIdeal.nD → PrngReg), Pre_MemKIdeal m →
    θ_run (Cert.MemKIdeal.defs (F := Ideal)) (onTc (τ := Cert.MemKIdeal.τ) (Cert.MemKIdeal.main (F := Ideal))) ⟨m, fun _ => 0, g⟩ (fun r => (∀ c : Dev Cert.MemKIdeal.nD,
      r.2.mem ((c.tc : Thread Cert.MemKIdeal.nD Cert.MemKIdeal.τ).loc Cert.MemKIdeal.main_arg0) = m ((c.tc : Thread Cert.MemKIdeal.nD Cert.MemKIdeal.τ).loc Cert.MemKIdeal.main_arg0)
      ∧ r.2.mem ((c.tc : Thread Cert.MemKIdeal.nD Cert.MemKIdeal.τ).loc Cert.MemKIdeal.main_arg1) = m ((c.tc : Thread Cert.MemKIdeal.nD Cert.MemKIdeal.τ).loc Cert.MemKIdeal.main_arg1)
      ∧ r.2.mem ((c.tc : Thread Cert.MemKIdeal.nD Cert.MemKIdeal.τ).loc Cert.MemKIdeal.main_arg2) = m ((c.tc : Thread Cert.MemKIdeal.nD Cert.MemKIdeal.τ).loc Cert.MemKIdeal.main_arg2)
      ∧ r.2.mem ((c.tc : Thread Cert.MemKIdeal.nD Cert.MemKIdeal.τ).loc Cert.MemKIdeal.main_arg3) = m ((c.tc : Thread Cert.MemKIdeal.nD Cert.MemKIdeal.τ).loc Cert.MemKIdeal.main_arg3))
      ∧ r.2.sem = fun _ => 0)

def quiescent_MemKRefIdeal [hMemKRefIdeal : Cert.MemKRefIdeal.Facts] : Prop :=
  ∀ (m : (ℓ : Loc Cert.MemKRefIdeal.nD Cert.MemKRefIdeal.τ Cert.MemKRefIdeal.sig) → Buf (Elt Ideal) ℓ) (g : Dev Cert.MemKRefIdeal.nD → PrngReg), Pre_MemKRefIdeal m →
    θ_run (Cert.MemKRefIdeal.defs (F := Ideal)) (onTc (τ := Cert.MemKRefIdeal.τ) (Cert.MemKRefIdeal.main (F := Ideal))) ⟨m, fun _ => 0, g⟩ (fun r => (∀ c : Dev Cert.MemKRefIdeal.nD,
      r.2.mem ((c.tc : Thread Cert.MemKRefIdeal.nD Cert.MemKRefIdeal.τ).loc Cert.MemKRefIdeal.main_arg0) = m ((c.tc : Thread Cert.MemKRefIdeal.nD Cert.MemKRefIdeal.τ).loc Cert.MemKRefIdeal.main_arg0)
      ∧ r.2.mem ((c.tc : Thread Cert.MemKRefIdeal.nD Cert.MemKRefIdeal.τ).loc Cert.MemKRefIdeal.main_arg1) = m ((c.tc : Thread Cert.MemKRefIdeal.nD Cert.MemKRefIdeal.τ).loc Cert.MemKRefIdeal.main_arg1)
      ∧ r.2.mem ((c.tc : Thread Cert.MemKRefIdeal.nD Cert.MemKRefIdeal.τ).loc Cert.MemKRefIdeal.main_arg2) = m ((c.tc : Thread Cert.MemKRefIdeal.nD Cert.MemKRefIdeal.τ).loc Cert.MemKRefIdeal.main_arg2)
      ∧ r.2.mem ((c.tc : Thread Cert.MemKRefIdeal.nD Cert.MemKRefIdeal.τ).loc Cert.MemKRefIdeal.main_arg3) = m ((c.tc : Thread Cert.MemKRefIdeal.nD Cert.MemKRefIdeal.τ).loc Cert.MemKRefIdeal.main_arg3))
      ∧ r.2.sem = fun _ => 0)

def quiescent_MemV [hMemV : Cert.MemV.Facts] : Prop :=
  ∀ (m : (ℓ : Loc Cert.MemV.nD Cert.MemV.τ Cert.MemV.sig) → Buf (Elt Bits) ℓ) (g : Dev Cert.MemV.nD → PrngReg), Pre_MemV m →
    θ_run (Cert.MemV.defs (F := Bits)) (onTc (τ := Cert.MemV.τ) (Cert.MemV.main (F := Bits))) ⟨m, fun _ => 0, g⟩ (fun r => (∀ c : Dev Cert.MemV.nD,
      r.2.mem ((c.tc : Thread Cert.MemV.nD Cert.MemV.τ).loc Cert.MemV.main_arg0) = m ((c.tc : Thread Cert.MemV.nD Cert.MemV.τ).loc Cert.MemV.main_arg0)
      ∧ r.2.mem ((c.tc : Thread Cert.MemV.nD Cert.MemV.τ).loc Cert.MemV.main_arg1) = m ((c.tc : Thread Cert.MemV.nD Cert.MemV.τ).loc Cert.MemV.main_arg1)
      ∧ r.2.mem ((c.tc : Thread Cert.MemV.nD Cert.MemV.τ).loc Cert.MemV.main_arg2) = m ((c.tc : Thread Cert.MemV.nD Cert.MemV.τ).loc Cert.MemV.main_arg2))
      ∧ r.2.sem = fun _ => 0)

def quiescent_MemVIdeal [hMemVIdeal : Cert.MemVIdeal.Facts] : Prop :=
  ∀ (m : (ℓ : Loc Cert.MemVIdeal.nD Cert.MemVIdeal.τ Cert.MemVIdeal.sig) → Buf (Elt Ideal) ℓ) (g : Dev Cert.MemVIdeal.nD → PrngReg), Pre_MemVIdeal m →
    θ_run (Cert.MemVIdeal.defs (F := Ideal)) (onTc (τ := Cert.MemVIdeal.τ) (Cert.MemVIdeal.main (F := Ideal))) ⟨m, fun _ => 0, g⟩ (fun r => (∀ c : Dev Cert.MemVIdeal.nD,
      r.2.mem ((c.tc : Thread Cert.MemVIdeal.nD Cert.MemVIdeal.τ).loc Cert.MemVIdeal.main_arg0) = m ((c.tc : Thread Cert.MemVIdeal.nD Cert.MemVIdeal.τ).loc Cert.MemVIdeal.main_arg0)
      ∧ r.2.mem ((c.tc : Thread Cert.MemVIdeal.nD Cert.MemVIdeal.τ).loc Cert.MemVIdeal.main_arg1) = m ((c.tc : Thread Cert.MemVIdeal.nD Cert.MemVIdeal.τ).loc Cert.MemVIdeal.main_arg1)
      ∧ r.2.mem ((c.tc : Thread Cert.MemVIdeal.nD Cert.MemVIdeal.τ).loc Cert.MemVIdeal.main_arg2) = m ((c.tc : Thread Cert.MemVIdeal.nD Cert.MemVIdeal.τ).loc Cert.MemVIdeal.main_arg2))
      ∧ r.2.sem = fun _ => 0)

def quiescent_MemVRefIdeal [hMemVRefIdeal : Cert.MemVRefIdeal.Facts] : Prop :=
  ∀ (m : (ℓ : Loc Cert.MemVRefIdeal.nD Cert.MemVRefIdeal.τ Cert.MemVRefIdeal.sig) → Buf (Elt Ideal) ℓ) (g : Dev Cert.MemVRefIdeal.nD → PrngReg), Pre_MemVRefIdeal m →
    θ_run (Cert.MemVRefIdeal.defs (F := Ideal)) (onTc (τ := Cert.MemVRefIdeal.τ) (Cert.MemVRefIdeal.main (F := Ideal))) ⟨m, fun _ => 0, g⟩ (fun r => (∀ c : Dev Cert.MemVRefIdeal.nD,
      r.2.mem ((c.tc : Thread Cert.MemVRefIdeal.nD Cert.MemVRefIdeal.τ).loc Cert.MemVRefIdeal.main_arg0) = m ((c.tc : Thread Cert.MemVRefIdeal.nD Cert.MemVRefIdeal.τ).loc Cert.MemVRefIdeal.main_arg0)
      ∧ r.2.mem ((c.tc : Thread Cert.MemVRefIdeal.nD Cert.MemVRefIdeal.τ).loc Cert.MemVRefIdeal.main_arg1) = m ((c.tc : Thread Cert.MemVRefIdeal.nD Cert.MemVRefIdeal.τ).loc Cert.MemVRefIdeal.main_arg1)
      ∧ r.2.mem ((c.tc : Thread Cert.MemVRefIdeal.nD Cert.MemVRefIdeal.τ).loc Cert.MemVRefIdeal.main_arg2) = m ((c.tc : Thread Cert.MemVRefIdeal.nD Cert.MemVRefIdeal.τ).loc Cert.MemVRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Cached [hCached : Cert.Cached.Facts] : Prop :=
  ∀ (m : (ℓ : Loc Cert.Cached.nD Cert.Cached.τ Cert.Cached.sig) → Buf (Elt Bits) ℓ) (g : Dev Cert.Cached.nD → PrngReg), Pre_Cached m →
    θ_run (Cert.Cached.defs (F := Bits)) (onTc (τ := Cert.Cached.τ) (Cert.Cached.main (F := Bits))) ⟨m, fun _ => 0, g⟩ (fun r => (∀ c : Dev Cert.Cached.nD,
      r.2.mem ((c.tc : Thread Cert.Cached.nD Cert.Cached.τ).loc Cert.Cached.main_arg0) = m ((c.tc : Thread Cert.Cached.nD Cert.Cached.τ).loc Cert.Cached.main_arg0)
      ∧ r.2.mem ((c.tc : Thread Cert.Cached.nD Cert.Cached.τ).loc Cert.Cached.main_arg1) = m ((c.tc : Thread Cert.Cached.nD Cert.Cached.τ).loc Cert.Cached.main_arg1)
      ∧ r.2.mem ((c.tc : Thread Cert.Cached.nD Cert.Cached.τ).loc Cert.Cached.main_arg2) = m ((c.tc : Thread Cert.Cached.nD Cert.Cached.τ).loc Cert.Cached.main_arg2))
      ∧ r.2.sem = fun _ => 0)

def quiescent_CachedIdeal [hCachedIdeal : Cert.CachedIdeal.Facts] : Prop :=
  ∀ (m : (ℓ : Loc Cert.CachedIdeal.nD Cert.CachedIdeal.τ Cert.CachedIdeal.sig) → Buf (Elt Ideal) ℓ) (g : Dev Cert.CachedIdeal.nD → PrngReg), Pre_CachedIdeal m →
    θ_run (Cert.CachedIdeal.defs (F := Ideal)) (onTc (τ := Cert.CachedIdeal.τ) (Cert.CachedIdeal.main (F := Ideal))) ⟨m, fun _ => 0, g⟩ (fun r => (∀ c : Dev Cert.CachedIdeal.nD,
      r.2.mem ((c.tc : Thread Cert.CachedIdeal.nD Cert.CachedIdeal.τ).loc Cert.CachedIdeal.main_arg0) = m ((c.tc : Thread Cert.CachedIdeal.nD Cert.CachedIdeal.τ).loc Cert.CachedIdeal.main_arg0)
      ∧ r.2.mem ((c.tc : Thread Cert.CachedIdeal.nD Cert.CachedIdeal.τ).loc Cert.CachedIdeal.main_arg1) = m ((c.tc : Thread Cert.CachedIdeal.nD Cert.CachedIdeal.τ).loc Cert.CachedIdeal.main_arg1)
      ∧ r.2.mem ((c.tc : Thread Cert.CachedIdeal.nD Cert.CachedIdeal.τ).loc Cert.CachedIdeal.main_arg2) = m ((c.tc : Thread Cert.CachedIdeal.nD Cert.CachedIdeal.τ).loc Cert.CachedIdeal.main_arg2))
      ∧ r.2.sem = fun _ => 0)

def quiescent_CachedIdeal_pre_finite_scores [hCachedIdeal : Cert.CachedIdeal.Facts] [hPre_finite_scores : Cert.Pre_finite_scores.Facts] : Prop :=
  ∀ (m : (ℓ : Loc Cert.CachedIdeal.nD Cert.CachedIdeal.τ Cert.CachedIdeal.sig) → Buf (Elt Ideal) ℓ) (g : Dev Cert.CachedIdeal.nD → PrngReg), Pre_CachedIdeal_finite_scores m →
    θ_run (Cert.CachedIdeal.defs (F := Ideal)) (onTc (τ := Cert.CachedIdeal.τ) (Cert.CachedIdeal.main (F := Ideal))) ⟨m, fun _ => 0, g⟩ (fun r => (∀ c : Dev Cert.CachedIdeal.nD,
      r.2.mem ((c.tc : Thread Cert.CachedIdeal.nD Cert.CachedIdeal.τ).loc Cert.CachedIdeal.main_arg0) = m ((c.tc : Thread Cert.CachedIdeal.nD Cert.CachedIdeal.τ).loc Cert.CachedIdeal.main_arg0)
      ∧ r.2.mem ((c.tc : Thread Cert.CachedIdeal.nD Cert.CachedIdeal.τ).loc Cert.CachedIdeal.main_arg1) = m ((c.tc : Thread Cert.CachedIdeal.nD Cert.CachedIdeal.τ).loc Cert.CachedIdeal.main_arg1)
      ∧ r.2.mem ((c.tc : Thread Cert.CachedIdeal.nD Cert.CachedIdeal.τ).loc Cert.CachedIdeal.main_arg2) = m ((c.tc : Thread Cert.CachedIdeal.nD Cert.CachedIdeal.τ).loc Cert.CachedIdeal.main_arg2))
      ∧ r.2.sem = fun _ => 0)

def quiescent_CachedRefIdeal [hCachedRefIdeal : Cert.CachedRefIdeal.Facts] : Prop :=
  ∀ (m : (ℓ : Loc Cert.CachedRefIdeal.nD Cert.CachedRefIdeal.τ Cert.CachedRefIdeal.sig) → Buf (Elt Ideal) ℓ) (g : Dev Cert.CachedRefIdeal.nD → PrngReg), Pre_CachedRefIdeal m →
    θ_run (Cert.CachedRefIdeal.defs (F := Ideal)) (onTc (τ := Cert.CachedRefIdeal.τ) (Cert.CachedRefIdeal.main (F := Ideal))) ⟨m, fun _ => 0, g⟩ (fun r => (∀ c : Dev Cert.CachedRefIdeal.nD,
      r.2.mem ((c.tc : Thread Cert.CachedRefIdeal.nD Cert.CachedRefIdeal.τ).loc Cert.CachedRefIdeal.main_arg0) = m ((c.tc : Thread Cert.CachedRefIdeal.nD Cert.CachedRefIdeal.τ).loc Cert.CachedRefIdeal.main_arg0)
      ∧ r.2.mem ((c.tc : Thread Cert.CachedRefIdeal.nD Cert.CachedRefIdeal.τ).loc Cert.CachedRefIdeal.main_arg1) = m ((c.tc : Thread Cert.CachedRefIdeal.nD Cert.CachedRefIdeal.τ).loc Cert.CachedRefIdeal.main_arg1)
      ∧ r.2.mem ((c.tc : Thread Cert.CachedRefIdeal.nD Cert.CachedRefIdeal.τ).loc Cert.CachedRefIdeal.main_arg2) = m ((c.tc : Thread Cert.CachedRefIdeal.nD Cert.CachedRefIdeal.τ).loc Cert.CachedRefIdeal.main_arg2))
      ∧ r.2.sem = fun _ => 0)

def quiescent_CachedRefIdeal_pre_finite_scores [hCachedRefIdeal : Cert.CachedRefIdeal.Facts] [hPre_finite_scores : Cert.Pre_finite_scores.Facts] : Prop :=
  ∀ (m : (ℓ : Loc Cert.CachedRefIdeal.nD Cert.CachedRefIdeal.τ Cert.CachedRefIdeal.sig) → Buf (Elt Ideal) ℓ) (g : Dev Cert.CachedRefIdeal.nD → PrngReg), Pre_CachedRefIdeal_finite_scores m →
    θ_run (Cert.CachedRefIdeal.defs (F := Ideal)) (onTc (τ := Cert.CachedRefIdeal.τ) (Cert.CachedRefIdeal.main (F := Ideal))) ⟨m, fun _ => 0, g⟩ (fun r => (∀ c : Dev Cert.CachedRefIdeal.nD,
      r.2.mem ((c.tc : Thread Cert.CachedRefIdeal.nD Cert.CachedRefIdeal.τ).loc Cert.CachedRefIdeal.main_arg0) = m ((c.tc : Thread Cert.CachedRefIdeal.nD Cert.CachedRefIdeal.τ).loc Cert.CachedRefIdeal.main_arg0)
      ∧ r.2.mem ((c.tc : Thread Cert.CachedRefIdeal.nD Cert.CachedRefIdeal.τ).loc Cert.CachedRefIdeal.main_arg1) = m ((c.tc : Thread Cert.CachedRefIdeal.nD Cert.CachedRefIdeal.τ).loc Cert.CachedRefIdeal.main_arg1)
      ∧ r.2.mem ((c.tc : Thread Cert.CachedRefIdeal.nD Cert.CachedRefIdeal.τ).loc Cert.CachedRefIdeal.main_arg2) = m ((c.tc : Thread Cert.CachedRefIdeal.nD Cert.CachedRefIdeal.τ).loc Cert.CachedRefIdeal.main_arg2))
      ∧ r.2.sem = fun _ => 0)

def preserves_Kernel_KernelIdeal : Prop :=
  True

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v18) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v11)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v49) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)
      ∧ m' ((c.tc : Thread Cert.ProjARefIdeal.nD Cert.ProjARefIdeal.τ).loc Cert.ProjARefIdeal.main_arg2) = m ((c.tc : Thread Cert.ProjAIdeal.nD Cert.ProjAIdeal.τ).loc Cert.ProjAIdeal.main_arg2)) →
    ∃ (v0 : (c : Dev Cert.ProjAIdeal.nD) → Buf (Elt Ideal) ((c.tc : Thread Cert.ProjAIdeal.nD Cert.ProjAIdeal.τ).loc Cert.ProjAIdeal.main_v20)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v20) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v28) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1)
          ∧ r.2.mem ((c.tc : Thread Cert.ProjARefIdeal.nD Cert.ProjARefIdeal.τ).loc Cert.ProjARefIdeal.main_arg2) = m' ((c.tc : Thread Cert.ProjARefIdeal.nD Cert.ProjARefIdeal.τ).loc Cert.ProjARefIdeal.main_arg2))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)
      ∧ m' ((c.tc : Thread Cert.ProjBRefIdeal.nD Cert.ProjBRefIdeal.τ).loc Cert.ProjBRefIdeal.main_arg2) = m ((c.tc : Thread Cert.ProjBIdeal.nD Cert.ProjBIdeal.τ).loc Cert.ProjBIdeal.main_arg2)) →
    ∃ (v0 : (c : Dev Cert.ProjBIdeal.nD) → Buf (Elt Ideal) ((c.tc : Thread Cert.ProjBIdeal.nD Cert.ProjBIdeal.τ).loc Cert.ProjBIdeal.main_v20)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v20) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v28) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1)
          ∧ r.2.mem ((c.tc : Thread Cert.ProjBRefIdeal.nD Cert.ProjBRefIdeal.τ).loc Cert.ProjBRefIdeal.main_arg2) = m' ((c.tc : Thread Cert.ProjBRefIdeal.nD Cert.ProjBRefIdeal.τ).loc Cert.ProjBRefIdeal.main_arg2))

def preserves_Cross_CrossIdeal : Prop :=
  True

def algebraic_CrossIdeal_CrossRefIdeal_pre_finite_args [hCrossIdeal : Cert.CrossIdeal.Facts] [hCrossRefIdeal : Cert.CrossRefIdeal.Facts] [hPre_finite_args : Cert.Pre_finite_args.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_finite_args m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)
      ∧ m' ((c.tc : Thread Cert.CrossRefIdeal.nD Cert.CrossRefIdeal.τ).loc Cert.CrossRefIdeal.main_arg6) = m ((c.tc : Thread Cert.CrossIdeal.nD Cert.CrossIdeal.τ).loc Cert.CrossIdeal.main_arg6)) →
    ∃ (v0 : (c : Dev Cert.CrossIdeal.nD) → Buf (Elt Ideal) ((c.tc : Thread Cert.CrossIdeal.nD Cert.CrossIdeal.τ).loc Cert.CrossIdeal.main_v7)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v7) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
          ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v47) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5)
          ∧ r.2.mem ((c.tc : Thread Cert.CrossRefIdeal.nD Cert.CrossRefIdeal.τ).loc Cert.CrossRefIdeal.main_arg6) = m' ((c.tc : Thread Cert.CrossRefIdeal.nD Cert.CrossRefIdeal.τ).loc Cert.CrossRefIdeal.main_arg6))

def preserves_MemK_MemKIdeal : Prop :=
  True

def algebraic_MemKIdeal_MemKRefIdeal [hMemKIdeal : Cert.MemKIdeal.Facts] [hMemKRefIdeal : Cert.MemKRefIdeal.Facts] : Prop :=
  ∀ (m : (ℓ : Loc Cert.MemKIdeal.nD Cert.MemKIdeal.τ Cert.MemKIdeal.sig) → Buf (Elt Ideal) ℓ) (g : Dev Cert.MemKIdeal.nD → PrngReg)
    (m' : (ℓ : Loc Cert.MemKRefIdeal.nD Cert.MemKRefIdeal.τ Cert.MemKRefIdeal.sig) → Buf (Elt Ideal) ℓ) (g' : Dev Cert.MemKRefIdeal.nD → PrngReg), Pre_MemKIdeal m →
    (∀ c : Dev Cert.MemKIdeal.nD,
      m' ((c.tc : Thread Cert.MemKRefIdeal.nD Cert.MemKRefIdeal.τ).loc Cert.MemKRefIdeal.main_arg0) = m ((c.tc : Thread Cert.MemKIdeal.nD Cert.MemKIdeal.τ).loc Cert.MemKIdeal.main_arg0)
      ∧ m' ((c.tc : Thread Cert.MemKRefIdeal.nD Cert.MemKRefIdeal.τ).loc Cert.MemKRefIdeal.main_arg1) = m ((c.tc : Thread Cert.MemKIdeal.nD Cert.MemKIdeal.τ).loc Cert.MemKIdeal.main_arg1)
      ∧ m' ((c.tc : Thread Cert.MemKRefIdeal.nD Cert.MemKRefIdeal.τ).loc Cert.MemKRefIdeal.main_arg2) = m ((c.tc : Thread Cert.MemKIdeal.nD Cert.MemKIdeal.τ).loc Cert.MemKIdeal.main_arg2)
      ∧ m' ((c.tc : Thread Cert.MemKRefIdeal.nD Cert.MemKRefIdeal.τ).loc Cert.MemKRefIdeal.main_arg3) = m ((c.tc : Thread Cert.MemKIdeal.nD Cert.MemKIdeal.τ).loc Cert.MemKIdeal.main_arg3)) →
    ∃ (v0 : (c : Dev Cert.MemKIdeal.nD) → Buf (Elt Ideal) ((c.tc : Thread Cert.MemKIdeal.nD Cert.MemKIdeal.τ).loc Cert.MemKIdeal.main_v4)),
      θ_run (Cert.MemKIdeal.defs (F := Ideal)) (onTc (τ := Cert.MemKIdeal.τ) (Cert.MemKIdeal.main (F := Ideal))) ⟨m, fun _ => 0, g⟩ (fun r => ∀ c : Dev Cert.MemKIdeal.nD,
          r.2.mem ((c.tc : Thread Cert.MemKIdeal.nD Cert.MemKIdeal.τ).loc Cert.MemKIdeal.main_v4) = v0 c
          ∧ r.2.mem ((c.tc : Thread Cert.MemKIdeal.nD Cert.MemKIdeal.τ).loc Cert.MemKIdeal.main_arg0) = m ((c.tc : Thread Cert.MemKIdeal.nD Cert.MemKIdeal.τ).loc Cert.MemKIdeal.main_arg0)
          ∧ r.2.mem ((c.tc : Thread Cert.MemKIdeal.nD Cert.MemKIdeal.τ).loc Cert.MemKIdeal.main_arg1) = m ((c.tc : Thread Cert.MemKIdeal.nD Cert.MemKIdeal.τ).loc Cert.MemKIdeal.main_arg1)
          ∧ r.2.mem ((c.tc : Thread Cert.MemKIdeal.nD Cert.MemKIdeal.τ).loc Cert.MemKIdeal.main_arg2) = m ((c.tc : Thread Cert.MemKIdeal.nD Cert.MemKIdeal.τ).loc Cert.MemKIdeal.main_arg2)
          ∧ r.2.mem ((c.tc : Thread Cert.MemKIdeal.nD Cert.MemKIdeal.τ).loc Cert.MemKIdeal.main_arg3) = m ((c.tc : Thread Cert.MemKIdeal.nD Cert.MemKIdeal.τ).loc Cert.MemKIdeal.main_arg3))
      ∧ θ_run (Cert.MemKRefIdeal.defs (F := Ideal)) (onTc (τ := Cert.MemKRefIdeal.τ) (Cert.MemKRefIdeal.main (F := Ideal))) ⟨m', fun _ => 0, g'⟩ (fun r => ∀ c : Dev Cert.MemKRefIdeal.nD,
          r.2.mem ((c.tc : Thread Cert.MemKRefIdeal.nD Cert.MemKRefIdeal.τ).loc Cert.MemKRefIdeal.main_v28) = v0 c
          ∧ r.2.mem ((c.tc : Thread Cert.MemKRefIdeal.nD Cert.MemKRefIdeal.τ).loc Cert.MemKRefIdeal.main_arg0) = m' ((c.tc : Thread Cert.MemKRefIdeal.nD Cert.MemKRefIdeal.τ).loc Cert.MemKRefIdeal.main_arg0)
          ∧ r.2.mem ((c.tc : Thread Cert.MemKRefIdeal.nD Cert.MemKRefIdeal.τ).loc Cert.MemKRefIdeal.main_arg1) = m' ((c.tc : Thread Cert.MemKRefIdeal.nD Cert.MemKRefIdeal.τ).loc Cert.MemKRefIdeal.main_arg1)
          ∧ r.2.mem ((c.tc : Thread Cert.MemKRefIdeal.nD Cert.MemKRefIdeal.τ).loc Cert.MemKRefIdeal.main_arg2) = m' ((c.tc : Thread Cert.MemKRefIdeal.nD Cert.MemKRefIdeal.τ).loc Cert.MemKRefIdeal.main_arg2)
          ∧ r.2.mem ((c.tc : Thread Cert.MemKRefIdeal.nD Cert.MemKRefIdeal.τ).loc Cert.MemKRefIdeal.main_arg3) = m' ((c.tc : Thread Cert.MemKRefIdeal.nD Cert.MemKRefIdeal.τ).loc Cert.MemKRefIdeal.main_arg3))

def preserves_MemV_MemVIdeal : Prop :=
  True

def algebraic_MemVIdeal_MemVRefIdeal [hMemVIdeal : Cert.MemVIdeal.Facts] [hMemVRefIdeal : Cert.MemVRefIdeal.Facts] : Prop :=
  ∀ (m : (ℓ : Loc Cert.MemVIdeal.nD Cert.MemVIdeal.τ Cert.MemVIdeal.sig) → Buf (Elt Ideal) ℓ) (g : Dev Cert.MemVIdeal.nD → PrngReg)
    (m' : (ℓ : Loc Cert.MemVRefIdeal.nD Cert.MemVRefIdeal.τ Cert.MemVRefIdeal.sig) → Buf (Elt Ideal) ℓ) (g' : Dev Cert.MemVRefIdeal.nD → PrngReg), Pre_MemVIdeal m →
    (∀ c : Dev Cert.MemVIdeal.nD,
      m' ((c.tc : Thread Cert.MemVRefIdeal.nD Cert.MemVRefIdeal.τ).loc Cert.MemVRefIdeal.main_arg0) = m ((c.tc : Thread Cert.MemVIdeal.nD Cert.MemVIdeal.τ).loc Cert.MemVIdeal.main_arg0)
      ∧ m' ((c.tc : Thread Cert.MemVRefIdeal.nD Cert.MemVRefIdeal.τ).loc Cert.MemVRefIdeal.main_arg1) = m ((c.tc : Thread Cert.MemVIdeal.nD Cert.MemVIdeal.τ).loc Cert.MemVIdeal.main_arg1)
      ∧ m' ((c.tc : Thread Cert.MemVRefIdeal.nD Cert.MemVRefIdeal.τ).loc Cert.MemVRefIdeal.main_arg2) = m ((c.tc : Thread Cert.MemVIdeal.nD Cert.MemVIdeal.τ).loc Cert.MemVIdeal.main_arg2)) →
    ∃ (v0 : (c : Dev Cert.MemVIdeal.nD) → Buf (Elt Ideal) ((c.tc : Thread Cert.MemVIdeal.nD Cert.MemVIdeal.τ).loc Cert.MemVIdeal.main_v3)),
      θ_run (Cert.MemVIdeal.defs (F := Ideal)) (onTc (τ := Cert.MemVIdeal.τ) (Cert.MemVIdeal.main (F := Ideal))) ⟨m, fun _ => 0, g⟩ (fun r => ∀ c : Dev Cert.MemVIdeal.nD,
          r.2.mem ((c.tc : Thread Cert.MemVIdeal.nD Cert.MemVIdeal.τ).loc Cert.MemVIdeal.main_v3) = v0 c
          ∧ r.2.mem ((c.tc : Thread Cert.MemVIdeal.nD Cert.MemVIdeal.τ).loc Cert.MemVIdeal.main_arg0) = m ((c.tc : Thread Cert.MemVIdeal.nD Cert.MemVIdeal.τ).loc Cert.MemVIdeal.main_arg0)
          ∧ r.2.mem ((c.tc : Thread Cert.MemVIdeal.nD Cert.MemVIdeal.τ).loc Cert.MemVIdeal.main_arg1) = m ((c.tc : Thread Cert.MemVIdeal.nD Cert.MemVIdeal.τ).loc Cert.MemVIdeal.main_arg1)
          ∧ r.2.mem ((c.tc : Thread Cert.MemVIdeal.nD Cert.MemVIdeal.τ).loc Cert.MemVIdeal.main_arg2) = m ((c.tc : Thread Cert.MemVIdeal.nD Cert.MemVIdeal.τ).loc Cert.MemVIdeal.main_arg2))
      ∧ θ_run (Cert.MemVRefIdeal.defs (F := Ideal)) (onTc (τ := Cert.MemVRefIdeal.τ) (Cert.MemVRefIdeal.main (F := Ideal))) ⟨m', fun _ => 0, g'⟩ (fun r => ∀ c : Dev Cert.MemVRefIdeal.nD,
          r.2.mem ((c.tc : Thread Cert.MemVRefIdeal.nD Cert.MemVRefIdeal.τ).loc Cert.MemVRefIdeal.main_v15) = v0 c
          ∧ r.2.mem ((c.tc : Thread Cert.MemVRefIdeal.nD Cert.MemVRefIdeal.τ).loc Cert.MemVRefIdeal.main_arg0) = m' ((c.tc : Thread Cert.MemVRefIdeal.nD Cert.MemVRefIdeal.τ).loc Cert.MemVRefIdeal.main_arg0)
          ∧ r.2.mem ((c.tc : Thread Cert.MemVRefIdeal.nD Cert.MemVRefIdeal.τ).loc Cert.MemVRefIdeal.main_arg1) = m' ((c.tc : Thread Cert.MemVRefIdeal.nD Cert.MemVRefIdeal.τ).loc Cert.MemVRefIdeal.main_arg1)
          ∧ r.2.mem ((c.tc : Thread Cert.MemVRefIdeal.nD Cert.MemVRefIdeal.τ).loc Cert.MemVRefIdeal.main_arg2) = m' ((c.tc : Thread Cert.MemVRefIdeal.nD Cert.MemVRefIdeal.τ).loc Cert.MemVRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Cached_CachedIdeal : Prop :=
  True

def algebraic_CachedIdeal_CachedRefIdeal_pre_finite_scores [hCachedIdeal : Cert.CachedIdeal.Facts] [hCachedRefIdeal : Cert.CachedRefIdeal.Facts] [hPre_finite_scores : Cert.Pre_finite_scores.Facts] : Prop :=
  ∀ (m : (ℓ : Loc Cert.CachedIdeal.nD Cert.CachedIdeal.τ Cert.CachedIdeal.sig) → Buf (Elt Ideal) ℓ) (g : Dev Cert.CachedIdeal.nD → PrngReg)
    (m' : (ℓ : Loc Cert.CachedRefIdeal.nD Cert.CachedRefIdeal.τ Cert.CachedRefIdeal.sig) → Buf (Elt Ideal) ℓ) (g' : Dev Cert.CachedRefIdeal.nD → PrngReg), Pre_CachedIdeal_finite_scores m →
    (∀ c : Dev Cert.CachedIdeal.nD,
      m' ((c.tc : Thread Cert.CachedRefIdeal.nD Cert.CachedRefIdeal.τ).loc Cert.CachedRefIdeal.main_arg0) = m ((c.tc : Thread Cert.CachedIdeal.nD Cert.CachedIdeal.τ).loc Cert.CachedIdeal.main_arg0)
      ∧ m' ((c.tc : Thread Cert.CachedRefIdeal.nD Cert.CachedRefIdeal.τ).loc Cert.CachedRefIdeal.main_arg1) = m ((c.tc : Thread Cert.CachedIdeal.nD Cert.CachedIdeal.τ).loc Cert.CachedIdeal.main_arg1)
      ∧ m' ((c.tc : Thread Cert.CachedRefIdeal.nD Cert.CachedRefIdeal.τ).loc Cert.CachedRefIdeal.main_arg2) = m ((c.tc : Thread Cert.CachedIdeal.nD Cert.CachedIdeal.τ).loc Cert.CachedIdeal.main_arg2)) →
    ∃ (v0 : (c : Dev Cert.CachedIdeal.nD) → Buf (Elt Ideal) ((c.tc : Thread Cert.CachedIdeal.nD Cert.CachedIdeal.τ).loc Cert.CachedIdeal.main_v3)),
      θ_run (Cert.CachedIdeal.defs (F := Ideal)) (onTc (τ := Cert.CachedIdeal.τ) (Cert.CachedIdeal.main (F := Ideal))) ⟨m, fun _ => 0, g⟩ (fun r => ∀ c : Dev Cert.CachedIdeal.nD,
          r.2.mem ((c.tc : Thread Cert.CachedIdeal.nD Cert.CachedIdeal.τ).loc Cert.CachedIdeal.main_v3) = v0 c
          ∧ r.2.mem ((c.tc : Thread Cert.CachedIdeal.nD Cert.CachedIdeal.τ).loc Cert.CachedIdeal.main_arg0) = m ((c.tc : Thread Cert.CachedIdeal.nD Cert.CachedIdeal.τ).loc Cert.CachedIdeal.main_arg0)
          ∧ r.2.mem ((c.tc : Thread Cert.CachedIdeal.nD Cert.CachedIdeal.τ).loc Cert.CachedIdeal.main_arg1) = m ((c.tc : Thread Cert.CachedIdeal.nD Cert.CachedIdeal.τ).loc Cert.CachedIdeal.main_arg1)
          ∧ r.2.mem ((c.tc : Thread Cert.CachedIdeal.nD Cert.CachedIdeal.τ).loc Cert.CachedIdeal.main_arg2) = m ((c.tc : Thread Cert.CachedIdeal.nD Cert.CachedIdeal.τ).loc Cert.CachedIdeal.main_arg2))
      ∧ θ_run (Cert.CachedRefIdeal.defs (F := Ideal)) (onTc (τ := Cert.CachedRefIdeal.τ) (Cert.CachedRefIdeal.main (F := Ideal))) ⟨m', fun _ => 0, g'⟩ (fun r => ∀ c : Dev Cert.CachedRefIdeal.nD,
          r.2.mem ((c.tc : Thread Cert.CachedRefIdeal.nD Cert.CachedRefIdeal.τ).loc Cert.CachedRefIdeal.main_v21) = v0 c
          ∧ r.2.mem ((c.tc : Thread Cert.CachedRefIdeal.nD Cert.CachedRefIdeal.τ).loc Cert.CachedRefIdeal.main_arg0) = m' ((c.tc : Thread Cert.CachedRefIdeal.nD Cert.CachedRefIdeal.τ).loc Cert.CachedRefIdeal.main_arg0)
          ∧ r.2.mem ((c.tc : Thread Cert.CachedRefIdeal.nD Cert.CachedRefIdeal.τ).loc Cert.CachedRefIdeal.main_arg1) = m' ((c.tc : Thread Cert.CachedRefIdeal.nD Cert.CachedRefIdeal.τ).loc Cert.CachedRefIdeal.main_arg1)
          ∧ r.2.mem ((c.tc : Thread Cert.CachedRefIdeal.nD Cert.CachedRefIdeal.τ).loc Cert.CachedRefIdeal.main_arg2) = m' ((c.tc : Thread Cert.CachedRefIdeal.nD Cert.CachedRefIdeal.τ).loc Cert.CachedRefIdeal.main_arg2))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpRefIdeal : Cert.MlpRefIdeal.Facts) (hMerge : Cert.Merge.Facts) (hMergeIdeal : Cert.MergeIdeal.Facts) (hMergeRefIdeal : Cert.MergeRefIdeal.Facts) (hProjA : Cert.ProjA.Facts) (hProjAIdeal : Cert.ProjAIdeal.Facts) (hProjARefIdeal : Cert.ProjARefIdeal.Facts) (hProjB : Cert.ProjB.Facts) (hProjBIdeal : Cert.ProjBIdeal.Facts) (hProjBRefIdeal : Cert.ProjBRefIdeal.Facts) (hCross : Cert.Cross.Facts) (hCrossIdeal : Cert.CrossIdeal.Facts) (hCrossRefIdeal : Cert.CrossRefIdeal.Facts) (hMemK : Cert.MemK.Facts) (hMemKIdeal : Cert.MemKIdeal.Facts) (hMemKRefIdeal : Cert.MemKRefIdeal.Facts) (hMemV : Cert.MemV.Facts) (hMemVIdeal : Cert.MemVIdeal.Facts) (hMemVRefIdeal : Cert.MemVRefIdeal.Facts) (hOut : Cert.Out.Facts) (hOutIdeal : Cert.OutIdeal.Facts) (hOutRefIdeal : Cert.OutRefIdeal.Facts) (hCached : Cert.Cached.Facts) (hCachedIdeal : Cert.CachedIdeal.Facts) (hCachedRefIdeal : Cert.CachedRefIdeal.Facts) (hPre_pages_exist : Cert.Pre_pages_exist.Facts) (hPre_finite_args : Cert.Pre_finite_args.Facts) (hPre_finite_scores : Cert.Pre_finite_scores.Facts),
    quiescent_Kernel (hKernel := hKernel) (hPre_pages_exist := hPre_pages_exist)
    ∧ quiescent_KernelIdeal (hKernelIdeal := hKernelIdeal) (hPre_pages_exist := hPre_pages_exist)
    ∧ quiescent_ReferenceIdeal (hReferenceIdeal := hReferenceIdeal)
    ∧ quiescent_Mlp (hMlp := hMlp)
    ∧ quiescent_MlpIdeal (hMlpIdeal := hMlpIdeal)
    ∧ quiescent_MlpRefIdeal (hMlpRefIdeal := hMlpRefIdeal)
    ∧ quiescent_Merge (hMerge := hMerge)
    ∧ quiescent_MergeIdeal (hMergeIdeal := hMergeIdeal)
    ∧ quiescent_MergeRefIdeal (hMergeRefIdeal := hMergeRefIdeal)
    ∧ quiescent_ProjA (hProjA := hProjA)
    ∧ quiescent_ProjAIdeal (hProjAIdeal := hProjAIdeal)
    ∧ quiescent_ProjARefIdeal (hProjARefIdeal := hProjARefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_Cross (hCross := hCross)
    ∧ quiescent_CrossIdeal (hCrossIdeal := hCrossIdeal)
    ∧ quiescent_CrossIdeal_pre_finite_args (hCrossIdeal := hCrossIdeal) (hPre_finite_args := hPre_finite_args)
    ∧ quiescent_CrossRefIdeal (hCrossRefIdeal := hCrossRefIdeal)
    ∧ quiescent_CrossRefIdeal_pre_finite_args (hCrossRefIdeal := hCrossRefIdeal) (hPre_finite_args := hPre_finite_args)
    ∧ quiescent_MemK (hMemK := hMemK)
    ∧ quiescent_MemKIdeal (hMemKIdeal := hMemKIdeal)
    ∧ quiescent_MemKRefIdeal (hMemKRefIdeal := hMemKRefIdeal)
    ∧ quiescent_MemV (hMemV := hMemV)
    ∧ quiescent_MemVIdeal (hMemVIdeal := hMemVIdeal)
    ∧ quiescent_MemVRefIdeal (hMemVRefIdeal := hMemVRefIdeal)
    ∧ quiescent_Out (hOut := hOut)
    ∧ quiescent_OutIdeal (hOutIdeal := hOutIdeal)
    ∧ quiescent_OutRefIdeal (hOutRefIdeal := hOutRefIdeal)
    ∧ quiescent_Cached (hCached := hCached)
    ∧ quiescent_CachedIdeal (hCachedIdeal := hCachedIdeal)
    ∧ quiescent_CachedIdeal_pre_finite_scores (hCachedIdeal := hCachedIdeal) (hPre_finite_scores := hPre_finite_scores)
    ∧ quiescent_CachedRefIdeal (hCachedRefIdeal := hCachedRefIdeal)
    ∧ quiescent_CachedRefIdeal_pre_finite_scores (hCachedRefIdeal := hCachedRefIdeal) (hPre_finite_scores := hPre_finite_scores)
    ∧ preserves_Kernel_KernelIdeal
    ∧ preserves_Mlp_MlpIdeal
    ∧ algebraic_MlpIdeal_MlpRefIdeal (hMlpIdeal := hMlpIdeal) (hMlpRefIdeal := hMlpRefIdeal)
    ∧ preserves_Merge_MergeIdeal
    ∧ algebraic_MergeIdeal_MergeRefIdeal (hMergeIdeal := hMergeIdeal) (hMergeRefIdeal := hMergeRefIdeal)
    ∧ preserves_ProjA_ProjAIdeal
    ∧ algebraic_ProjAIdeal_ProjARefIdeal (hProjAIdeal := hProjAIdeal) (hProjARefIdeal := hProjARefIdeal)
    ∧ preserves_ProjB_ProjBIdeal
    ∧ algebraic_ProjBIdeal_ProjBRefIdeal (hProjBIdeal := hProjBIdeal) (hProjBRefIdeal := hProjBRefIdeal)
    ∧ preserves_Cross_CrossIdeal
    ∧ algebraic_CrossIdeal_CrossRefIdeal_pre_finite_args (hCrossIdeal := hCrossIdeal) (hCrossRefIdeal := hCrossRefIdeal) (hPre_finite_args := hPre_finite_args)
    ∧ preserves_MemK_MemKIdeal
    ∧ algebraic_MemKIdeal_MemKRefIdeal (hMemKIdeal := hMemKIdeal) (hMemKRefIdeal := hMemKRefIdeal)
    ∧ preserves_MemV_MemVIdeal
    ∧ algebraic_MemVIdeal_MemVRefIdeal (hMemVIdeal := hMemVIdeal) (hMemVRefIdeal := hMemVRefIdeal)
    ∧ preserves_Out_OutIdeal
    ∧ algebraic_OutIdeal_OutRefIdeal (hOutIdeal := hOutIdeal) (hOutRefIdeal := hOutRefIdeal)
    ∧ preserves_Cached_CachedIdeal
    ∧ algebraic_CachedIdeal_CachedRefIdeal_pre_finite_scores (hCachedIdeal := hCachedIdeal) (hCachedRefIdeal := hCachedRefIdeal) (hPre_finite_scores := hPre_finite_scores)
-- ==== Pre_finite_args.lean ====
abbrev S4x4096x1024 : Shape := ⟨3, ![4, 4096, 1024]⟩
abbrev S1024 : Shape := ⟨1, ![1024]⟩
abbrev S1024x512 : Shape := ⟨2, ![1024, 512]⟩
abbrev S128 : Shape := ⟨1, ![128]⟩
abbrev S4x256x4x128 : Shape := ⟨4, ![4, 256, 4, 128]⟩
abbrev S512x1024 : Shape := ⟨2, ![512, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S128 : S_.BroadcastsInDim S128 (![] : Fin 0 → Fin S128.rank)
  reducesTo_S128_S_d0 : S128.ReducesTo [0] S_
  bcast_S_S4x256x4x128 : S_.BroadcastsInDim S4x256x4x128 (![] : Fin 0 → Fin S4x256x4x128.rank)
  reducesTo_S4x256x4x128_S_d0_1_2_3 : S4x256x4x128.ReducesTo [0, 1, 2, 3] S_

variable [Facts]

def fn_part1 {F : FTy → Type} [FloatOps F] (main_arg4 : FVec F S4x256x4x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4x256x4x128 .f32 := Host.absf main_arg4
  let main_cst_6 : FVec F S_ .f32 := constant S_ .f32 0x7F800000#32
  let main_v20 : FVec F S4x256x4x128 .f32 := broadcastInDim S4x256x4x128 ![] bcast_S_S4x256x4x128 main_cst_6
  let main_v21 : IVec S4x256x4x128 1 := cmpf .olt main_v19 main_v20
  let main_c_7 : IVec S_ 1 := constantI S_ 1 1#1
  let main_v22 : IVec S_ 1 := (fun x v => Host.reduce IntOp.andi x v reducesTo_S4x256x4x128_S_d0_1_2_3 h_S_) main_v21 main_c_7
  let main_v23 : IVec S_ 1 := andi main_v18 main_v22
  main_v23

def fn {F : FTy → Type} [FloatOps F] (main_arg0 : FVec F S4x4096x1024 .f32) (main_arg1 : FVec F S1024 .f32) (main_arg2 : FVec F S1024x512 .f32) (main_arg3 : FVec F S128 .f32) (main_arg4 : FVec F S4x256x4x128 .f32) (main_arg5 : FVec F S4x256x4x128 .f32) (main_arg6 : FVec F S512x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Pre_finite_scores.lean ====
abbrev S128x8x4x128 : Shape := ⟨4, ![128, 8, 4, 128]⟩
abbrev S2x128x256x4x128 : Shape := ⟨5, ![2, 128, 256, 4, 128]⟩
abbrev S_ : Shape := ⟨0, ![]⟩
abbrev S1x128x256x4x128 : Shape := ⟨5, ![1, 128, 256, 4, 128]⟩
abbrev S128x256x4x128 : Shape := ⟨4, ![128, 256, 4, 128]⟩

class Facts : Prop where
  bcast_S_S128x8x4x128 : S_.BroadcastsInDim S128x8x4x128 (![] : Fin 0 → Fin S128x8x4x128.rank)
  reducesTo_S128x8x4x128_S_d0_1_2_3 : S128x8x4x128.ReducesTo [0, 1, 2, 3] S_
  h_S_ : 0 < S_.numel
  slices_S2x128x256x4x128_S1x128x256x4x128_1_0_0_0_0 : S2x128x256x4x128.Slices ![1, 0, 0, 0, 0] S1x128x256x4x128
  shapeCasts_S1x128x256x4x128_S128x256x4x128 : S1x128x256x4x128.ShapeCasts S128x256x4x128
  bcast_S_S128x256x4x128 : S_.BroadcastsInDim S128x256x4x128 (![] : Fin 0 → Fin S128x256x4x128.rank)
  reducesTo_S128x256x4x128_S_d0_1_2_3 : S128x256x4x128.ReducesTo [0, 1, 2, 3] S_

variable [Facts]

def fn {F : FTy → Type} [FloatOps F] (main_arg0 : FVec F S128x8x4x128 .f32) (main_arg1 : FVec F S2x128x256x4x128 .f32) (main_arg2 : FVec F S2x128x256x4x128 .f32) : IVec S_ 1 :=
  let main_v0 : FVec F S128x8x4x128 .f32 := Host.absf main_arg0
  let main_cst : FVec F S_ .f32 := constant S_ .f32 0x7F800000#32
  let main_v1 : FVec F S128x8x4x128 .f32 := broadcastInDim S128x8x4x128 ![] bcast_S_S128x8x4x128 main_cst
  let main_v2 : IVec S128x8x4x128 1 := cmpf .olt main_v0 main_v1
  let main_c : IVec S_ 1 := constantI S_ 1 1#1
  let main_v3 : IVec S_ 1 := (fun x v => Host.reduce IntOp.andi x v reducesTo_S128x8x4x128_S_d0_1_2_3 h_S_) main_v2 main_c
  let main_v4 : FVec F S1x128x256x4x128 .f32 := (extractStridedSlice S1x128x256x4x128 ![1, 0, 0, 0, 0] · slices_S2x128x256x4x128_S1x128x256x4x128_1_0_0_0_0) main_arg1
  let main_v5 : FVec F S128x256x4x128 .f32 := shapeCast S128x256x4x128 main_v4 shapeCasts_S1x128x256x4x128_S128x256x4x128
  let main_v6 : FVec F S128x256x4x128 .f32 := Host.absf main_v5
  let main_cst_0 : FVec F S_ .f32 := constant S_ .f32 0x7F800000#32
  let main_v7 : FVec F S128x256x4x128 .f32 := broadcastInDim S128x256x4x128 ![] bcast_S_S128x256x4x128 main_cst_0
  let main_v8 : IVec S128x256x4x128 1 := cmpf .olt main_v6 main_v7
  let main_c_1 : IVec S_ 1 := constantI S_ 1 1#1
  let main_v9 : IVec S_ 1 := (fun x v => Host.reduce IntOp.andi x v reducesTo_S128x256x4x128_S_d0_1_2_3 h_S_) main_v8 main_c_1
  let main_v10 : IVec S_ 1 := andi main_v3 main_v9
  main_v10
-- ==== Pre_pages_exist.lean ====
abbrev S128x16 : Shape := ⟨2, ![128, 16]⟩
abbrev S128x4x8x64 : Shape := ⟨4, ![128, 4, 8, 64]⟩
abbrev S128x4x8 : Shape := ⟨3, ![128, 4, 8]⟩
abbrev S2x2560x128x8x64 : Shape := ⟨5, ![2, 2560, 128, 8, 64]⟩
abbrev S2x2560x128x8 : Shape := ⟨4, ![2, 2560, 128, 8]⟩
abbrev S_ : Shape := ⟨0, ![]⟩

class Facts : Prop where
  bcast_S_S128x16 : S_.BroadcastsInDim S128x16 (![] : Fin 0 → Fin S128x16.rank)

variable [Facts]

def fn {F : FTy → Type} [FloatOps F] (main_arg0 : IVec S128x16 32) (main_arg1 : FVec F S128x4x8x64 .f32) (main_arg2 : FVec F S128x4x8x64 .f32) (main_arg3 : FVec F S128x4x8x64 .f32) (main_arg4 : FVec F S128x4x8 .f32) (main_arg5 : FVec F S2x2560x128x8x64 .f32) (main_arg6 : FVec F S2x2560x128x8x64 .f32) (main_arg7 : FVec F S2x2560x128x8 .f32) : IVec S128x16 1 :=
  let main_c : IVec S_ 32 := constantI S_ 32 0#32
  let main_v0 : IVec S128x16 32 := broadcastInDim S128x16 ![] bcast_S_S128x16 main_c
  let main_v1 : IVec S128x16 1 := cmpi .sge main_arg0 main_v0
  let main_c_0 : IVec S_ 32 := constantI S_ 32 2560#32
  let main_v2 : IVec S128x16 32 := broadcastInDim S128x16 ![] bcast_S_S128x16 main_c_0
  let main_v3 : IVec S128x16 1 := cmpi .slt main_arg0 main_v2
  let main_v4 : IVec S128x16 1 := andi main_v1 main_v3
  main_v4
-- ==== Kernel.lean ====
abbrev S128x16 : Shape := ⟨2, ![128, 16]⟩
abbrev S128x4x8x64 : Shape := ⟨4, ![128, 4, 8, 64]⟩
abbrev S128x4x8 : Shape := ⟨3, ![128, 4, 8]⟩
abbrev S2x2560x128x8x64 : Shape := ⟨5, ![2, 2560, 128, 8, 64]⟩
abbrev S2x2560x128x8 : Shape := ⟨4, ![2, 2560, 128, 8]⟩
abbrev S1x1024 : Shape := ⟨2, ![1, 1024]⟩
abbrev S128x128 : Shape := ⟨2, ![128, 128]⟩
abbrev S8x4 : Shape := ⟨2, ![8, 4]⟩
abbrev S128x4x512 : Shape := ⟨3, ![128, 4, 512]⟩
abbrev S_ : Shape := ⟨0, ![]⟩
abbrev S128x8x512 : Shape := ⟨3, ![128, 8, 512]⟩
abbrev S1024x512 : Shape := ⟨2, ![1024, 512]⟩
abbrev S1024x128 : Shape := ⟨2, ![1024, 128]⟩
abbrev S1024x1024 : Shape := ⟨2, ![1024, 1024]⟩
abbrev S1024x3072 : Shape := ⟨2, ![1024, 3072]⟩
abbrev S128x8x8 : Shape := ⟨3, ![128, 8, 8]⟩
abbrev S1024x8 : Shape := ⟨2, ![1024, 8]⟩
abbrev S2x2560x8x64x128 : Shape := ⟨5, ![2, 2560, 8, 64, 128]⟩
abbrev S2x2560x8x128 : Shape := ⟨4, ![2, 2560, 8, 128]⟩
abbrev S2048 : Shape := ⟨1, ![2048]⟩
abbrev S128x8x8x1x128 : Shape := ⟨5, ![128, 8, 8, 1, 128]⟩
abbrev S1x1x8x4x1 : Shape := ⟨5, ![1, 1, 8, 4, 1]⟩
abbrev S128x8x8x4x128 : Shape := ⟨5, ![128, 8, 8, 4, 128]⟩
abbrev S8192x512 : Shape := ⟨2, ![8192, 512]⟩
abbrev S64x512 : Shape := ⟨2, ![64, 512]⟩
abbrev S8x512 : Shape := ⟨2, ![8, 512]⟩
abbrev S8x128 : Shape := ⟨2, ![8, 128]⟩
abbrev S1x1x8x64x128 : Shape := ⟨5, ![1, 1, 8, 64, 128]⟩
abbrev S1 : Shape := ⟨1, ![1]⟩
abbrev S1x1x8x128 : Shape := ⟨4, ![1, 1, 8, 128]⟩
abbrev S128x512 : Shape := ⟨2, ![128, 512]⟩
abbrev S128x1 : Shape := ⟨2, ![128, 1]⟩
abbrev S8x64x128 : Shape := ⟨3, ![8, 64, 128]⟩
abbrev S512x128 : Shape := ⟨2, ![512, 128]⟩
abbrev S64x128 : Shape := ⟨2, ![64, 128]⟩
abbrev S120x128 : Shape := ⟨2, ![120, 128]⟩
abbrev S64 : Shape := ⟨1, ![64]⟩
abbrev S64x1 : Shape := ⟨2, ![64, 1]⟩
abbrev S8x8x512 : Shape := ⟨3, ![8, 8, 512]⟩

abbrev nBuf : Space → Nat
  | .hbm => 66
  | .vmem => 109
  | .smem => 1
  | _ => 0

abbrev bufTy : (tb : Table) → Fin (tcTables nBuf tb) → BufTy
  | .hbm, ⟨0, _⟩ => ⟨S128x16, .i32⟩
  | .hbm, ⟨1, _⟩ => ⟨S128x4x8x64, .f32⟩
  | .hbm, ⟨2, _⟩ => ⟨S128x4x8x64, .f32⟩
  | .hbm, ⟨3, _⟩ => ⟨S128x4x8x64, .f32⟩
  | .hbm, ⟨4, _⟩ => ⟨S128x4x8, .f32⟩
  | .hbm, ⟨5, _⟩ => ⟨S2x2560x128x8x64, .f32⟩
  | .hbm, ⟨6, _⟩ => ⟨S2x2560x128x8x64, .f32⟩
  | .hbm, ⟨7, _⟩ => ⟨S2x2560x128x8, .f32⟩
  | .hbm, ⟨8, _⟩ => ⟨S1x1024, .i1⟩
  | .hbm, ⟨9, _⟩ => ⟨S128x128, .bf16⟩
  | .hbm, ⟨10, _⟩ => ⟨S8x4, .f32⟩
  | .hbm, ⟨11, _⟩ => ⟨S128x4x512, .f32⟩
  | .hbm, ⟨12, _⟩ => ⟨S_, .i32⟩
  | .hbm, ⟨13, _⟩ => ⟨S_, .f32⟩
  | .hbm, ⟨14, _⟩ => ⟨S128x8x512, .f32⟩
  | .hbm, ⟨15, _⟩ => ⟨S1024x512, .f32⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S1024x128, .f32⟩
  | .hbm, ⟨20, _⟩ => ⟨S1024x128, .f32⟩
  | .hbm, ⟨21, _⟩ => ⟨S1024x128, .f32⟩
  | .hbm, ⟨22, _⟩ => ⟨S1024x128, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S1024x128, .f32⟩
  | .hbm, ⟨27, _⟩ => ⟨S1024x1024, .f32⟩
  | .hbm, ⟨28, _⟩ => ⟨S_, .f32⟩
  | .hbm, ⟨29, _⟩ => ⟨S_, .f32⟩
  | .hbm, ⟨30, _⟩ => ⟨S1024x1024, .i1⟩
  | .hbm, ⟨31, _⟩ => ⟨S1024x1024, .f32⟩
  | .hbm, ⟨32, _⟩ => ⟨S1024x1024, .f32⟩
  | .hbm, ⟨33, _⟩ => ⟨S128x4x512, .f32⟩
  | .hbm, ⟨34, _⟩ => ⟨S_, .i32⟩
  | .hbm, ⟨35, _⟩ => ⟨S_, .f32⟩
  | .hbm, ⟨36, _⟩ => ⟨S128x8x512, .f32⟩
  | .hbm, ⟨37, _⟩ => ⟨S1024x512, .f32⟩
  | .hbm, ⟨38, _⟩ => ⟨S128x4x512, .f32⟩
  | .hbm, ⟨39, _⟩ => ⟨S_, .i32⟩
  | .hbm, ⟨40, _⟩ => ⟨S_, .f32⟩
  | .hbm, ⟨41, _⟩ => ⟨S128x8x512, .f32⟩
  | .hbm, ⟨42, _⟩ => ⟨S1024x512, .f32⟩
  | .hbm, ⟨43, _⟩ => ⟨S_, .i32⟩
  | .hbm, ⟨44, _⟩ => ⟨S_, .f32⟩
  | .hbm, ⟨45, _⟩ => ⟨S1024x3072, .f32⟩
  | .hbm, ⟨46, _⟩ => ⟨S_, .i32⟩
  | .hbm, ⟨47, _⟩ => ⟨S_, .f32⟩
  | .hbm, ⟨48, _⟩ => ⟨S128x8x8, .f32⟩
  | .hbm, ⟨49, _⟩ => ⟨S_, .f32⟩
  | .hbm, ⟨50, _⟩ => ⟨S_, .f32⟩
  | .hbm, ⟨51, _⟩ => ⟨S128x8x8, .f32⟩
  | .hbm, ⟨52, _⟩ => ⟨S1024x8, .f32⟩
  | .hbm, ⟨53, _⟩ => ⟨S_, .i32⟩
  | .hbm, ⟨54, _⟩ => ⟨S_, .f32⟩
  | .hbm, ⟨55, _⟩ => ⟨S1024x128, .f32⟩
  | .hbm, ⟨56, _⟩ => ⟨S2x2560x8x64x128, .f32⟩
  | .hbm, ⟨57, _⟩ => ⟨S2x2560x8x64x128, .f32⟩
  | .hbm, ⟨58, _⟩ => ⟨S2x2560x8x128, .f32⟩
  | .hbm, ⟨59, _⟩ => ⟨S128x8x8x1x128, .f32⟩
  | .hbm, ⟨60, _⟩ => ⟨S1x1x8x4x1, .f32⟩
  | .hbm, ⟨61, _⟩ => ⟨S128x8x8x4x128, .f32⟩
  | .hbm, ⟨62, _⟩ => ⟨S128x8x8x4x128, .f32⟩
  | .hbm, ⟨63, _⟩ => ⟨S128x8x8x4x128, .f32⟩
  | .hbm, ⟨64, _⟩ => ⟨S8192x512, .f32⟩
  | .hbm, ⟨65, _⟩ => ⟨S1024x512, .f32⟩
  | .local _ .vmem, ⟨0, _⟩ => ⟨S64x512, .f32⟩
  | .local _ .vmem, ⟨1, _⟩ => ⟨S64x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x128, .f32⟩
  | .local _ .vmem, ⟨7, _⟩ => ⟨S8x128, .f32⟩
  | .local _ .vmem, ⟨8, _⟩ => ⟨S1x1x8x64x128, .f32⟩
  | .local _ .vmem, ⟨9, _⟩ => ⟨S1x1x8x64x128, .f32⟩
  | .local _ .vmem, ⟨10, _⟩ => ⟨S1x1x8x64x128, .f32⟩
  | .local _ .vmem, ⟨11, _⟩ => ⟨S1x1x8x64x128, .f32⟩
  | .local _ .vmem, ⟨12, _⟩ => ⟨S1x1x8x64x128, .f32⟩
  | .local _ .vmem, ⟨13, _⟩ => ⟨S1x1x8x64x128, .f32⟩
  | .local _ .vmem, ⟨14, _⟩ => ⟨S1x1x8x64x128, .f32⟩
  | .local _ .vmem, ⟨15, _⟩ => ⟨S1x1x8x64x128, .f32⟩
  | .local _ .vmem, ⟨16, _⟩ => ⟨S1x1x8x64x128, .f32⟩
  | .local _ .vmem, ⟨17, _⟩ => ⟨S1x1x8x64x128, .f32⟩
  | .local _ .vmem, ⟨18, _⟩ => ⟨S1x1x8x64x128, .f32⟩
  | .local _ .vmem, ⟨19, _⟩ => ⟨S1x1x8x64x128, .f32⟩
  | .local _ .vmem, ⟨20, _⟩ => ⟨S1x1x8x64x128, .f32⟩
  | .local _ .vmem, ⟨21, _⟩ => ⟨S1x1x8x64x128, .f32⟩
  | .local _ .vmem, ⟨22, _⟩ => ⟨S1x1x8x64x128, .f32⟩
  | .local _ .vmem, ⟨23, _⟩ => ⟨S1x1x8x64x128, .f32⟩
  | .local _ .vmem, ⟨24, _⟩ => ⟨S1x1x8x64x128, .f32⟩
  | .local _ .vmem, ⟨25, _⟩ => ⟨S1x1x8x64x128, .f32⟩
  | .local _ .vmem, ⟨26, _⟩ => ⟨S1x1x8x64x128, .f32⟩
  | .local _ .vmem, ⟨27, _⟩ => ⟨S1x1x8x64x128, .f32⟩
  | .local _ .vmem, ⟨28, _⟩ => ⟨S1x1x8x64x128, .f32⟩
  | .local _ .vmem, ⟨29, _⟩ => ⟨S1x1x8x64x128, .f32⟩
  | .local _ .vmem, ⟨30, _⟩ => ⟨S1x1x8x64x128, .f32⟩
  | .local _ .vmem, ⟨31, _⟩ => ⟨S1x1x8x64x128, .f32⟩
  | .local _ .vmem, ⟨32, _⟩ => ⟨S1x1x8x64x128, .f32⟩
  | .local _ .vmem, ⟨33, _⟩ => ⟨S1x1x8x64x128, .f32⟩
  | .local _ .vmem, ⟨34, _⟩ => ⟨S1x1x8x64x128, .f32⟩
  | .local _ .vmem, ⟨35, _⟩ => ⟨S1x1x8x64x128, .f32⟩
  | .local _ .vmem, ⟨36, _⟩ => ⟨S1x1x8x64x128, .f32⟩
  | .local _ .vmem, ⟨37, _⟩ => ⟨S1x1x8x64x128, .f32⟩
  | .local _ .vmem, ⟨38, _⟩ => ⟨S1x1x8x64x128, .f32⟩
  | .local _ .vmem, ⟨39, _⟩ => ⟨S1x1x8x64x128, .f32⟩
  | .local _ .vmem, ⟨40, _⟩ => ⟨S1x1x8x64x128, .f32⟩
  | .local _ .vmem, ⟨41, _⟩ => ⟨S1x1x8x64x128, .f32⟩
  | .local _ .vmem, ⟨42, _⟩ => ⟨S1x1x8x64x128, .f32⟩
  | .local _ .vmem, ⟨43, _⟩ => ⟨S1x1x8x64x128, .f32⟩
  | .local _ .vmem, ⟨44, _⟩ => ⟨S1x1x8x64x128, .f32⟩
  | .local _ .vmem, ⟨45, _⟩ => ⟨S1x1x8x64x128, .f32⟩
  | .local _ .vmem, ⟨46, _⟩ => ⟨S1x1x8x64x128, .f32⟩
  | .local _ .vmem, ⟨47, _⟩ => ⟨S1x1x8x64x128, .f32⟩
  | .local _ .vmem, ⟨48, _⟩ => ⟨S1x1x8x64x128, .f32⟩
  | .local _ .vmem, ⟨49, _⟩ => ⟨S1x1x8x64x128, .f32⟩
  | .local _ .vmem, ⟨50, _⟩ => ⟨S1x1x8x64x128, .f32⟩
  | .local _ .vmem, ⟨51, _⟩ => ⟨S1x1x8x64x128, .f32⟩
  | .local _ .vmem, ⟨52, _⟩ => ⟨S1x1x8x64x128, .f32⟩
  | .local _ .vmem, ⟨53, _⟩ => ⟨S1x1x8x64x128, .f32⟩
  | .local _ .vmem, ⟨54, _⟩ => ⟨S1x1x8x64x128, .f32⟩
  | .local _ .vmem, ⟨55, _⟩ => ⟨S1x1x8x64x128, .f32⟩
  | .local _ .vmem, ⟨56, _⟩ => ⟨S1x1x8x64x128, .f32⟩
  | .local _ .vmem, ⟨57, _⟩ => ⟨S1x1x8x64x128, .f32⟩
  | .local _ .vmem, ⟨58, _⟩ => ⟨S1x1x8x64x128, .f32⟩
  | .local _ .vmem, ⟨59, _⟩ => ⟨S1x1x8x64x128, .f32⟩
  | .local _ .vmem, ⟨60, _⟩ => ⟨S1x1x8x64x128, .f32⟩
  | .local _ .vmem, ⟨61, _⟩ => ⟨S1x1x8x64x128, .f32⟩
  | .local _ .vmem, ⟨62, _⟩ => ⟨S1x1x8x64x128, .f32⟩
  | .local _ .vmem, ⟨63, _⟩ => ⟨S1x1x8x64x128, .f32⟩
  | .local _ .vmem, ⟨64, _⟩ => ⟨S1x1x8x64x128, .f32⟩
  | .local _ .vmem, ⟨65, _⟩ => ⟨S1x1x8x64x128, .f32⟩
  | .local _ .vmem, ⟨66, _⟩ => ⟨S1x1x8x64x128, .f32⟩
  | .local _ .vmem, ⟨67, _⟩ => ⟨S1x1x8x64x128, .f32⟩
  | .local _ .vmem, ⟨68, _⟩ => ⟨S1x1x8x64x128, .f32⟩
  | .local _ .vmem, ⟨69, _⟩ => ⟨S1x1x8x64x128, .f32⟩
  | .local _ .vmem, ⟨70, _⟩ => ⟨S1x1x8x64x128, .f32⟩
  | .local _ .vmem, ⟨71, _⟩ => ⟨S1x1x8x64x128, .f32⟩
  | .local _ .vmem, ⟨72, _⟩ => ⟨S1x1x8x128, .f32⟩
  | .local _ .vmem, ⟨73, _⟩ => ⟨S1x1x8x128, .f32⟩
  | .local _ .vmem, ⟨74, _⟩ => ⟨S1x1x8x128, .f32⟩
  | .local _ .vmem, ⟨75, _⟩ => ⟨S1x1x8x128, .f32⟩
  | .local _ .vmem, ⟨76, _⟩ => ⟨S1x1x8x128, .f32⟩
  | .local _ .vmem, ⟨77, _⟩ => ⟨S1x1x8x128, .f32⟩
  | .local _ .vmem, ⟨78, _⟩ => ⟨S1x1x8x128, .f32⟩
  | .local _ .vmem, ⟨79, _⟩ => ⟨S1x1x8x128, .f32⟩
  | .local _ .vmem, ⟨80, _⟩ => ⟨S1x1x8x128, .f32⟩
  | .local _ .vmem, ⟨81, _⟩ => ⟨S1x1x8x128, .f32⟩
  | .local _ .vmem, ⟨82, _⟩ => ⟨S1x1x8x128, .f32⟩
  | .local _ .vmem, ⟨83, _⟩ => ⟨S1x1x8x128, .f32⟩
  | .local _ .vmem, ⟨84, _⟩ => ⟨S1x1x8x128, .f32⟩
  | .local _ .vmem, ⟨85, _⟩ => ⟨S1x1x8x128, .f32⟩
  | .local _ .vmem, ⟨86, _⟩ => ⟨S1x1x8x128, .f32⟩
  | .local _ .vmem, ⟨87, _⟩ => ⟨S1x1x8x128, .f32⟩
  | .local _ .vmem, ⟨88, _⟩ => ⟨S1x1x8x128, .f32⟩
  | .local _ .vmem, ⟨89, _⟩ => ⟨S1x1x8x128, .f32⟩
  | .local _ .vmem, ⟨90, _⟩ => ⟨S1x1x8x128, .f32⟩
  | .local _ .vmem, ⟨91, _⟩ => ⟨S1x1x8x128, .f32⟩
  | .local _ .vmem, ⟨92, _⟩ => ⟨S1x1x8x128, .f32⟩
  | .local _ .vmem, ⟨93, _⟩ => ⟨S1x1x8x128, .f32⟩
  | .local _ .vmem, ⟨94, _⟩ => ⟨S1x1x8x128, .f32⟩
  | .local _ .vmem, ⟨95, _⟩ => ⟨S1x1x8x128, .f32⟩
  | .local _ .vmem, ⟨96, _⟩ => ⟨S1x1x8x128, .f32⟩
  | .local _ .vmem, ⟨97, _⟩ => ⟨S1x1x8x128, .f32⟩
  | .local _ .vmem, ⟨98, _⟩ => ⟨S1x1x8x128, .f32⟩
  | .local _ .vmem, ⟨99, _⟩ => ⟨S1x1x8x128, .f32⟩
  | .local _ .vmem, ⟨100, _⟩ => ⟨S1x1x8x128, .f32⟩
  | .local _ .vmem, ⟨101, _⟩ => ⟨S1x1x8x128, .f32⟩
  | .local _ .vmem, ⟨102, _⟩ => ⟨S1x1x8x128, .f32⟩
  | .local _ .vmem, ⟨103, _⟩ => ⟨S1x1x8x128, .f32⟩
  | .local _ .vmem, ⟨104, _⟩ => ⟨S128x128, .bf16⟩
  | .local _ .vmem, ⟨105, _⟩ => ⟨S8x512, .f32⟩
  | .local _ .vmem, ⟨106, _⟩ => ⟨S8x512, .f32⟩
  | .local _ .vmem, ⟨107, _⟩ => ⟨S128x512, .f32⟩
  | .local _ .vmem, ⟨108, _⟩ => ⟨S128x512, .f32⟩
  | .local _ .smem, ⟨0, _⟩ => ⟨S2048, .i32⟩
  | _, _ => ⟨S128x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | _, _ => false

abbrev semScoped : Fin 0 → Bool
  | ⟨_, h⟩ => absurd h (Nat.not_lt_zero _)

abbrev dmaSemScoped : Fin 107 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | _ => false

abbrev sig : RefSig :=
  ofTc nBuf bufTy 0 107 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_c_1 : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_call2_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_5 : Ref sig .tc := ⟨.hbm, 39, rfl⟩
abbrev main_call3_v0 : Ref sig .tc := ⟨.hbm, 40, rfl⟩
abbrev main_v19 : Ref sig .tc := ⟨.hbm, 41, rfl⟩
abbrev main_v20 : Ref sig .tc := ⟨.hbm, 42, rfl⟩
abbrev main_c_6 : Ref sig .tc := ⟨.hbm, 43, rfl⟩
abbrev main_call4_v0 : Ref sig .tc := ⟨.hbm, 44, rfl⟩
abbrev main_v21 : Ref sig .tc := ⟨.hbm, 45, rfl⟩
abbrev main_c_7 : Ref sig .tc := ⟨.hbm, 46, rfl⟩
abbrev main_call5_v0 : Ref sig .tc := ⟨.hbm, 47, rfl⟩
abbrev main_v22 : Ref sig .tc := ⟨.hbm, 48, rfl⟩
abbrev main_call6_call0_cst : Ref sig .tc := ⟨.hbm, 49, rfl⟩
abbrev main_call6_call0_v0 : Ref sig .tc := ⟨.hbm, 50, rfl⟩
abbrev main_v23 : Ref sig .tc := ⟨.hbm, 51, rfl⟩
abbrev main_v24 : Ref sig .tc := ⟨.hbm, 52, rfl⟩
abbrev main_c_8 : Ref sig .tc := ⟨.hbm, 53, rfl⟩
abbrev main_call7_v0 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v29 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_stg39_0 : Ref sig .tc := ⟨.vmem, 78, rfl⟩
abbrev cc0_stg39_1 : Ref sig .tc := ⟨.vmem, 79, rfl⟩
abbrev cc0_stg40_0 : Ref sig .tc := ⟨.vmem, 80, rfl⟩
abbrev cc0_stg40_1 : Ref sig .tc := ⟨.vmem, 81, rfl⟩
abbrev cc0_stg41_0 : Ref sig .tc := ⟨.vmem, 82, rfl⟩
abbrev cc0_stg41_1 : Ref sig .tc := ⟨.vmem, 83, rfl⟩
abbrev cc0_stg42_0 : Ref sig .tc := ⟨.vmem, 84, rfl⟩
abbrev cc0_stg42_1 : Ref sig .tc := ⟨.vmem, 85, rfl⟩
abbrev cc0_stg43_0 : Ref sig .tc := ⟨.vmem, 86, rfl⟩
abbrev cc0_stg43_1 : Ref sig .tc := ⟨.vmem, 87, rfl⟩
abbrev cc0_stg44_0 : Ref sig .tc := ⟨.vmem, 88, rfl⟩
abbrev cc0_stg44_1 : Ref sig .tc := ⟨.vmem, 89, rfl⟩
abbrev cc0_stg45_0 : Ref sig .tc := ⟨.vmem, 90, rfl⟩
abbrev cc0_stg45_1 : Ref sig .tc := ⟨.vmem, 91, rfl⟩
abbrev cc0_stg46_0 : Ref sig .tc := ⟨.vmem, 92, rfl⟩
abbrev cc0_stg46_1 : Ref sig .tc := ⟨.vmem, 93, rfl⟩
abbrev cc0_stg47_0 : Ref sig .tc := ⟨.vmem, 94, rfl⟩
abbrev cc0_stg47_1 : Ref sig .tc := ⟨.vmem, 95, rfl⟩
abbrev cc0_stg48_0 : Ref sig .tc := ⟨.vmem, 96, rfl⟩
abbrev cc0_stg48_1 : Ref sig .tc := ⟨.vmem, 97, rfl⟩
abbrev cc0_stg49_0 : Ref sig .tc := ⟨.vmem, 98, rfl⟩
abbrev cc0_stg49_1 : Ref sig .tc := ⟨.vmem, 99, rfl⟩
abbrev cc0_stg50_0 : Ref sig .tc := ⟨.vmem, 100, rfl⟩
abbrev cc0_stg50_1 : Ref sig .tc := ⟨.vmem, 101, rfl⟩
abbrev cc0_stg51_0 : Ref sig .tc := ⟨.vmem, 102, rfl⟩
abbrev cc0_stg51_1 : Ref sig .tc := ⟨.vmem, 103, rfl⟩
abbrev cc0_stg52_0 : Ref sig .tc := ⟨.vmem, 104, rfl⟩
abbrev cc0_stg53_0 : Ref sig .tc := ⟨.vmem, 105, rfl⟩
abbrev cc0_stg53_1 : Ref sig .tc := ⟨.vmem, 106, rfl⟩
abbrev cc0_scratch0 : Ref sig .tc := ⟨.vmem, 107, rfl⟩
abbrev cc0_scratch1 : Ref sig .tc := ⟨.vmem, 108, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77
abbrev cc0_sem39_0 : DmaSem sig := 78
abbrev cc0_sem39_1 : DmaSem sig := 79
abbrev cc0_sem40_0 : DmaSem sig := 80
abbrev cc0_sem40_1 : DmaSem sig := 81
abbrev cc0_sem41_0 : DmaSem sig := 82
abbrev cc0_sem41_1 : DmaSem sig := 83
abbrev cc0_sem42_0 : DmaSem sig := 84
abbrev cc0_sem42_1 : DmaSem sig := 85
abbrev cc0_sem43_0 : DmaSem sig := 86
abbrev cc0_sem43_1 : DmaSem sig := 87
abbrev cc0_sem44_0 : DmaSem sig := 88
abbrev cc0_sem44_1 : DmaSem sig := 89
abbrev cc0_sem45_0 : DmaSem sig := 90
abbrev cc0_sem45_1 : DmaSem sig := 91
abbrev cc0_sem46_0 : DmaSem sig := 92
abbrev cc0_sem46_1 : DmaSem sig := 93
abbrev cc0_sem47_0 : DmaSem sig := 94
abbrev cc0_sem47_1 : DmaSem sig := 95
abbrev cc0_sem48_0 : DmaSem sig := 96
abbrev cc0_sem48_1 : DmaSem sig := 97
abbrev cc0_sem49_0 : DmaSem sig := 98
abbrev cc0_sem49_1 : DmaSem sig := 99
abbrev cc0_sem50_0 : DmaSem sig := 100
abbrev cc0_sem50_1 : DmaSem sig := 101
abbrev cc0_sem51_0 : DmaSem sig := 102
abbrev cc0_sem51_1 : DmaSem sig := 103
abbrev cc0_sem52_0 : DmaSem sig := 104
abbrev cc0_sem53_0 : DmaSem sig := 105
abbrev cc0_sem53_1 : DmaSem sig := 106

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_v29.idx], fun | 0 => main_v29.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c16_i32 : BitVec 32 := 16#32
  let v0 : BitVec 32 := Scalar.muli arg0 c16_i32
  let v1 : BitVec 32 := Scalar.addi v0 c0_i32
  let v2 : Index := Scalar.indexCast v1
  ![v2.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  let v3 : BitVec 32 := pf.at 0 (Rect.unit (s := S2048) ![v2.toNat] S1.size (k0_off1_inb i 0)) numel1_S1
  let c1_i32 : BitVec 32 := 1#32
  let c0_i32_0 : BitVec 32 := 0#32
  let c0_i32_1 : BitVec 32 := 0#32
  let c0_i32_2 : BitVec 32 := 0#32
  let c0_i32_3 : BitVec 32 := 0#32
  ![c1_i32.toNat, v3.toNat, c0_i32_0.toNat, c0_i32_1.toNat, c0_i32_2.toNat]

def cc0_transform_5 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.addi v0 c1_i32
  let v2 : Index := Scalar.indexCast v1
  let v3 : BitVec 32 := pf.at 0 (Rect.unit (s := S2048) ![v2.toNat] S1.size (k0_off1_inb i 1)) numel1_S1
  let c1_i32_0 : BitVec 32 := 1#32
  let c0_i32 : BitVec 32 := 0#32
  let c0_i32_1 : BitVec 32 := 0#32
  let c0_i32_2 : BitVec 32 := 0#32
  let c0_i32_3 : BitVec 32 := 0#32
  ![c1_i32_0.toNat, v3.toNat, c0_i32.toNat, c0_i32_1.toNat, c0_i32_2.toNat]

def cc0_transform_6 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c2_i32 : BitVec 32 := 2#32
  let v1 : BitVec 32 := Scalar.addi v0 c2_i32
  let v2 : Index := Scalar.indexCast v1
  let v3 : BitVec 32 := pf.at 0 (Rect.unit (s := S2048) ![v2.toNat] S1.size (k0_off1_inb i 2)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_7 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c3_i32 : BitVec 32 := 3#32
  let v1 : BitVec 32 := Scalar.addi v0 c3_i32
  let v2 : Index := Scalar.indexCast v1
  let v3 : BitVec 32 := pf.at 0 (Rect.unit (s := S2048) ![v2.toNat] S1.size (k0_off1_inb i 3)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_8 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c4_i32 : BitVec 32 := 4#32
  let v1 : BitVec 32 := Scalar.addi v0 c4_i32
  let v2 : Index := Scalar.indexCast v1
  let v3 : BitVec 32 := pf.at 0 (Rect.unit (s := S2048) ![v2.toNat] S1.size (k0_off1_inb i 4)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_9 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c5_i32 : BitVec 32 := 5#32
  let v1 : BitVec 32 := Scalar.addi v0 c5_i32
  let v2 : Index := Scalar.indexCast v1
  let v3 : BitVec 32 := pf.at 0 (Rect.unit (s := S2048) ![v2.toNat] S1.size (k0_off1_inb i 5)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_10 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c6_i32 : BitVec 32 := 6#32
  let v1 : BitVec 32 := Scalar.addi v0 c6_i32
  let v2 : Index := Scalar.indexCast v1
  let v3 : BitVec 32 := pf.at 0 (Rect.unit (s := S2048) ![v2.toNat] S1.size (k0_off1_inb i 6)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_11 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c7_i32 : BitVec 32 := 7#32
  let v1 : BitVec 32 := Scalar.addi v0 c7_i32
  let v2 : Index := Scalar.indexCast v1
  let v3 : BitVec 32 := pf.at 0 (Rect.unit (s := S2048) ![v2.toNat] S1.size (k0_off1_inb i 7)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_12 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c8_i32 : BitVec 32 := 8#32
  let v1 : BitVec 32 := Scalar.addi v0 c8_i32
  let v2 : Index := Scalar.indexCast v1
  let v3 : BitVec 32 := pf.at 0 (Rect.unit (s := S2048) ![v2.toNat] S1.size (k0_off1_inb i 8)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_13 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c9_i32 : BitVec 32 := 9#32
  let v1 : BitVec 32 := Scalar.addi v0 c9_i32
  let v2 : Index := Scalar.indexCast v1
  let v3 : BitVec 32 := pf.at 0 (Rect.unit (s := S2048) ![v2.toNat] S1.size (k0_off1_inb i 9)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_14 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c10_i32 : BitVec 32 := 10#32
  let v1 : BitVec 32 := Scalar.addi v0 c10_i32
  let v2 : Index := Scalar.indexCast v1
  let v3 : BitVec 32 := pf.at 0 (Rect.unit (s := S2048) ![v2.toNat] S1.size (k0_off1_inb i 10)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_15 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c11_i32 : BitVec 32 := 11#32
  let v1 : BitVec 32 := Scalar.addi v0 c11_i32
  let v2 : Index := Scalar.indexCast v1
  let v3 : BitVec 32 := pf.at 0 (Rect.unit (s := S2048) ![v2.toNat] S1.size (k0_off1_inb i 11)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_16 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c12_i32 : BitVec 32 := 12#32
  let v1 : BitVec 32 := Scalar.addi v0 c12_i32
  let v2 : Index := Scalar.indexCast v1
  let v3 : BitVec 32 := pf.at 0 (Rect.unit (s := S2048) ![v2.toNat] S1.size (k0_off1_inb i 12)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_17 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c13_i32 : BitVec 32 := 13#32
  let v1 : BitVec 32 := Scalar.addi v0 c13_i32
  let v2 : Index := Scalar.indexCast v1
  let v3 : BitVec 32 := pf.at 0 (Rect.unit (s := S2048) ![v2.toNat] S1.size (k0_off1_inb i 13)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_18 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c14_i32 : BitVec 32 := 14#32
  let v1 : BitVec 32 := Scalar.addi v0 c14_i32
  let v2 : Index := Scalar.indexCast v1
  let v3 : BitVec 32 := pf.at 0 (Rect.unit (s := S2048) ![v2.toNat] S1.size (k0_off1_inb i 14)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_19 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c15_i32 : BitVec 32 := 15#32
  let v1 : BitVec 32 := Scalar.addi v0 c15_i32
  let v2 : Index := Scalar.indexCast v1
  let v3 : BitVec 32 := pf.at 0 (Rect.unit (s := S2048) ![v2.toNat] S1.size (k0_off1_inb i 15)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_20 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  let v3 : BitVec 32 := pf.at 0 (Rect.unit (s := S2048) ![v2.toNat] S1.size (k0_off1_inb i 0)) numel1_S1
  let c1_i32 : BitVec 32 := 1#32
  let c0_i32_0 : BitVec 32 := 0#32
  let c0_i32_1 : BitVec 32 := 0#32
  let c0_i32_2 : BitVec 32 := 0#32
  let c0_i32_3 : BitVec 32 := 0#32
  ![c1_i32.toNat, v3.toNat, c0_i32_0.toNat, c0_i32_1.toNat, c0_i32_2.toNat]

def cc0_transform_21 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.addi v0 c1_i32
  let v2 : Index := Scalar.indexCast v1
  let v3 : BitVec 32 := pf.at 0 (Rect.unit (s := S2048) ![v2.toNat] S1.size (k0_off1_inb i 1)) numel1_S1
  let c1_i32_0 : BitVec 32 := 1#32
  let c0_i32 : BitVec 32 := 0#32
  let c0_i32_1 : BitVec 32 := 0#32
  let c0_i32_2 : BitVec 32 := 0#32
  let c0_i32_3 : BitVec 32 := 0#32
  ![c1_i32_0.toNat, v3.toNat, c0_i32.toNat, c0_i32_1.toNat, c0_i32_2.toNat]

def cc0_transform_22 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c2_i32 : BitVec 32 := 2#32
  let v1 : BitVec 32 := Scalar.addi v0 c2_i32
  let v2 : Index := Scalar.indexCast v1
  let v3 : BitVec 32 := pf.at 0 (Rect.unit (s := S2048) ![v2.toNat] S1.size (k0_off1_inb i 2)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_23 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c3_i32 : BitVec 32 := 3#32
  let v1 : BitVec 32 := Scalar.addi v0 c3_i32
  let v2 : Index := Scalar.indexCast v1
  let v3 : BitVec 32 := pf.at 0 (Rect.unit (s := S2048) ![v2.toNat] S1.size (k0_off1_inb i 3)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_24 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c4_i32 : BitVec 32 := 4#32
  let v1 : BitVec 32 := Scalar.addi v0 c4_i32
  let v2 : Index := Scalar.indexCast v1
  let v3 : BitVec 32 := pf.at 0 (Rect.unit (s := S2048) ![v2.toNat] S1.size (k0_off1_inb i 4)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_25 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c5_i32 : BitVec 32 := 5#32
  let v1 : BitVec 32 := Scalar.addi v0 c5_i32
  let v2 : Index := Scalar.indexCast v1
  let v3 : BitVec 32 := pf.at 0 (Rect.unit (s := S2048) ![v2.toNat] S1.size (k0_off1_inb i 5)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_26 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c6_i32 : BitVec 32 := 6#32
  let v1 : BitVec 32 := Scalar.addi v0 c6_i32
  let v2 : Index := Scalar.indexCast v1
  let v3 : BitVec 32 := pf.at 0 (Rect.unit (s := S2048) ![v2.toNat] S1.size (k0_off1_inb i 6)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_27 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c7_i32 : BitVec 32 := 7#32
  let v1 : BitVec 32 := Scalar.addi v0 c7_i32
  let v2 : Index := Scalar.indexCast v1
  let v3 : BitVec 32 := pf.at 0 (Rect.unit (s := S2048) ![v2.toNat] S1.size (k0_off1_inb i 7)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_28 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c8_i32 : BitVec 32 := 8#32
  let v1 : BitVec 32 := Scalar.addi v0 c8_i32
  let v2 : Index := Scalar.indexCast v1
  let v3 : BitVec 32 := pf.at 0 (Rect.unit (s := S2048) ![v2.toNat] S1.size (k0_off1_inb i 8)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_29 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c9_i32 : BitVec 32 := 9#32
  let v1 : BitVec 32 := Scalar.addi v0 c9_i32
  let v2 : Index := Scalar.indexCast v1
  let v3 : BitVec 32 := pf.at 0 (Rect.unit (s := S2048) ![v2.toNat] S1.size (k0_off1_inb i 9)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_30 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c10_i32 : BitVec 32 := 10#32
  let v1 : BitVec 32 := Scalar.addi v0 c10_i32
  let v2 : Index := Scalar.indexCast v1
  let v3 : BitVec 32 := pf.at 0 (Rect.unit (s := S2048) ![v2.toNat] S1.size (k0_off1_inb i 10)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_31 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c11_i32 : BitVec 32 := 11#32
  let v1 : BitVec 32 := Scalar.addi v0 c11_i32
  let v2 : Index := Scalar.indexCast v1
  let v3 : BitVec 32 := pf.at 0 (Rect.unit (s := S2048) ![v2.toNat] S1.size (k0_off1_inb i 11)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_32 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c12_i32 : BitVec 32 := 12#32
  let v1 : BitVec 32 := Scalar.addi v0 c12_i32
  let v2 : Index := Scalar.indexCast v1
  let v3 : BitVec 32 := pf.at 0 (Rect.unit (s := S2048) ![v2.toNat] S1.size (k0_off1_inb i 12)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_33 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c13_i32 : BitVec 32 := 13#32
  let v1 : BitVec 32 := Scalar.addi v0 c13_i32
  let v2 : Index := Scalar.indexCast v1
  let v3 : BitVec 32 := pf.at 0 (Rect.unit (s := S2048) ![v2.toNat] S1.size (k0_off1_inb i 13)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_34 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c14_i32 : BitVec 32 := 14#32
  let v1 : BitVec 32 := Scalar.addi v0 c14_i32
  let v2 : Index := Scalar.indexCast v1
  let v3 : BitVec 32 := pf.at 0 (Rect.unit (s := S2048) ![v2.toNat] S1.size (k0_off1_inb i 14)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_35 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 5 → Nat :=
  let arg0 : BitVec 32 := BitVec.ofNat 32 (i 0).val
  let c16_i32 : BitVec 32 := 16#32
  let v0 : BitVec 32 := Scalar.muli arg0 c16_i32
  let c15_i32 : BitVec 32 := 15#32
  let v1 : BitVec 32 := Scalar.addi v0 c15_i32
  let v2 : Index := Scalar.indexCast v1
  let v3 : BitVec 32 := pf.at 0 (Rect.unit (s := S2048) ![v2.toNat] S1.size (k0_off1_inb i 15)) numel1_S1
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, v3.toNat, c0_i32.toNat, c0_i32_0.toNat, c0_i32_1.toNat]

def cc0_transform_36 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  let v3 : BitVec 32 := pf.at 0 (Rect.unit (s := S2048) ![v2.toNat] S1.size (k0_off1_inb i 0)) numel1_S1
  let c1_i32 : BitVec 32 := 1#32
  let c0_i32_0 : BitVec 32 := 0#32
  let c0_i32_1 : BitVec 32 := 0#32
  let c0_i32_2 : BitVec 32 := 0#32
  ![c1_i32.toNat, v3.toNat, c0_i32_0.toNat, c0_i32_1.toNat]

def cc0_transform_37 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.addi v0 c1_i32
  let v2 : Index := Scalar.indexCast v1
  let v3 : BitVec 32 := pf.at 0 (Rect.unit (s := S2048) ![v2.toNat] S1.size (k0_off1_inb i 1)) numel1_S1
  let c1_i32_0 : BitVec 32 := 1#32
  let c0_i32 : BitVec 32 := 0#32
  let c0_i32_1 : BitVec 32 := 0#32
  let c0_i32_2 : BitVec 32 := 0#32
  ![c1_i32_0.toNat, v3.toNat, c0_i32.toNat, c0_i32_1.toNat]

def cc0_transform_38 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c2_i32 : BitVec 32 := 2#32
  let v1 : BitVec 32 := Scalar.addi v0 c2_i32
  let v2 : Index := Scalar.indexCast v1
  let v3 : BitVec 32 := pf.at 0 (Rect.unit (s := S2048) ![v2.toNat] S1.size (k0_off1_inb i 2)) numel1_S1
  let c1_i32 : BitVec 32 := 1#32
  let c0_i32 : BitVec 32 := 0#32
  let c0_i32_0 : BitVec 32 := 0#32
  let c0_i32_1 : BitVec 32 := 0#32
  ![c1_i32.toNat, v3.toNat, c0_i32.toNat, c0_i32_0.toNat]

def cc0_transform_39 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c3_i32 : BitVec 32 := 3#32
  let v1 : BitVec 32 := Scalar.addi v0 c3_i32
  let v2 : Index := Scalar.indexCast v1
  let v3 : BitVec 32 := pf.at 0 (Rect.unit (s := S2048) ![v2.toNat] S1.size (k0_off1_inb i 3)) numel1_S1
  let c1_i32 : BitVec 32 := 1#32
  let c0_i32 : BitVec 32 := 0#32
  let c0_i32_0 : BitVec 32 := 0#32
  let c0_i32_1 : BitVec 32 := 0#32
  ![c1_i32.toNat, v3.toNat, c0_i32.toNat, c0_i32_0.toNat]

def cc0_transform_40 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c4_i32 : BitVec 32 := 4#32
  let v1 : BitVec 32 := Scalar.addi v0 c4_i32
  let v2 : Index := Scalar.indexCast v1
  let v3 : BitVec 32 := pf.at 0 (Rect.unit (s := S2048) ![v2.toNat] S1.size (k0_off1_inb i 4)) numel1_S1
  let c1_i32 : BitVec 32 := 1#32
  let c0_i32 : BitVec 32 := 0#32
  let c0_i32_0 : BitVec 32 := 0#32
  let c0_i32_1 : BitVec 32 := 0#32
  ![c1_i32.toNat, v3.toNat, c0_i32.toNat, c0_i32_0.toNat]

def cc0_transform_41 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c5_i32 : BitVec 32 := 5#32
  let v1 : BitVec 32 := Scalar.addi v0 c5_i32
  let v2 : Index := Scalar.indexCast v1
  let v3 : BitVec 32 := pf.at 0 (Rect.unit (s := S2048) ![v2.toNat] S1.size (k0_off1_inb i 5)) numel1_S1
  let c1_i32 : BitVec 32 := 1#32
  let c0_i32 : BitVec 32 := 0#32
  let c0_i32_0 : BitVec 32 := 0#32
  let c0_i32_1 : BitVec 32 := 0#32
  ![c1_i32.toNat, v3.toNat, c0_i32.toNat, c0_i32_0.toNat]

def cc0_transform_42 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c6_i32 : BitVec 32 := 6#32
  let v1 : BitVec 32 := Scalar.addi v0 c6_i32
  let v2 : Index := Scalar.indexCast v1
  let v3 : BitVec 32 := pf.at 0 (Rect.unit (s := S2048) ![v2.toNat] S1.size (k0_off1_inb i 6)) numel1_S1
  let c1_i32 : BitVec 32 := 1#32
  let c0_i32 : BitVec 32 := 0#32
  let c0_i32_0 : BitVec 32 := 0#32
  let c0_i32_1 : BitVec 32 := 0#32
  ![c1_i32.toNat, v3.toNat, c0_i32.toNat, c0_i32_0.toNat]

def cc0_transform_43 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c7_i32 : BitVec 32 := 7#32
  let v1 : BitVec 32 := Scalar.addi v0 c7_i32
  let v2 : Index := Scalar.indexCast v1
  let v3 : BitVec 32 := pf.at 0 (Rect.unit (s := S2048) ![v2.toNat] S1.size (k0_off1_inb i 7)) numel1_S1
  let c1_i32 : BitVec 32 := 1#32
  let c0_i32 : BitVec 32 := 0#32
  let c0_i32_0 : BitVec 32 := 0#32
  let c0_i32_1 : BitVec 32 := 0#32
  ![c1_i32.toNat, v3.toNat, c0_i32.toNat, c0_i32_0.toNat]

def cc0_transform_44 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c8_i32 : BitVec 32 := 8#32
  let v1 : BitVec 32 := Scalar.addi v0 c8_i32
  let v2 : Index := Scalar.indexCast v1
  let v3 : BitVec 32 := pf.at 0 (Rect.unit (s := S2048) ![v2.toNat] S1.size (k0_off1_inb i 8)) numel1_S1
  let c1_i32 : BitVec 32 := 1#32
  let c0_i32 : BitVec 32 := 0#32
  let c0_i32_0 : BitVec 32 := 0#32
  let c0_i32_1 : BitVec 32 := 0#32
  ![c1_i32.toNat, v3.toNat, c0_i32.toNat, c0_i32_0.toNat]

def cc0_transform_45 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c9_i32 : BitVec 32 := 9#32
  let v1 : BitVec 32 := Scalar.addi v0 c9_i32
  let v2 : Index := Scalar.indexCast v1
  let v3 : BitVec 32 := pf.at 0 (Rect.unit (s := S2048) ![v2.toNat] S1.size (k0_off1_inb i 9)) numel1_S1
  let c1_i32 : BitVec 32 := 1#32
  let c0_i32 : BitVec 32 := 0#32
  let c0_i32_0 : BitVec 32 := 0#32
  let c0_i32_1 : BitVec 32 := 0#32
  ![c1_i32.toNat, v3.toNat, c0_i32.toNat, c0_i32_0.toNat]

def cc0_transform_46 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c10_i32 : BitVec 32 := 10#32
  let v1 : BitVec 32 := Scalar.addi v0 c10_i32
  let v2 : Index := Scalar.indexCast v1
  let v3 : BitVec 32 := pf.at 0 (Rect.unit (s := S2048) ![v2.toNat] S1.size (k0_off1_inb i 10)) numel1_S1
  let c1_i32 : BitVec 32 := 1#32
  let c0_i32 : BitVec 32 := 0#32
  let c0_i32_0 : BitVec 32 := 0#32
  let c0_i32_1 : BitVec 32 := 0#32
  ![c1_i32.toNat, v3.toNat, c0_i32.toNat, c0_i32_0.toNat]

def cc0_transform_47 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c11_i32 : BitVec 32 := 11#32
  let v1 : BitVec 32 := Scalar.addi v0 c11_i32
  let v2 : Index := Scalar.indexCast v1
  let v3 : BitVec 32 := pf.at 0 (Rect.unit (s := S2048) ![v2.toNat] S1.size (k0_off1_inb i 11)) numel1_S1
  let c1_i32 : BitVec 32 := 1#32
  let c0_i32 : BitVec 32 := 0#32
  let c0_i32_0 : BitVec 32 := 0#32
  let c0_i32_1 : BitVec 32 := 0#32
  ![c1_i32.toNat, v3.toNat, c0_i32.toNat, c0_i32_0.toNat]

def cc0_transform_48 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c12_i32 : BitVec 32 := 12#32
  let v1 : BitVec 32 := Scalar.addi v0 c12_i32
  let v2 : Index := Scalar.indexCast v1
  let v3 : BitVec 32 := pf.at 0 (Rect.unit (s := S2048) ![v2.toNat] S1.size (k0_off1_inb i 12)) numel1_S1
  let c1_i32 : BitVec 32 := 1#32
  let c0_i32 : BitVec 32 := 0#32
  let c0_i32_0 : BitVec 32 := 0#32
  let c0_i32_1 : BitVec 32 := 0#32
  ![c1_i32.toNat, v3.toNat, c0_i32.toNat, c0_i32_0.toNat]

def cc0_transform_49 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c13_i32 : BitVec 32 := 13#32
  let v1 : BitVec 32 := Scalar.addi v0 c13_i32
  let v2 : Index := Scalar.indexCast v1
  let v3 : BitVec 32 := pf.at 0 (Rect.unit (s := S2048) ![v2.toNat] S1.size (k0_off1_inb i 13)) numel1_S1
  let c1_i32 : BitVec 32 := 1#32
  let c0_i32 : BitVec 32 := 0#32
  let c0_i32_0 : BitVec 32 := 0#32
  let c0_i32_1 : BitVec 32 := 0#32
  ![c1_i32.toNat, v3.toNat, c0_i32.toNat, c0_i32_0.toNat]

def cc0_transform_50 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c14_i32 : BitVec 32 := 14#32
  let v1 : BitVec 32 := Scalar.addi v0 c14_i32
  let v2 : Index := Scalar.indexCast v1
  let v3 : BitVec 32 := pf.at 0 (Rect.unit (s := S2048) ![v2.toNat] S1.size (k0_off1_inb i 14)) numel1_S1
  let c1_i32 : BitVec 32 := 1#32
  let c0_i32 : BitVec 32 := 0#32
  let c0_i32_0 : BitVec 32 := 0#32
  let c0_i32_1 : BitVec 32 := 0#32
  ![c1_i32.toNat, v3.toNat, c0_i32.toNat, c0_i32_0.toNat]

def cc0_transform_51 (k0_off1_inb : ∀ i : grid0.Coords, ∀ (r : Fin 16), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c15_i32 : BitVec 32 := 15#32
  let v1 : BitVec 32 := Scalar.addi v0 c15_i32
  let v2 : Index := Scalar.indexCast v1
  let v3 : BitVec 32 := pf.at 0 (Rect.unit (s := S2048) ![v2.toNat] S1.size (k0_off1_inb i 15)) numel1_S1
  let c1_i32 : BitVec 32 := 1#32
  let c0_i32 : BitVec 32 := 0#32
  let c0_i32_0 : BitVec 32 := 0#32
  let c0_i32_1 : BitVec 32 := 0#32
  ![c1_i32.toNat, v3.toNat, c0_i32.toNat, c0_i32_0.toNat]

def cc0_transform_52 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_53 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x8x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x8x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x8x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x8x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x8x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x8x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x8x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x8x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x8x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x8x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x8x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x8x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x8x64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x8x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x8x64x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x8x64x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x8x64x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x8x64x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x8x64x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x8x64x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x1x8x64x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x8x64x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x1x8x64x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x1x8x64x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x1x8x64x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x1x8x64x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x1x8x64x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x1x8x64x128 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x1x8x64x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x1x8x64x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x1x8x64x128 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x1x8x64x128 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x1x8x128 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S1x1x8x128 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S1x1x8x128 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S1x1x8x128 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S1x1x8x128 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S1x1x8x128 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S1x1x8x128 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S1x1x8x128 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]

abbrev stage0_44 : Fin 2 → Memref sig .tc .vmem S1x1x8x128 .f32 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true]

abbrev stage0_45 : Fin 2 → Memref sig .tc .vmem S1x1x8x128 .f32 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true]

abbrev stage0_46 : Fin 2 → Memref sig .tc .vmem S1x1x8x128 .f32 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true]

abbrev stage0_47 : Fin 2 → Memref sig .tc .vmem S1x1x8x128 .f32 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]

abbrev stage0_48 : Fin 2 → Memref sig .tc .vmem S1x1x8x128 .f32 := fun | 0 => Memref.whole cc0_stg48_0 | 1 => Memref.whole cc0_stg48_1 | ⟨_ + 2, h⟩ => absurd h (Nat.not_lt.2 (Nat.le_add_left _ _))
abbrev sem0_48 : Fin 2 → DmaSem sig := fun | 0 => cc0_sem48_0 | 1 => cc0_sem48_1 | ⟨_ + 2, h⟩ => absurd h (Nat.not_lt.2 (Nat.le_add_left _ _))
abbrev reads0_48 : Fin grid0.rank → Bool := ![true]

abbrev stage0_49 : Fin 2 → Memref sig .tc .vmem S1x1x8x128 .f32 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true]

abbrev stage0_50 : Fin 2 → Memref sig .tc .vmem S1x1x8x128 .f32 := fun | 0 => Memref.whole cc0_stg50_0 | 1 => Memref.whole cc0_stg50_1 | ⟨_ + 2, h⟩ => absurd h (Nat.not_lt.2 (Nat.le_add_left _ _))
abbrev sem0_50 : Fin 2 → DmaSem sig := fun | 0 => cc0_sem50_0 | 1 => cc0_sem50_1 | ⟨_ + 2, h⟩ => absurd h (Nat.not_lt.2 (Nat.le_add_left _ _))
abbrev reads0_50 : Fin grid0.rank → Bool := ![true]

abbrev stage0_51 : Fin 2 → Memref sig .tc .vmem S1x1x8x128 .f32 := fun | 0 => Memref.whole cc0_stg51_0 | 1 => Memref.whole cc0_stg51_1 | ⟨_ + 2, h⟩ => absurd h (Nat.not_lt.2 (Nat.le_add_left _ _))
abbrev sem0_51 : Fin 2 → DmaSem sig := fun | 0 => cc0_sem51_0 | 1 => cc0_sem51_1 | ⟨_ + 2, h⟩ => absurd h (Nat.not_lt.2 (Nat.le_add_left _ _))
abbrev reads0_51 : Fin grid0.rank → Bool := ![true]

abbrev stage0_52 : Fin 1 → Memref sig .tc .vmem S128x128 .bf16 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))
abbrev reads0_52 : Fin grid0.rank → Bool := ![false]

abbrev stage0_53 : Fin 2 → Memref sig .tc .vmem S8x512 .f32 := fun | 0 => Memref.whole cc0_stg53_0 | 1 => Memref.whole cc0_stg53_1 | ⟨_ + 2, h⟩ => absurd h (Nat.not_lt.2 (Nat.le_add_left _ _))
abbrev sem0_53 : Fin 2 → DmaSem sig := fun | 0 => cc0_sem53_0 | 1 => cc0_sem53_1 | ⟨_ + 2, h⟩ => absurd h (Nat.not_lt.2 (Nat.le_add_left _ _))
abbrev reads0_53 : Fin grid0.rank → Bool := ![true]
-- ==== ReferenceIdeal.lean ====
abbrev S128x16 : Shape := ⟨2, ![128, 16]⟩
abbrev S128x4x8x64 : Shape := ⟨4, ![128, 4, 8, 64]⟩
abbrev S128x4x8 : Shape := ⟨3, ![128, 4, 8]⟩
abbrev S2x2560x128x8x64 : Shape := ⟨5, ![2, 2560, 128, 8, 64]⟩
abbrev S2x2560x128x8 : Shape := ⟨4, ![2, 2560, 128, 8]⟩
abbrev S1x2560x128x8x64 : Shape := ⟨5, ![1, 2560, 128, 8, 64]⟩
abbrev S2560x128x8x64 : Shape := ⟨4, ![2560, 128, 8, 64]⟩
abbrev S_ : Shape := ⟨0, ![]⟩
abbrev S128x16x1 : Shape := ⟨3, ![128, 16, 1]⟩
abbrev S128x16x128x8x64 : Shape := ⟨5, ![128, 16, 128, 8, 64]⟩
abbrev S128x2048x8x64 : Shape := ⟨4, ![128, 2048, 8, 64]⟩
abbrev S1x2560x128x8 : Shape := ⟨4, ![1, 2560, 128, 8]⟩
abbrev S2560x128x8 : Shape := ⟨3, ![2560, 128, 8]⟩
abbrev S128x16x128x8 : Shape := ⟨4, ![128, 16, 128, 8]⟩
abbrev S128x2048x8 : Shape := ⟨3, ![128, 2048, 8]⟩
abbrev S128x1x8 : Shape := ⟨3, ![128, 1, 8]⟩
abbrev S128x2052x8x64 : Shape := ⟨4, ![128, 2052, 8, 64]⟩
abbrev S128x2052x8 : Shape := ⟨3, ![128, 2052, 8]⟩
abbrev S4 : Shape := ⟨1, ![4]⟩
abbrev S2052 : Shape := ⟨1, ![2052]⟩
abbrev S128x8x4x2052 : Shape := ⟨4, ![128, 8, 4, 2052]⟩
abbrev S128x8x4 : Shape := ⟨3, ![128, 8, 4]⟩
abbrev S128x8x4x1 : Shape := ⟨4, ![128, 8, 4, 1]⟩
abbrev S128x8x2052 : Shape := ⟨3, ![128, 8, 2052]⟩
abbrev S128x8x1x2052 : Shape := ⟨4, ![128, 8, 1, 2052]⟩
abbrev S4x1 : Shape := ⟨2, ![4, 1]⟩
abbrev S1x2052 : Shape := ⟨2, ![1, 2052]⟩
abbrev S4x2052 : Shape := ⟨2, ![4, 2052]⟩
abbrev S1x1x4x2052 : Shape := ⟨4, ![1, 1, 4, 2052]⟩
abbrev S128x8x64x4 : Shape := ⟨4, ![128, 8, 64, 4]⟩
abbrev S128x4x512 : Shape := ⟨3, ![128, 4, 512]⟩
abbrev S128x8x512 : Shape := ⟨3, ![128, 8, 512]⟩
abbrev S1024x512 : Shape := ⟨2, ![1024, 512]⟩

abbrev nBuf : Space → Nat
  | .hbm => 105
  | .vmem => 0
  | .smem => 0
  | _ => 0

abbrev bufTy : (tb : Table) → Fin (tcTables nBuf tb) → BufTy
  | .hbm, ⟨0, _⟩ => ⟨S128x16, .i32⟩
  | .hbm, ⟨1, _⟩ => ⟨S128x4x8x64, .f32⟩
  | .hbm, ⟨2, _⟩ => ⟨S128x4x8x64, .f32⟩
  | .hbm, ⟨3, _⟩ => ⟨S128x4x8x64, .f32⟩
  | .hbm, ⟨4, _⟩ => ⟨S128x4x8, .f32⟩
  | .hbm, ⟨5, _⟩ => ⟨S2x2560x128x8x64, .f32⟩
  | .hbm, ⟨6, _⟩ => ⟨S2x2560x128x8x64, .f32⟩
  | .hbm, ⟨7, _⟩ => ⟨S2x2560x128x8, .f32⟩
  | .hbm, ⟨8, _⟩ => ⟨S1x2560x128x8x64, .f32⟩
  | .hbm, ⟨9, _⟩ => ⟨S2560x128x8x64, .f32⟩
  | .hbm, ⟨10, _⟩ => ⟨S_, .i32⟩
  | .hbm, ⟨11, _⟩ => ⟨S128x16, .i32⟩
  | .hbm, ⟨12, _⟩ => ⟨S128x16, .i1⟩
  | .hbm, ⟨13, _⟩ => ⟨S_, .i32⟩
  | .hbm, ⟨14, _⟩ => ⟨S128x16, .i32⟩
  | .hbm, ⟨15, _⟩ => ⟨S128x16, .i32⟩
  | .hbm, ⟨16, _⟩ => ⟨S128x16, .i32⟩
  | .hbm, ⟨17, _⟩ => ⟨S128x16x1, .i32⟩
  | .hbm, ⟨18, _⟩ => ⟨S128x16x128x8x64, .f32⟩
  | .hbm, ⟨19, _⟩ => ⟨S128x2048x8x64, .f32⟩
  | .hbm, ⟨20, _⟩ => ⟨S1x2560x128x8x64, .f32⟩
  | .hbm, ⟨21, _⟩ => ⟨S2560x128x8x64, .f32⟩
  | .hbm, ⟨22, _⟩ => ⟨S_, .i32⟩
  | .hbm, ⟨23, _⟩ => ⟨S128x16, .i32⟩
  | .hbm, ⟨24, _⟩ => ⟨S128x16, .i1⟩
  | .hbm, ⟨25, _⟩ => ⟨S_, .i32⟩
  | .hbm, ⟨26, _⟩ => ⟨S128x16, .i32⟩
  | .hbm, ⟨27, _⟩ => ⟨S128x16, .i32⟩
  | .hbm, ⟨28, _⟩ => ⟨S128x16, .i32⟩
  | .hbm, ⟨29, _⟩ => ⟨S128x16x1, .i32⟩
  | .hbm, ⟨30, _⟩ => ⟨S128x16x128x8x64, .f32⟩
  | .hbm, ⟨31, _⟩ => ⟨S128x2048x8x64, .f32⟩
  | .hbm, ⟨32, _⟩ => ⟨S1x2560x128x8, .f32⟩
  | .hbm, ⟨33, _⟩ => ⟨S2560x128x8, .f32⟩
  | .hbm, ⟨34, _⟩ => ⟨S_, .i32⟩
  | .hbm, ⟨35, _⟩ => ⟨S128x16, .i32⟩
  | .hbm, ⟨36, _⟩ => ⟨S128x16, .i1⟩
  | .hbm, ⟨37, _⟩ => ⟨S_, .i32⟩
  | .hbm, ⟨38, _⟩ => ⟨S128x16, .i32⟩
  | .hbm, ⟨39, _⟩ => ⟨S128x16, .i32⟩
  | .hbm, ⟨40, _⟩ => ⟨S128x16, .i32⟩
  | .hbm, ⟨41, _⟩ => ⟨S128x16x1, .i32⟩
  | .hbm, ⟨42, _⟩ => ⟨S128x16x128x8, .f32⟩
  | .hbm, ⟨43, _⟩ => ⟨S128x2048x8, .f32⟩
  | .hbm, ⟨44, _⟩ => ⟨S_, .f32⟩
  | .hbm, ⟨45, _⟩ => ⟨S_, .f32⟩
  | .hbm, ⟨46, _⟩ => ⟨S128x2048x8, .f32⟩
  | .hbm, ⟨47, _⟩ => ⟨S128x1x8, .f32⟩
  | .hbm, ⟨48, _⟩ => ⟨S_, .f32⟩
  | .hbm, ⟨49, _⟩ => ⟨S_, .f32⟩
  | .hbm, ⟨50, _⟩ => ⟨S128x4x8, .f32⟩
  | .hbm, ⟨51, _⟩ => ⟨S128x4x8, .f32⟩
  | .hbm, ⟨52, _⟩ => ⟨S128x4x8, .f32⟩
  | .hbm, ⟨53, _⟩ => ⟨S128x2052x8x64, .f32⟩
  | .hbm, ⟨54, _⟩ => ⟨S128x2052x8x64, .f32⟩
  | .hbm, ⟨55, _⟩ => ⟨S128x2052x8, .f32⟩
  | .hbm, ⟨56, _⟩ => ⟨S4, .i32⟩
  | .hbm, ⟨57, _⟩ => ⟨S_, .i32⟩
  | .hbm, ⟨58, _⟩ => ⟨S4, .i32⟩
  | .hbm, ⟨59, _⟩ => ⟨S4, .i32⟩
  | .hbm, ⟨60, _⟩ => ⟨S2052, .i32⟩
  | .hbm, ⟨61, _⟩ => ⟨S128x8x4x2052, .f32⟩
  | .hbm, ⟨62, _⟩ => ⟨S_, .f32⟩
  | .hbm, ⟨63, _⟩ => ⟨S128x8x4x2052, .f32⟩
  | .hbm, ⟨64, _⟩ => ⟨S128x8x4x2052, .f32⟩
  | .hbm, ⟨65, _⟩ => ⟨S128x8x4, .f32⟩
  | .hbm, ⟨66, _⟩ => ⟨S128x8x4x1, .f32⟩
  | .hbm, ⟨67, _⟩ => ⟨S128x8x4x2052, .f32⟩
  | .hbm, ⟨68, _⟩ => ⟨S128x8x4x2052, .f32⟩
  | .hbm, ⟨69, _⟩ => ⟨S128x8x2052, .f32⟩
  | .hbm, ⟨70, _⟩ => ⟨S128x8x1x2052, .f32⟩
  | .hbm, ⟨71, _⟩ => ⟨S128x8x4x2052, .f32⟩
  | .hbm, ⟨72, _⟩ => ⟨S128x8x4x2052, .f32⟩
  | .hbm, ⟨73, _⟩ => ⟨S4x1, .i32⟩
  | .hbm, ⟨74, _⟩ => ⟨S1x2052, .i32⟩
  | .hbm, ⟨75, _⟩ => ⟨S4x2052, .i32⟩
  | .hbm, ⟨76, _⟩ => ⟨S4x2052, .i32⟩
  | .hbm, ⟨77, _⟩ => ⟨S4x2052, .i1⟩
  | .hbm, ⟨78, _⟩ => ⟨S1x1x4x2052, .i1⟩
  | .hbm, ⟨79, _⟩ => ⟨S_, .f32⟩
  | .hbm, ⟨80, _⟩ => ⟨S_, .f32⟩
  | .hbm, ⟨81, _⟩ => ⟨S128x8x4x2052, .i1⟩
  | .hbm, ⟨82, _⟩ => ⟨S128x8x4x2052, .f32⟩
  | .hbm, ⟨83, _⟩ => ⟨S128x8x4x2052, .f32⟩
  | .hbm, ⟨84, _⟩ => ⟨S_, .f32⟩
  | .hbm, ⟨85, _⟩ => ⟨S128x8x4, .f32⟩
  | .hbm, ⟨86, _⟩ => ⟨S_, .f32⟩
  | .hbm, ⟨87, _⟩ => ⟨S128x8x4, .f32⟩
  | .hbm, ⟨88, _⟩ => ⟨S128x8x4, .f32⟩
  | .hbm, ⟨89, _⟩ => ⟨S128x8x4x1, .f32⟩
  | .hbm, ⟨90, _⟩ => ⟨S128x8x4x2052, .f32⟩
  | .hbm, ⟨91, _⟩ => ⟨S128x8x4x2052, .f32⟩
  | .hbm, ⟨92, _⟩ => ⟨S128x8x4x2052, .f32⟩
  | .hbm, ⟨93, _⟩ => ⟨S_, .f32⟩
  | .hbm, ⟨94, _⟩ => ⟨S128x8x4, .f32⟩
  | .hbm, ⟨95, _⟩ => ⟨S128x8x4x1, .f32⟩
  | .hbm, ⟨96, _⟩ => ⟨S128x8x4x2052, .f32⟩
  | .hbm, ⟨97, _⟩ => ⟨S128x8x4x2052, .f32⟩
  | .hbm, ⟨98, _⟩ => ⟨S128x8x64x4, .f32⟩
  | .hbm, ⟨99, _⟩ => ⟨S128x4x8x64, .f32⟩
  | .hbm, ⟨100, _⟩ => ⟨S128x4x512, .f32⟩
  | .hbm, ⟨101, _⟩ => ⟨S_, .i32⟩
  | .hbm, ⟨102, _⟩ => ⟨S_, .f32⟩
  | .hbm, ⟨103, _⟩ => ⟨S128x8x512, .f32⟩
  | .hbm, ⟨104, _⟩ => ⟨S1024x512, .f32⟩
  | _, _ => ⟨S128x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_call0_cst : Ref sig .tc := ⟨.hbm, 44, rfl⟩
abbrev main_call0_call0_v0 : Ref sig .tc := ⟨.hbm, 45, rfl⟩
abbrev main_v30 : Ref sig .tc := ⟨.hbm, 46, rfl⟩
abbrev main_v31 : Ref sig .tc := ⟨.hbm, 47, rfl⟩
abbrev main_call1_call0_cst : Ref sig .tc := ⟨.hbm, 48, rfl⟩
abbrev main_call1_call0_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_6 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v59 : Ref sig .tc := ⟨.hbm, 83, rfl⟩
abbrev main_cst_7 : Ref sig .tc := ⟨.hbm, 84, rfl⟩
abbrev main_v60 : Ref sig .tc := ⟨.hbm, 85, rfl⟩
abbrev main_cst_8 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_9 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_10 : Ref sig .tc := ⟨.hbm, 101, rfl⟩
abbrev main_call3_v0 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]
-- ==== Mlp.lean ====
abbrev S4x4096x1024 : Shape := ⟨3, ![4, 4096, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpRefIdeal.lean ====
abbrev S4x4096x1024 : Shape := ⟨3, ![4, 4096, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩
abbrev S16384x1024 : Shape := ⟨2, ![16384, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S4x4096x4096, .f32⟩
  | .hbm, ⟨21, _⟩ => ⟨S_, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S4x4096x1024, .f32⟩
  | .hbm, ⟨26, _⟩ => ⟨S4x4096x1024, .f32⟩
  | .hbm, ⟨27, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Merge.lean ====
abbrev S4x4096x1024 : Shape := ⟨3, ![4, 4096, 1024]⟩
abbrev S1024 : Shape := ⟨1, ![1024]⟩
abbrev S1024x7184 : Shape := ⟨2, ![1024, 7184]⟩
abbrev S4x4096x512 : Shape := ⟨3, ![4, 4096, 512]⟩
abbrev S512x1024 : Shape := ⟨2, ![512, 1024]⟩
abbrev S1024x1024 : Shape := ⟨2, ![1024, 1024]⟩
abbrev S1024x3072 : Shape := ⟨2, ![1024, 3072]⟩
abbrev S16384x1024 : Shape := ⟨2, ![16384, 1024]⟩
abbrev S16384x512 : Shape := ⟨2, ![16384, 512]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 22
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x7184, .f32⟩
  | .hbm, ⟨3, _⟩ => ⟨S4x4096x512, .f32⟩
  | .hbm, ⟨4, _⟩ => ⟨S4x4096x512, .f32⟩
  | .hbm, ⟨5, _⟩ => ⟨S4x4096x512, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024x3072, .f32⟩
  | .hbm, ⟨11, _⟩ => ⟨S1024x3072, .bf16⟩
  | .hbm, ⟨12, _⟩ => ⟨S16384x1024, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S512x1024, .bf16⟩
  | .hbm, ⟨17, _⟩ => ⟨S512x1024, .bf16⟩
  | .hbm, ⟨18, _⟩ => ⟨S512x1024, .bf16⟩
  | .hbm, ⟨19, _⟩ => ⟨S1024x1024, .bf16⟩
  | .hbm, ⟨20, _⟩ => ⟨S1x1024, .f32⟩
  | .hbm, ⟨21, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S4x4096x1024 : Shape := ⟨3, ![4, 4096, 1024]⟩
abbrev S1024 : Shape := ⟨1, ![1024]⟩
abbrev S1024x7184 : Shape := ⟨2, ![1024, 7184]⟩
abbrev S4x4096x512 : Shape := ⟨3, ![4, 4096, 512]⟩
abbrev S512x1024 : Shape := ⟨2, ![512, 1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x7184 : Shape := ⟨3, ![4, 4096, 7184]⟩
abbrev S4x4096x8 : Shape := ⟨3, ![4, 4096, 8]⟩
abbrev S4x4096x4 : Shape := ⟨3, ![4, 4096, 4]⟩
abbrev S4x4096x3072 : Shape := ⟨3, ![4, 4096, 3072]⟩
abbrev S4x4096x3x1024 : Shape := ⟨4, ![4, 4096, 3, 1024]⟩
abbrev S4x4096x1x1024 : Shape := ⟨4, ![4, 4096, 1, 1024]⟩
abbrev S16384x1024 : Shape := ⟨2, ![16384, 1024]⟩

abbrev nBuf : Space → Nat
  | .hbm => 65
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x7184, .f32⟩
  | .hbm, ⟨3, _⟩ => ⟨S4x4096x512, .f32⟩
  | .hbm, ⟨4, _⟩ => ⟨S4x4096x512, .f32⟩
  | .hbm, ⟨5, _⟩ => ⟨S4x4096x512, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S4x4096x7184, .f32⟩
  | .hbm, ⟨27, _⟩ => ⟨S4x4096x512, .f32⟩
  | .hbm, ⟨28, _⟩ => ⟨S4x4096x512, .f32⟩
  | .hbm, ⟨29, _⟩ => ⟨S4x4096x512, .f32⟩
  | .hbm, ⟨30, _⟩ => ⟨S4x4096x512, .f32⟩
  | .hbm, ⟨31, _⟩ => ⟨S4x4096x8, .f32⟩
  | .hbm, ⟨32, _⟩ => ⟨S4x4096x512, .f32⟩
  | .hbm, ⟨33, _⟩ => ⟨S4x4096x512, .f32⟩
  | .hbm, ⟨34, _⟩ => ⟨S4x4096x512, .f32⟩
  | .hbm, ⟨35, _⟩ => ⟨S4x4096x4, .f32⟩
  | .hbm, ⟨36, _⟩ => ⟨S4x4096x4, .f32⟩
  | .hbm, ⟨37, _⟩ => ⟨S4x4096x512, .f32⟩
  | .hbm, ⟨38, _⟩ => ⟨S4x4096x3072, .f32⟩
  | .hbm, ⟨39, _⟩ => ⟨S4x4096x3072, .f32⟩
  | .hbm, ⟨40, _⟩ => ⟨S4x4096x3072, .f32⟩
  | .hbm, ⟨41, _⟩ => ⟨S_, .f32⟩
  | .hbm, ⟨42, _⟩ => ⟨S4x4096x3072, .f32⟩
  | .hbm, ⟨43, _⟩ => ⟨S4x4096x3072, .f32⟩
  | .hbm, ⟨44, _⟩ => ⟨S_, .f32⟩
  | .hbm, ⟨45, _⟩ => ⟨S4x4096x3072, .f32⟩
  | .hbm, ⟨46, _⟩ => ⟨S4x4096x3072, .f32⟩
  | .hbm, ⟨47, _⟩ => ⟨S4x4096x3x1024, .f32⟩
  | .hbm, ⟨48, _⟩ => ⟨S4x4096x1x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S4x4096x1x1024, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S4x4096x1024, .f32⟩
  | .hbm, ⟨64, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== ProjA.lean ====
abbrev S4x4096x1024 : Shape := ⟨3, ![4, 4096, 1024]⟩
abbrev S1024 : Shape := ⟨1, ![1024]⟩
abbrev S1024x7184 : Shape := ⟨2, ![1024, 7184]⟩
abbrev S1024x512 : Shape := ⟨2, ![1024, 512]⟩
abbrev S1024x8 : Shape := ⟨2, ![1024, 8]⟩
abbrev S1024x4 : Shape := ⟨2, ![1024, 4]⟩
abbrev S1024x3072 : Shape := ⟨2, ![1024, 3072]⟩
abbrev S_ : Shape := ⟨0, ![]⟩
abbrev S1024x496 : Shape := ⟨2, ![1024, 496]⟩
abbrev S1024x1536 : Shape := ⟨2, ![1024, 1536]⟩
abbrev S16384x1024 : Shape := ⟨2, ![16384, 1024]⟩
abbrev S1x1024 : Shape := ⟨2, ![1, 1024]⟩
abbrev S16384x3072 : Shape := ⟨2, ![16384, 3072]⟩
abbrev S1024x1024 : Shape := ⟨2, ![1024, 1024]⟩
abbrev S1024x1 : Shape := ⟨2, ![1024, 1]⟩

abbrev nBuf : Space → Nat
  | .hbm => 25
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x7184, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x8, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x4, .f32⟩
  | .hbm, ⟨12, _⟩ => ⟨S1024x4, .f32⟩
  | .hbm, ⟨13, _⟩ => ⟨S1024x512, .f32⟩
  | .hbm, ⟨14, _⟩ => ⟨S1024x3072, .f32⟩
  | .hbm, ⟨15, _⟩ => ⟨S_, .f32⟩
  | .hbm, ⟨16, _⟩ => ⟨S1024x496, .f32⟩
  | .hbm, ⟨17, _⟩ => ⟨S1024x3072, .f32⟩
  | .hbm, ⟨18, _⟩ => ⟨S1024x3072, .bf16⟩
  | .hbm, ⟨19, _⟩ => ⟨S1024x1536, .f32⟩
  | .hbm, ⟨20, _⟩ => ⟨S1024x1536, .bf16⟩
  | .hbm, ⟨21, _⟩ => ⟨S1024x3072, .bf16⟩
  | .hbm, ⟨22, _⟩ => ⟨S16384x1024, .f32⟩
  | .hbm, ⟨23, _⟩ => ⟨S1x1024, .f32⟩
  | .hbm, ⟨24, _⟩ => ⟨S16384x3072, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjARefIdeal.lean ====
abbrev S4x4096x1024 : Shape := ⟨3, ![4, 4096, 1024]⟩
abbrev S1024 : Shape := ⟨1, ![1024]⟩
abbrev S1024x7184 : Shape := ⟨2, ![1024, 7184]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x7184 : Shape := ⟨3, ![4, 4096, 7184]⟩
abbrev S4x4096x512 : Shape := ⟨3, ![4, 4096, 512]⟩
abbrev S4x4096x8 : Shape := ⟨3, ![4, 4096, 8]⟩
abbrev S4x4096x4 : Shape := ⟨3, ![4, 4096, 4]⟩
abbrev S4x4096x3072 : Shape := ⟨3, ![4, 4096, 3072]⟩
abbrev S4x4096x496 : Shape := ⟨3, ![4, 4096, 496]⟩
abbrev S16384x3072 : Shape := ⟨2, ![16384, 3072]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x7184, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x7184, .f32⟩
  | .hbm, ⟨20, _⟩ => ⟨S4x4096x512, .f32⟩
  | .hbm, ⟨21, _⟩ => ⟨S4x4096x512, .f32⟩
  | .hbm, ⟨22, _⟩ => ⟨S4x4096x512, .f32⟩
  | .hbm, ⟨23, _⟩ => ⟨S4x4096x512, .f32⟩
  | .hbm, ⟨24, _⟩ => ⟨S4x4096x8, .f32⟩
  | .hbm, ⟨25, _⟩ => ⟨S4x4096x512, .f32⟩
  | .hbm, ⟨26, _⟩ => ⟨S4x4096x512, .f32⟩
  | .hbm, ⟨27, _⟩ => ⟨S4x4096x512, .f32⟩
  | .hbm, ⟨28, _⟩ => ⟨S4x4096x4, .f32⟩
  | .hbm, ⟨29, _⟩ => ⟨S4x4096x4, .f32⟩
  | .hbm, ⟨30, _⟩ => ⟨S4x4096x512, .f32⟩
  | .hbm, ⟨31, _⟩ => ⟨S4x4096x3072, .f32⟩
  | .hbm, ⟨32, _⟩ => ⟨S_, .f32⟩
  | .hbm, ⟨33, _⟩ => ⟨S4x4096x496, .f32⟩
  | .hbm, ⟨34, _⟩ => ⟨S4x4096x3072, .f32⟩
  | .hbm, ⟨35, _⟩ => ⟨S16384x3072, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== ProjB.lean ====
abbrev S4x4096x1024 : Shape := ⟨3, ![4, 4096, 1024]⟩
abbrev S1024 : Shape := ⟨1, ![1024]⟩
abbrev S1024x7184 : Shape := ⟨2, ![1024, 7184]⟩
abbrev S1024x512 : Shape := ⟨2, ![1024, 512]⟩
abbrev S1024x8 : Shape := ⟨2, ![1024, 8]⟩
abbrev S1024x4 : Shape := ⟨2, ![1024, 4]⟩
abbrev S1024x3072 : Shape := ⟨2, ![1024, 3072]⟩
abbrev S_ : Shape := ⟨0, ![]⟩
abbrev S1024x496 : Shape := ⟨2, ![1024, 496]⟩
abbrev S1024x1536 : Shape := ⟨2, ![1024, 1536]⟩
abbrev S16384x1024 : Shape := ⟨2, ![16384, 1024]⟩
abbrev S1x1024 : Shape := ⟨2, ![1, 1024]⟩
abbrev S16384x1536 : Shape := ⟨2, ![16384, 1536]⟩
abbrev S1024x1024 : Shape := ⟨2, ![1024, 1024]⟩
abbrev S1024x1 : Shape := ⟨2, ![1024, 1]⟩

abbrev nBuf : Space → Nat
  | .hbm => 25
  | .vmem => 7
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x7184, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x8, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x4, .f32⟩
  | .hbm, ⟨12, _⟩ => ⟨S1024x4, .f32⟩
  | .hbm, ⟨13, _⟩ => ⟨S1024x512, .f32⟩
  | .hbm, ⟨14, _⟩ => ⟨S1024x3072, .f32⟩
  | .hbm, ⟨15, _⟩ => ⟨S_, .f32⟩
  | .hbm, ⟨16, _⟩ => ⟨S1024x496, .f32⟩
  | .hbm, ⟨17, _⟩ => ⟨S1024x3072, .f32⟩
  | .hbm, ⟨18, _⟩ => ⟨S1024x3072, .bf16⟩
  | .hbm, ⟨19, _⟩ => ⟨S1024x1536, .f32⟩
  | .hbm, ⟨20, _⟩ => ⟨S1024x1536, .bf16⟩
  | .hbm, ⟨21, _⟩ => ⟨S1024x3072, .bf16⟩
  | .hbm, ⟨22, _⟩ => ⟨S16384x1024, .f32⟩
  | .hbm, ⟨23, _⟩ => ⟨S1x1024, .f32⟩
  | .hbm, ⟨24, _⟩ => ⟨S16384x1536, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjBRefIdeal.lean ====
abbrev S4x4096x1024 : Shape := ⟨3, ![4, 4096, 1024]⟩
abbrev S1024 : Shape := ⟨1, ![1024]⟩
abbrev S1024x7184 : Shape := ⟨2, ![1024, 7184]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x7184 : Shape := ⟨3, ![4, 4096, 7184]⟩
abbrev S4x4096x512 : Shape := ⟨3, ![4, 4096, 512]⟩
abbrev S4x4096x8 : Shape := ⟨3, ![4, 4096, 8]⟩
abbrev S4x4096x4 : Shape := ⟨3, ![4, 4096, 4]⟩
abbrev S4x4096x3072 : Shape := ⟨3, ![4, 4096, 3072]⟩
abbrev S4x4096x1536 : Shape := ⟨3, ![4, 4096, 1536]⟩
abbrev S16384x1536 : Shape := ⟨2, ![16384, 1536]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x7184, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x7184, .f32⟩
  | .hbm, ⟨20, _⟩ => ⟨S4x4096x512, .f32⟩
  | .hbm, ⟨21, _⟩ => ⟨S4x4096x512, .f32⟩
  | .hbm, ⟨22, _⟩ => ⟨S4x4096x512, .f32⟩
  | .hbm, ⟨23, _⟩ => ⟨S4x4096x512, .f32⟩
  | .hbm, ⟨24, _⟩ => ⟨S4x4096x8, .f32⟩
  | .hbm, ⟨25, _⟩ => ⟨S4x4096x512, .f32⟩
  | .hbm, ⟨26, _⟩ => ⟨S4x4096x512, .f32⟩
  | .hbm, ⟨27, _⟩ => ⟨S4x4096x512, .f32⟩
  | .hbm, ⟨28, _⟩ => ⟨S4x4096x4, .f32⟩
  | .hbm, ⟨29, _⟩ => ⟨S4x4096x4, .f32⟩
  | .hbm, ⟨30, _⟩ => ⟨S4x4096x512, .f32⟩
  | .hbm, ⟨31, _⟩ => ⟨S4x4096x3072, .f32⟩
  | .hbm, ⟨32, _⟩ => ⟨S4x4096x1536, .f32⟩
  | .hbm, ⟨33, _⟩ => ⟨S4x4096x1536, .bf16⟩
  | .hbm, ⟨34, _⟩ => ⟨S16384x1536, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Cross.lean ====
abbrev S4x4096x1024 : Shape := ⟨3, ![4, 4096, 1024]⟩
abbrev S1024 : Shape := ⟨1, ![1024]⟩
abbrev S1024x512 : Shape := ⟨2, ![1024, 512]⟩
abbrev S128 : Shape := ⟨1, ![128]⟩
abbrev S4x256x4x128 : Shape := ⟨4, ![4, 256, 4, 128]⟩
abbrev S512x1024 : Shape := ⟨2, ![512, 1024]⟩
abbrev S16384x1024 : Shape := ⟨2, ![16384, 1024]⟩
abbrev S1x1024 : Shape := ⟨2, ![1, 1024]⟩
abbrev S1x128 : Shape := ⟨2, ![1, 128]⟩
abbrev S256x512 : Shape := ⟨2, ![256, 512]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩

abbrev nBuf : Space → Nat
  | .hbm => 15
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x512, .f32⟩
  | .hbm, ⟨3, _⟩ => ⟨S128, .f32⟩
  | .hbm, ⟨4, _⟩ => ⟨S4x256x4x128, .f32⟩
  | .hbm, ⟨5, _⟩ => ⟨S4x256x4x128, .f32⟩
  | .hbm, ⟨6, _⟩ => ⟨S512x1024, .f32⟩
  | .hbm, ⟨7, _⟩ => ⟨S16384x1024, .f32⟩
  | .hbm, ⟨8, _⟩ => ⟨S1024x512, .bf16⟩
  | .hbm, ⟨9, _⟩ => ⟨S1024x512, .f32⟩
  | .hbm, ⟨10, _⟩ => ⟨S1024x512, .f32⟩
  | .hbm, ⟨11, _⟩ => ⟨S512x1024, .bf16⟩
  | .hbm, ⟨12, _⟩ => ⟨S1x1024, .f32⟩
  | .hbm, ⟨13, _⟩ => ⟨S1x128, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1x128, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== CrossRefIdeal.lean ====
abbrev S4x4096x1024 : Shape := ⟨3, ![4, 4096, 1024]⟩
abbrev S1024 : Shape := ⟨1, ![1024]⟩
abbrev S1024x512 : Shape := ⟨2, ![1024, 512]⟩
abbrev S128 : Shape := ⟨1, ![128]⟩
abbrev S4x256x4x128 : Shape := ⟨4, ![4, 256, 4, 128]⟩
abbrev S512x1024 : Shape := ⟨2, ![512, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x512 : Shape := ⟨3, ![4, 4096, 512]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩
abbrev S16384x1024 : Shape := ⟨2, ![16384, 1024]⟩

abbrev nBuf : Space → Nat
  | .hbm => 65
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x512, .f32⟩
  | .hbm, ⟨3, _⟩ => ⟨S128, .f32⟩
  | .hbm, ⟨4, _⟩ => ⟨S4x256x4x128, .f32⟩
  | .hbm, ⟨5, _⟩ => ⟨S4x256x4x128, .f32⟩
  | .hbm, ⟨6, _⟩ => ⟨S512x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x4096x512, .f32⟩
  | .hbm, ⟨24, _⟩ => ⟨S4x4096x4x128, .f32⟩
  | .hbm, ⟨25, _⟩ => ⟨S4x4096x4x128, .f32⟩
  | .hbm, ⟨26, _⟩ => ⟨S_, .f32⟩
  | .hbm, ⟨27, _⟩ => ⟨S4x4096x4, .f32⟩
  | .hbm, ⟨28, _⟩ => ⟨S4x4096x4x1, .f32⟩
  | .hbm, ⟨29, _⟩ => ⟨S_, .f32⟩
  | .hbm, ⟨30, _⟩ => ⟨S4x4096x4x1, .f32⟩
  | .hbm, ⟨31, _⟩ => ⟨S4x4096x4x1, .f32⟩
  | .hbm, ⟨32, _⟩ => ⟨S_, .f32⟩
  | .hbm, ⟨33, _⟩ => ⟨S4x4096x4x1, .f32⟩
  | .hbm, ⟨34, _⟩ => ⟨S4x4096x4x1, .f32⟩
  | .hbm, ⟨35, _⟩ => ⟨S4x4096x4x1, .f32⟩
  | .hbm, ⟨36, _⟩ => ⟨S4x4096x4x128, .f32⟩
  | .hbm, ⟨37, _⟩ => ⟨S4x4096x4x128, .f32⟩
  | .hbm, ⟨38, _⟩ => ⟨S1x1x1x128, .f32⟩
  | .hbm, ⟨39, _⟩ => ⟨S4x4096x4x128, .f32⟩
  | .hbm, ⟨40, _⟩ => ⟨S4x4096x4x128, .f32⟩
  | .hbm, ⟨41, _⟩ => ⟨S4x4x4096x256, .f32⟩
  | .hbm, ⟨42, _⟩ => ⟨S_, .f32⟩
  | .hbm, ⟨43, _⟩ => ⟨S4x4x4096x256, .f32⟩
  | .hbm, ⟨44, _⟩ => ⟨S4x4x4096x256, .f32⟩
  | .hbm, ⟨45, _⟩ => ⟨S_, .f32⟩
  | .hbm, ⟨46, _⟩ => ⟨S4x4x4096, .f32⟩
  | .hbm, ⟨47, _⟩ => ⟨S_, .f32⟩
  | .hbm, ⟨48, _⟩ => ⟨S4x4x4096, .f32⟩
  | .hbm, ⟨49, _⟩ => ⟨S4x4x4096, .f32⟩
  | .hbm, ⟨50, _⟩ => ⟨S4x4x4096x1, .f32⟩
  | .hbm, ⟨51, _⟩ => ⟨S4x4x4096x256, .f32⟩
  | .hbm, ⟨52, _⟩ => ⟨S4x4x4096x256, .f32⟩
  | .hbm, ⟨53, _⟩ => ⟨S4x4x4096x256, .f32⟩
  | .hbm, ⟨54, _⟩ => ⟨S_, .f32⟩
  | .hbm, ⟨55, _⟩ => ⟨S4x4x4096, .f32⟩
  | .hbm, ⟨56, _⟩ => ⟨S4x4x4096x1, .f32⟩
  | .hbm, ⟨57, _⟩ => ⟨S4x4x4096x256, .f32⟩
  | .hbm, ⟨58, _⟩ => ⟨S4x4x4096x256, .f32⟩
  | .hbm, ⟨59, _⟩ => ⟨S4x4x128x4096, .f32⟩
  | .hbm, ⟨60, _⟩ => ⟨S4x4096x4x128, .f32⟩
  | .hbm, ⟨61, _⟩ => ⟨S4x4096x512, .f32⟩
  | .hbm, ⟨62, _⟩ => ⟨S4x4096x1024, .f32⟩
  | .hbm, ⟨63, _⟩ => ⟨S4x4096x1024, .f32⟩
  | .hbm, ⟨64, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== MemK.lean ====
abbrev S4x256x1024 : Shape := ⟨3, ![4, 256, 1024]⟩
abbrev S1024 : Shape := ⟨1, ![1024]⟩
abbrev S1024x512 : Shape := ⟨2, ![1024, 512]⟩
abbrev S128 : Shape := ⟨1, ![128]⟩
abbrev S1024x1024 : Shape := ⟨2, ![1024, 1024]⟩
abbrev S1x1024 : Shape := ⟨2, ![1, 1024]⟩
abbrev S1x128 : Shape := ⟨2, ![1, 128]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x128 : Shape := ⟨2, ![512, 128]⟩

abbrev nBuf : Space → Nat
  | .hbm => 9
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x512, .f32⟩
  | .hbm, ⟨3, _⟩ => ⟨S128, .f32⟩
  | .hbm, ⟨4, _⟩ => ⟨S1024x1024, .f32⟩
  | .hbm, ⟨5, _⟩ => ⟨S1024x512, .bf16⟩
  | .hbm, ⟨6, _⟩ => ⟨S1x1024, .f32⟩
  | .hbm, ⟨7, _⟩ => ⟨S1x128, .f32⟩
  | .hbm, ⟨8, _⟩ => ⟨S1024x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1x128, .f32⟩
  | .local _ .vmem, ⟨5, _⟩ => ⟨S512x512, .f32⟩
  | .local _ .vmem, ⟨6, _⟩ => ⟨S512x512, .f32⟩
  | .local _ .vmem, ⟨7, _⟩ => ⟨S512x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MemKRefIdeal.lean ====
abbrev S4x256x1024 : Shape := ⟨3, ![4, 256, 1024]⟩
abbrev S1024 : Shape := ⟨1, ![1024]⟩
abbrev S1024x512 : Shape := ⟨2, ![1024, 512]⟩
abbrev S128 : Shape := ⟨1, ![128]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x512 : Shape := ⟨3, ![4, 256, 512]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S1x1x1x128 : Shape := ⟨4, ![1, 1, 1, 128]⟩

abbrev nBuf : Space → Nat
  | .hbm => 39
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x512, .f32⟩
  | .hbm, ⟨3, _⟩ => ⟨S128, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S4x256x512, .f32⟩
  | .hbm, ⟨21, _⟩ => ⟨S4x256x4x128, .f32⟩
  | .hbm, ⟨22, _⟩ => ⟨S4x256x4x128, .f32⟩
  | .hbm, ⟨23, _⟩ => ⟨S_, .f32⟩
  | .hbm, ⟨24, _⟩ => ⟨S4x256x4, .f32⟩
  | .hbm, ⟨25, _⟩ => ⟨S4x256x4x1, .f32⟩
  | .hbm, ⟨26, _⟩ => ⟨S_, .f32⟩
  | .hbm, ⟨27, _⟩ => ⟨S4x256x4x1, .f32⟩
  | .hbm, ⟨28, _⟩ => ⟨S4x256x4x1, .f32⟩
  | .hbm, ⟨29, _⟩ => ⟨S_, .f32⟩
  | .hbm, ⟨30, _⟩ => ⟨S4x256x4x1, .f32⟩
  | .hbm, ⟨31, _⟩ => ⟨S4x256x4x1, .f32⟩
  | .hbm, ⟨32, _⟩ => ⟨S4x256x4x1, .f32⟩
  | .hbm, ⟨33, _⟩ => ⟨S4x256x4x128, .f32⟩
  | .hbm, ⟨34, _⟩ => ⟨S4x256x4x128, .f32⟩
  | .hbm, ⟨35, _⟩ => ⟨S1x1x1x128, .f32⟩
  | .hbm, ⟨36, _⟩ => ⟨S4x256x4x128, .f32⟩
  | .hbm, ⟨37, _⟩ => ⟨S4x256x4x128, .f32⟩
  | .hbm, ⟨38, _⟩ => ⟨S1024x512, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== MemV.lean ====
abbrev S4x256x1024 : Shape := ⟨3, ![4, 256, 1024]⟩
abbrev S1024 : Shape := ⟨1, ![1024]⟩
abbrev S1024x512 : Shape := ⟨2, ![1024, 512]⟩
abbrev S1024x1024 : Shape := ⟨2, ![1024, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 7
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x512, .f32⟩
  | .hbm, ⟨3, _⟩ => ⟨S1024x1024, .f32⟩
  | .hbm, ⟨4, _⟩ => ⟨S1024x512, .bf16⟩
  | .hbm, ⟨5, _⟩ => ⟨S1x1024, .f32⟩
  | .hbm, ⟨6, _⟩ => ⟨S1024x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemVRefIdeal.lean ====
abbrev S4x256x1024 : Shape := ⟨3, ![4, 256, 1024]⟩
abbrev S1024 : Shape := ⟨1, ![1024]⟩
abbrev S1024x512 : Shape := ⟨2, ![1024, 512]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x512 : Shape := ⟨3, ![4, 256, 512]⟩
abbrev S4x256x4x128 : Shape := ⟨4, ![4, 256, 4, 128]⟩

abbrev nBuf : Space → Nat
  | .hbm => 22
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x512, .f32⟩
  | .hbm, ⟨3, _⟩ => ⟨S4x256x1024, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1, .f32⟩
  | .hbm, ⟨14, _⟩ => ⟨S4x256x1024, .f32⟩
  | .hbm, ⟨15, _⟩ => ⟨S4x256x1024, .f32⟩
  | .hbm, ⟨16, _⟩ => ⟨S1x1x1024, .f32⟩
  | .hbm, ⟨17, _⟩ => ⟨S4x256x1024, .f32⟩
  | .hbm, ⟨18, _⟩ => ⟨S4x256x1024, .f32⟩
  | .hbm, ⟨19, _⟩ => ⟨S4x256x512, .f32⟩
  | .hbm, ⟨20, _⟩ => ⟨S4x256x4x128, .f32⟩
  | .hbm, ⟨21, _⟩ => ⟨S1024x512, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Out.lean ====
abbrev S128x8x1024 : Shape := ⟨3, ![128, 8, 1024]⟩
abbrev S128x8x512 : Shape := ⟨3, ![128, 8, 512]⟩
abbrev S512x1024 : Shape := ⟨2, ![512, 1024]⟩
abbrev S1024x1024 : Shape := ⟨2, ![1024, 1024]⟩
abbrev S1024x512 : Shape := ⟨2, ![1024, 512]⟩
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S128x8x1024, .f32⟩
  | .hbm, ⟨1, _⟩ => ⟨S128x8x512, .f32⟩
  | .hbm, ⟨2, _⟩ => ⟨S512x1024, .f32⟩
  | .hbm, ⟨3, _⟩ => ⟨S1024x1024, .f32⟩
  | .hbm, ⟨4, _⟩ => ⟨S1024x512, .f32⟩
  | .hbm, ⟨5, _⟩ => ⟨S512x1024, .bf16⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutRefIdeal.lean ====
abbrev S128x8x1024 : Shape := ⟨3, ![128, 8, 1024]⟩
abbrev S128x8x512 : Shape := ⟨3, ![128, 8, 512]⟩
abbrev S512x1024 : Shape := ⟨2, ![512, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x8x512, .f32⟩
  | .hbm, ⟨2, _⟩ => ⟨S512x1024, .f32⟩
  | .hbm, ⟨3, _⟩ => ⟨S128x8x1024, .f32⟩
  | .hbm, ⟨4, _⟩ => ⟨S128x8x1024, .f32⟩
  | .hbm, ⟨5, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Cached.lean ====
abbrev S128x8x4x128 : Shape := ⟨4, ![128, 8, 4, 128]⟩
abbrev S2x128x256x4x128 : Shape := ⟨5, ![2, 128, 256, 4, 128]⟩
abbrev S1024x512 : Shape := ⟨2, ![1024, 512]⟩
abbrev S2x128x1024x128 : Shape := ⟨4, ![2, 128, 1024, 128]⟩
abbrev S32x512 : Shape := ⟨2, ![32, 512]⟩
abbrev S1x4x1024x128 : Shape := ⟨4, ![1, 4, 1024, 128]⟩
abbrev S32x1024 : Shape := ⟨2, ![32, 1024]⟩
abbrev S8x128 : Shape := ⟨2, ![8, 128]⟩
abbrev S32x128 : Shape := ⟨2, ![32, 128]⟩
abbrev S1x1x1024x128 : Shape := ⟨4, ![1, 1, 1024, 128]⟩
abbrev S1024x128 : Shape := ⟨2, ![1024, 128]⟩
abbrev S32 : Shape := ⟨1, ![32]⟩
abbrev S32x1 : Shape := ⟨2, ![32, 1]⟩

abbrev nBuf : Space → Nat
  | .hbm => 7
  | .vmem => 8
  | .smem => 0
  | _ => 0

abbrev bufTy : (tb : Table) → Fin (tcTables nBuf tb) → BufTy
  | .hbm, ⟨0, _⟩ => ⟨S128x8x4x128, .f32⟩
  | .hbm, ⟨1, _⟩ => ⟨S2x128x256x4x128, .f32⟩
  | .hbm, ⟨2, _⟩ => ⟨S2x128x256x4x128, .f32⟩
  | .hbm, ⟨3, _⟩ => ⟨S1024x512, .f32⟩
  | .hbm, ⟨4, _⟩ => ⟨S2x128x1024x128, .f32⟩
  | .hbm, ⟨5, _⟩ => ⟨S2x128x1024x128, .f32⟩
  | .hbm, ⟨6, _⟩ => ⟨S1024x512, .f32⟩
  | .local _ .vmem, ⟨0, _⟩ => ⟨S32x512, .f32⟩
  | .local _ .vmem, ⟨1, _⟩ => ⟨S32x512, .f32⟩
  | .local _ .vmem, ⟨2, _⟩ => ⟨S1x4x1024x128, .f32⟩
  | .local _ .vmem, ⟨3, _⟩ => ⟨S1x4x1024x128, .f32⟩
  | .local _ .vmem, ⟨4, _⟩ => ⟨S1x4x1024x128, .f32⟩
  | .local _ .vmem, ⟨5, _⟩ => ⟨S1x4x1024x128, .f32⟩
  | .local _ .vmem, ⟨6, _⟩ => ⟨S32x512, .f32⟩
  | .local _ .vmem, ⟨7, _⟩ => ⟨S32x512, .f32⟩
  | _, _ => ⟨S128x8x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CachedRefIdeal.lean ====
abbrev S128x8x4x128 : Shape := ⟨4, ![128, 8, 4, 128]⟩
abbrev S2x128x256x4x128 : Shape := ⟨5, ![2, 128, 256, 4, 128]⟩
abbrev S1x128x256x4x128 : Shape := ⟨5, ![1, 128, 256, 4, 128]⟩
abbrev S128x256x4x128 : Shape := ⟨4, ![128, 256, 4, 128]⟩
abbrev S128x4x8x256 : Shape := ⟨4, ![128, 4, 8, 256]⟩
abbrev S_ : Shape := ⟨0, ![]⟩
abbrev S128x4x8 : Shape := ⟨3, ![128, 4, 8]⟩
abbrev S128x4x8x1 : Shape := ⟨4, ![128, 4, 8, 1]⟩
abbrev S128x4x128x8 : Shape := ⟨4, ![128, 4, 128, 8]⟩
abbrev S128x8x512 : Shape := ⟨3, ![128, 8, 512]⟩
abbrev S1024x512 : Shape := ⟨2, ![1024, 512]⟩

abbrev nBuf : Space → Nat
  | .hbm => 29
  | .vmem => 0
  | .smem => 0
  | _ => 0

abbrev bufTy : (tb : Table) → Fin (tcTables nBuf tb) → BufTy
  | .hbm, ⟨0, _⟩ => ⟨S128x8x4x128, .f32⟩
  | .hbm, ⟨1, _⟩ => ⟨S2x128x256x4x128, .f32⟩
  | .hbm, ⟨2, _⟩ => ⟨S2x128x256x4x128, .f32⟩
  | .hbm, ⟨3, _⟩ => ⟨S1x128x256x4x128, .f32⟩
  | .hbm, ⟨4, _⟩ => ⟨S128x256x4x128, .f32⟩
  | .hbm, ⟨5, _⟩ => ⟨S128x4x8x256, .f32⟩
  | .hbm, ⟨6, _⟩ => ⟨S_, .f32⟩
  | .hbm, ⟨7, _⟩ => ⟨S128x4x8x256, .f32⟩
  | .hbm, ⟨8, _⟩ => ⟨S128x4x8x256, .f32⟩
  | .hbm, ⟨9, _⟩ => ⟨S_, .f32⟩
  | .hbm, ⟨10, _⟩ => ⟨S128x4x8, .f32⟩
  | .hbm, ⟨11, _⟩ => ⟨S_, .f32⟩
  | .hbm, ⟨12, _⟩ => ⟨S128x4x8, .f32⟩
  | .hbm, ⟨13, _⟩ => ⟨S128x4x8, .f32⟩
  | .hbm, ⟨14, _⟩ => ⟨S128x4x8x1, .f32⟩
  | .hbm, ⟨15, _⟩ => ⟨S128x4x8x256, .f32⟩
  | .hbm, ⟨16, _⟩ => ⟨S128x4x8x256, .f32⟩
  | .hbm, ⟨17, _⟩ => ⟨S128x4x8x256, .f32⟩
  | .hbm, ⟨18, _⟩ => ⟨S_, .f32⟩
  | .hbm, ⟨19, _⟩ => ⟨S128x4x8, .f32⟩
  | .hbm, ⟨20, _⟩ => ⟨S128x4x8x1, .f32⟩
  | .hbm, ⟨21, _⟩ => ⟨S128x4x8x256, .f32⟩
  | .hbm, ⟨22, _⟩ => ⟨S128x4x8x256, .f32⟩
  | .hbm, ⟨23, _⟩ => ⟨S1x128x256x4x128, .f32⟩
  | .hbm, ⟨24, _⟩ => ⟨S128x256x4x128, .f32⟩
  | .hbm, ⟨25, _⟩ => ⟨S128x4x128x8, .f32⟩
  | .hbm, ⟨26, _⟩ => ⟨S128x8x4x128, .f32⟩
  | .hbm, ⟨27, _⟩ => ⟨S128x8x512, .f32⟩
  | .hbm, ⟨28, _⟩ => ⟨S1024x512, .f32⟩
  | _, _ => ⟨S128x8x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Proof.DecodeRun.lean ====
/- The run of the paged decode attention at one grid point, over any float values. -/
module

public import proofs.«01_k».proof.Proof.Gen.KernelIdeal.Frame.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- What one call of the body stores, as pieces, the last first: those of the output block, and those of the two scratch
    buffers. With it the proof of the run: from the inputs' blocks held at their contents, and the output and the scratch
    buffers held at any contents, the body runs to its end, leaves the inputs as they were, and leaves its pieces written. -/
noncomputable def kernelRun0_A (c : Dev nD) (i : grid0.Coords) (arg2 : Memref sig .tc .vmem S64x512 .f32) (harg2 : arg2.IsWhole) (arg3 : Memref sig .tc .vmem S8x512 .f32) (harg3 : arg3.IsWhole) (arg4 : Memref sig .tc .vmem S8x512 .f32) (harg4 : arg4.IsWhole) (arg5 : Memref sig .tc .vmem S8x128 .f32) (harg5 : arg5.IsWhole) (arg6 : Memref sig .tc .vmem S1x1x8x64x128 .f32) (harg6 : arg6.IsWhole) (arg7 : Memref sig .tc .vmem S1x1x8x64x128 .f32) (harg7 : arg7.IsWhole) (arg8 : Memref sig .tc .vmem S1x1x8x64x128 .f32) (harg8 : arg8.IsWhole) (arg9 : Memref sig .tc .vmem S1x1x8x64x128 .f32) (harg9 : arg9.IsWhole) (arg10 : Memref sig .tc .vmem S1x1x8x64x128 .f32) (harg10 : arg10.IsWhole) (arg11 : Memref sig .tc .vmem S1x1x8x64x128 .f32) (harg11 : arg11.IsWhole) (arg12 : Memref sig .tc .vmem S1x1x8x64x128 .f32) (harg12 : arg12.IsWhole) (arg13 : Memref sig .tc .vmem S1x1x8x64x128 .f32) (harg13 : arg13.IsWhole) (arg14 : Memref sig .tc .vmem S1x1x8x64x128 .f32) (harg14 : arg14.IsWhole) (arg15 : Memref sig .tc .vmem S1x1x8x64x128 .f32) (harg15 : arg15.IsWhole) (arg16 : Memref sig .tc .vmem S1x1x8x64x128 .f32) (harg16 : arg16.IsWhole) (arg17 : Memref sig .tc .vmem S1x1x8x64x128 .f32) (harg17 : arg17.IsWhole) (arg18 : Memref sig .tc .vmem S1x1x8x64x128 .f32) (harg18 : arg18.IsWhole) (arg19 : Memref sig .tc .vmem S1x1x8x64x128 .f32) (harg19 : arg19.IsWhole) (arg20 : Memref sig .tc .vmem S1x1x8x64x128 .f32) (harg20 : arg20.IsWhole) (arg21 : Memref sig .tc .vmem S1x1x8x64x128 .f32) (harg21 : arg21.IsWhole) (arg22 : Memref sig .tc .vmem S1x1x8x64x128 .f32) (harg22 : arg22.IsWhole) (arg23 : Memref sig .tc .vmem S1x1x8x64x128 .f32) (harg23 : arg23.IsWhole) (arg24 : Memref sig .tc .vmem S1x1x8x64x128 .f32) (harg24 : arg24.IsWhole) (arg25 : Memref sig .tc .vmem S1x1x8x64x128 .f32) (harg25 : arg25.IsWhole) (arg26 : Memref sig .tc .vmem S1x1x8x64x128 .f32) (harg26 : arg26.IsWhole) (arg27 : Memref sig .tc .vmem S1x1x8x64x128 .f32) (harg27 : arg27.IsWhole) (arg28 : Memref sig .tc .vmem S1x1x8x64x128 .f32) (harg28 : arg28.IsWhole) (arg29 : Memref sig .tc .vmem S1x1x8x64x128 .f32) (harg29 : arg29.IsWhole) (arg30 : Memref sig .tc .vmem S1x1x8x64x128 .f32) (harg30 : arg30.IsWhole) (arg31 : Memref sig .tc .vmem S1x1x8x64x128 .f32) (harg31 : arg31.IsWhole) (arg32 : Memref sig .tc .vmem S1x1x8x64x128 .f32) (harg32 : arg32.IsWhole) (arg33 : Memref sig .tc .vmem S1x1x8x64x128 .f32) (harg33 : arg33.IsWhole) (arg34 : Memref sig .tc .vmem S1x1x8x64x128 .f32) (harg34 : arg34.IsWhole) (arg35 : Memref sig .tc .vmem S1x1x8x64x128 .f32) (harg35 : arg35.IsWhole) (arg36 : Memref sig .tc .vmem S1x1x8x64x128 .f32) (harg36 : arg36.IsWhole) (arg37 : Memref sig .tc .vmem S1x1x8x64x128 .f32) (harg37 : arg37.IsWhole) (arg38 : Memref sig .tc .vmem S1x1x8x128 .f32) (harg38 : arg38.IsWhole) (arg39 : Memref sig .tc .vmem S1x1x8x128 .f32) (harg39 : arg39.IsWhole) (arg40 : Memref sig .tc .vmem S1x1x8x128 .f32) (harg40 : arg40.IsWhole) (arg41 : Memref sig .tc .vmem S1x1x8x128 .f32) (harg41 : arg41.IsWhole) (arg42 : Memref sig .tc .vmem S1x1x8x128 .f32) (harg42 : arg42.IsWhole) (arg43 : Memref sig .tc .vmem S1x1x8x128 .f32) (harg43 : arg43.IsWhole) (arg44 : Memref sig .tc .vmem S1x1x8x128 .f32) (harg44 : arg44.IsWhole) (arg45 : Memref sig .tc .vmem S1x1x8x128 .f32) (harg45 : arg45.IsWhole) (arg46 : Memref sig .tc .vmem S1x1x8x128 .f32) (harg46 : arg46.IsWhole) (arg47 : Memref sig .tc .vmem S1x1x8x128 .f32) (harg47 : arg47.IsWhole) (arg48 : Memref sig .tc .vmem S1x1x8x128 .f32) (harg48 : arg48.IsWhole) (arg49 : Memref sig .tc .vmem S1x1x8x128 .f32) (harg49 : arg49.IsWhole) (arg50 : Memref sig .tc .vmem S1x1x8x128 .f32) (harg50 : arg50.IsWhole) (arg51 : Memref sig .tc .vmem S1x1x8x128 .f32) (harg51 : arg51.IsWhole) (arg52 : Memref sig .tc .vmem S1x1x8x128 .f32) (harg52 : arg52.IsWhole) (arg53 : Memref sig .tc .vmem S1x1x8x128 .f32) (harg53 : arg53.IsWhole) (arg54 : Memref sig .tc .vmem S128x128 .bf16) (harg54 : arg54.IsWhole) (arg55 : Memref sig .tc .vmem S8x512 .f32) (harg55 : arg55.IsWhole) (arg56 : Memref sig .tc .vmem S128x512 .f32) (harg56 : arg56.IsWhole) (arg57 : Memref sig .tc .vmem S128x512 .f32) (harg57 : arg57.IsWhole)
    (x0 : Vec F S64x512 .f32) (x1 : Vec F S8x512 .f32) (x2 : Vec F S8x512 .f32) (x3 : Vec F S8x128 .f32) (x4 : Vec F S1x1x8x64x128 .f32) (x5 : Vec F S1x1x8x64x128 .f32) (x6 : Vec F S1x1x8x64x128 .f32) (x7 : Vec F S1x1x8x64x128 .f32) (x8 : Vec F S1x1x8x64x128 .f32) (x9 : Vec F S1x1x8x64x128 .f32) (x10 : Vec F S1x1x8x64x128 .f32) (x11 : Vec F S1x1x8x64x128 .f32) (x12 : Vec F S1x1x8x64x128 .f32) (x13 : Vec F S1x1x8x64x128 .f32) (x14 : Vec F S1x1x8x64x128 .f32) (x15 : Vec F S1x1x8x64x128 .f32) (x16 : Vec F S1x1x8x64x128 .f32) (x17 : Vec F S1x1x8x64x128 .f32) (x18 : Vec F S1x1x8x64x128 .f32) (x19 : Vec F S1x1x8x64x128 .f32) (x20 : Vec F S1x1x8x64x128 .f32) (x21 : Vec F S1x1x8x64x128 .f32) (x22 : Vec F S1x1x8x64x128 .f32) (x23 : Vec F S1x1x8x64x128 .f32) (x24 : Vec F S1x1x8x64x128 .f32) (x25 : Vec F S1x1x8x64x128 .f32) (x26 : Vec F S1x1x8x64x128 .f32) (x27 : Vec F S1x1x8x64x128 .f32) (x28 : Vec F S1x1x8x64x128 .f32) (x29 : Vec F S1x1x8x64x128 .f32) (x30 : Vec F S1x1x8x64x128 .f32) (x31 : Vec F S1x1x8x64x128 .f32) (x32 : Vec F S1x1x8x64x128 .f32) (x33 : Vec F S1x1x8x64x128 .f32) (x34 : Vec F S1x1x8x64x128 .f32) (x35 : Vec F S1x1x8x64x128 .f32) (x36 : Vec F S1x1x8x128 .f32) (x37 : Vec F S1x1x8x128 .f32) (x38 : Vec F S1x1x8x128 .f32) (x39 : Vec F S1x1x8x128 .f32) (x40 : Vec F S1x1x8x128 .f32) (x41 : Vec F S1x1x8x128 .f32) (x42 : Vec F S1x1x8x128 .f32) (x43 : Vec F S1x1x8x128 .f32) (x44 : Vec F S1x1x8x128 .f32) (x45 : Vec F S1x1x8x128 .f32) (x46 : Vec F S1x1x8x128 .f32) (x47 : Vec F S1x1x8x128 .f32) (x48 : Vec F S1x1x8x128 .f32) (x49 : Vec F S1x1x8x128 .f32) (x50 : Vec F S1x1x8x128 .f32) (x51 : Vec F S1x1x8x128 .f32) (x52 : Vec F S128x128 .bf16) (xt0 : TbBuf0 (F := F) c tbM0_0) :
    Σ' (L53 : List (View.Piece (Elt F) S8x512 .f32)), Σ' (LT0 : List (View.Piece (Elt F) S128x512 .f32)), { LT1 : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare x34 ∗ owns (c : Thread nD τ) arg37 fullShare x35 ∗ owns (c : Thread nD τ) arg38 fullShare x36 ∗ owns (c : Thread nD τ) arg39 fullShare x37 ∗ owns (c : Thread nD τ) arg40 fullShare x38 ∗ owns (c : Thread nD τ) arg41 fullShare x39 ∗ owns (c : Thread nD τ) arg42 fullShare x40 ∗ owns (c : Thread nD τ) arg43 fullShare x41 ∗ owns (c : Thread nD τ) arg44 fullShare x42 ∗ owns (c : Thread nD τ) arg45 fullShare x43 ∗ owns (c : Thread nD τ) arg46 fullShare x44 ∗ owns (c : Thread nD τ) arg47 fullShare x45 ∗ owns (c : Thread nD τ) arg48 fullShare x46 ∗ owns (c : Thread nD τ) arg49 fullShare x47 ∗ owns (c : Thread nD τ) arg50 fullShare x48 ∗ owns (c : Thread nD τ) arg51 fullShare x49 ∗ owns (c : Thread nD τ) arg52 fullShare x50 ∗ owns (c : Thread nD τ) arg53 fullShare x51 ∗ owns (c : Thread nD τ) arg54 fullShare x52 ∗ (∃ d, owns (c : Thread nD τ) arg55 fullShare d) ∗ (∃ d, owns (c : Thread nD τ) arg56 fullShare d) ∗ (∃ d, owns (c : Thread nD τ) arg57 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare x34 ∗ owns (c : Thread nD τ) arg37 fullShare x35 ∗ owns (c : Thread nD τ) arg38 fullShare x36 ∗ owns (c : Thread nD τ) arg39 fullShare x37 ∗ owns (c : Thread nD τ) arg40 fullShare x38 ∗ owns (c : Thread nD τ) arg41 fullShare x39 ∗ owns (c : Thread nD τ) arg42 fullShare x40 ∗ owns (c : Thread nD τ) arg43 fullShare x41 ∗ owns (c : Thread nD τ) arg44 fullShare x42 ∗ owns (c : Thread nD τ) arg45 fullShare x43 ∗ owns (c : Thread nD τ) arg46 fullShare x44 ∗ owns (c : Thread nD τ) arg47 fullShare x45 ∗ owns (c : Thread nD τ) arg48 fullShare x46 ∗ owns (c : Thread nD τ) arg49 fullShare x47 ∗ owns (c : Thread nD τ) arg50 fullShare x48 ∗ owns (c : Thread nD τ) arg51 fullShare x49 ∗ owns (c : Thread nD τ) arg52 fullShare x50 ∗ owns (c : Thread nD τ) arg53 fullShare x51 ∗ owns (c : Thread nD τ) arg54 fullShare x52 ∗ (∃ f, arg55.view.loc (c : Thread nD τ) ↦[arg55.view.set]{fullShare} arg55.view.writes (Elt F) f L53) ∗ (∃ f, arg56.view.loc (c : Thread nD τ) ↦[arg56.view.set]{fullShare} arg56.view.writes (Elt F) f LT0) ∗ (∃ f, arg57.view.loc (c : Thread nD τ) ↦[arg57.view.set]{fullShare} arg57.view.writes (Elt F) f LT1) ∗ tbPt0 c tbM0_0 xt0) -∗ K ⟨⟩))
          ⊢ wp frame (wpE (defs₀ (F := F)) Variants.none c none) E (cc0_fox_decode i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57) K } := by
  refine ⟨?_, ?_, ?_, fun E K => ?run⟩
  case run =>
    simp only [cc0_fox_decode_eq_skeleton]; unfold cc0_fox_decode_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%f40, %hf40, H40⟩, ⟨%f41, %hf41, H41⟩, ⟨%f42, %hf42, H42⟩, ⟨%f43, %hf43, H43⟩, ⟨%f44, %hf44, H44⟩, ⟨%f45, %hf45, H45⟩, ⟨%f46, %hf46, H46⟩, ⟨%f47, %hf47, H47⟩, ⟨%f48, %hf48, H48⟩, ⟨%f49, %hf49, H49⟩, ⟨%f50, %hf50, H50⟩, ⟨%f51, %hf51, H51⟩, ⟨%f52, %hf52, H52⟩, ⟨%d53, %f53, -, H53⟩, ⟨%ds0, %fs0, -, HS0⟩, ⟨%ds1, %fs1, -, HS1⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28; obtain rfl := harg31.eq_unread hf29; obtain rfl := harg32.eq_unread hf30; obtain rfl := harg33.eq_unread hf31; obtain rfl := harg34.eq_unread hf32; obtain rfl := harg35.eq_unread hf33; obtain rfl := harg36.eq_unread hf34; obtain rfl := harg37.eq_unread hf35; obtain rfl := harg38.eq_unread hf36; obtain rfl := harg39.eq_unread hf37; obtain rfl := harg40.eq_unread hf38; obtain rfl := harg41.eq_unread hf39; obtain rfl := harg42.eq_unread hf40; obtain rfl := harg43.eq_unread hf41; obtain rfl := harg44.eq_unread hf42; obtain rfl := harg45.eq_unread hf43; obtain rfl := harg46.eq_unread hf44; obtain rfl := harg47.eq_unread hf45; obtain rfl := harg48.eq_unread hf46; obtain rfl := harg49.eq_unread hf47; obtain rfl := harg50.eq_unread hf48; obtain rfl := harg51.eq_unread hf49; obtain rfl := harg52.eq_unread hf50; obtain rfl := harg53.eq_unread hf51; obtain rfl := harg54.eq_unread hf52
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]
    · iexists _; isplitr; · ipureintro; exact harg30.read_unread _
      iexact H28
    isplitl [H29]
    · iexists _; isplitr; · ipureintro; exact harg31.read_unread _
      iexact H29
    isplitl [H30]
    · iexists _; isplitr; · ipureintro; exact harg32.read_unread _
      iexact H30
    isplitl [H31]
    · iexists _; isplitr; · ipureintro; exact harg33.read_unread _
      iexact H31
    isplitl [H32]
    · iexists _; isplitr; · ipureintro; exact harg34.read_unread _
      iexact H32
    isplitl [H33]
    · iexists _; isplitr; · ipureintro; exact harg35.read_unread _
      iexact H33
    isplitl [H34]
    · iexists _; isplitr; · ipureintro; exact harg36.read_unread _
      iexact H34
    isplitl [H35]
    · iexists _; isplitr; · ipureintro; exact harg37.read_unread _
      iexact H35
    isplitl [H36]
    · iexists _; isplitr; · ipureintro; exact harg38.read_unread _
      iexact H36
    isplitl [H37]
    · iexists _; isplitr; · ipureintro; exact harg39.read_unread _
      iexact H37
    isplitl [H38]
    · iexists _; isplitr; · ipureintro; exact harg40.read_unread _
      iexact H38
    isplitl [H39]
    · iexists _; isplitr; · ipureintro; exact harg41.read_unread _
      iexact H39
    isplitl [H40]
    · iexists _; isplitr; · ipureintro; exact harg42.read_unread _
      iexact H40
    isplitl [H41]
    · iexists _; isplitr; · ipureintro; exact harg43.read_unread _
      iexact H41
    isplitl [H42]
    · iexists _; isplitr; · ipureintro; exact harg44.read_unread _
      iexact H42
    isplitl [H43]
    · iexists _; isplitr; · ipureintro; exact harg45.read_unread _
      iexact H43
    isplitl [H44]
    · iexists _; isplitr; · ipureintro; exact harg46.read_unread _
      iexact H44
    isplitl [H45]
    · iexists _; isplitr; · ipureintro; exact harg47.read_unread _
      iexact H45
    isplitl [H46]
    · iexists _; isplitr; · ipureintro; exact harg48.read_unread _
      iexact H46
    isplitl [H47]
    · iexists _; isplitr; · ipureintro; exact harg49.read_unread _
      iexact H47
    isplitl [H48]
    · iexists _; isplitr; · ipureintro; exact harg50.read_unread _
      iexact H48
    isplitl [H49]
    · iexists _; isplitr; · ipureintro; exact harg51.read_unread _
      iexact H49
    isplitl [H50]
    · iexists _; isplitr; · ipureintro; exact harg52.read_unread _
      iexact H50
    isplitl [H51]
    · iexists _; isplitr; · ipureintro; exact harg53.read_unread _
      iexact H51
    isplitl [H52]
    · iexists _; isplitr; · ipureintro; exact harg54.read_unread _
      iexact H52
    isplitl [H53]; · iexists _; iexact H53
    isplitl [HS0]; · iexists _; iexact HS0
    isplitl [HS1]; · iexists _; iexact HS1
    iexact HT0

end Cert.KernelIdeal.Gen

end
-- ==== Proof.DecodeFrame.lean ====
/- The frame of the paged decode attention: the arrays its outputs end with, and the arguments unchanged, over any float values. -/
module

public import proofs.«01_k».proof.Proof.DecodeRun
public import Idealize.ShloMosaic.Lib.Claim

@[expose] public section

set_option maxHeartbeats 0
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The run's pieces for output 53 cover its block: one store of the whole of it. -/
theorem cover0_A_53 (c : Dev nD) (i : grid0.Coords) (arg2 : Memref sig .tc .vmem S64x512 .f32) (harg2 : arg2.IsWhole) (arg3 : Memref sig .tc .vmem S8x512 .f32) (harg3 : arg3.IsWhole) (arg4 : Memref sig .tc .vmem S8x512 .f32) (harg4 : arg4.IsWhole) (arg5 : Memref sig .tc .vmem S8x128 .f32) (harg5 : arg5.IsWhole) (arg6 : Memref sig .tc .vmem S1x1x8x64x128 .f32) (harg6 : arg6.IsWhole) (arg7 : Memref sig .tc .vmem S1x1x8x64x128 .f32) (harg7 : arg7.IsWhole) (arg8 : Memref sig .tc .vmem S1x1x8x64x128 .f32) (harg8 : arg8.IsWhole) (arg9 : Memref sig .tc .vmem S1x1x8x64x128 .f32) (harg9 : arg9.IsWhole) (arg10 : Memref sig .tc .vmem S1x1x8x64x128 .f32) (harg10 : arg10.IsWhole) (arg11 : Memref sig .tc .vmem S1x1x8x64x128 .f32) (harg11 : arg11.IsWhole) (arg12 : Memref sig .tc .vmem S1x1x8x64x128 .f32) (harg12 : arg12.IsWhole) (arg13 : Memref sig .tc .vmem S1x1x8x64x128 .f32) (harg13 : arg13.IsWhole) (arg14 : Memref sig .tc .vmem S1x1x8x64x128 .f32) (harg14 : arg14.IsWhole) (arg15 : Memref sig .tc .vmem S1x1x8x64x128 .f32) (harg15 : arg15.IsWhole) (arg16 : Memref sig .tc .vmem S1x1x8x64x128 .f32) (harg16 : arg16.IsWhole) (arg17 : Memref sig .tc .vmem S1x1x8x64x128 .f32) (harg17 : arg17.IsWhole) (arg18 : Memref sig .tc .vmem S1x1x8x64x128 .f32) (harg18 : arg18.IsWhole) (arg19 : Memref sig .tc .vmem S1x1x8x64x128 .f32) (harg19 : arg19.IsWhole) (arg20 : Memref sig .tc .vmem S1x1x8x64x128 .f32) (harg20 : arg20.IsWhole) (arg21 : Memref sig .tc .vmem S1x1x8x64x128 .f32) (harg21 : arg21.IsWhole) (arg22 : Memref sig .tc .vmem S1x1x8x64x128 .f32) (harg22 : arg22.IsWhole) (arg23 : Memref sig .tc .vmem S1x1x8x64x128 .f32) (harg23 : arg23.IsWhole) (arg24 : Memref sig .tc .vmem S1x1x8x64x128 .f32) (harg24 : arg24.IsWhole) (arg25 : Memref sig .tc .vmem S1x1x8x64x128 .f32) (harg25 : arg25.IsWhole) (arg26 : Memref sig .tc .vmem S1x1x8x64x128 .f32) (harg26 : arg26.IsWhole) (arg27 : Memref sig .tc .vmem S1x1x8x64x128 .f32) (harg27 : arg27.IsWhole) (arg28 : Memref sig .tc .vmem S1x1x8x64x128 .f32) (harg28 : arg28.IsWhole) (arg29 : Memref sig .tc .vmem S1x1x8x64x128 .f32) (harg29 : arg29.IsWhole) (arg30 : Memref sig .tc .vmem S1x1x8x64x128 .f32) (harg30 : arg30.IsWhole) (arg31 : Memref sig .tc .vmem S1x1x8x64x128 .f32) (harg31 : arg31.IsWhole) (arg32 : Memref sig .tc .vmem S1x1x8x64x128 .f32) (harg32 : arg32.IsWhole) (arg33 : Memref sig .tc .vmem S1x1x8x64x128 .f32) (harg33 : arg33.IsWhole) (arg34 : Memref sig .tc .vmem S1x1x8x64x128 .f32) (harg34 : arg34.IsWhole) (arg35 : Memref sig .tc .vmem S1x1x8x64x128 .f32) (harg35 : arg35.IsWhole) (arg36 : Memref sig .tc .vmem S1x1x8x64x128 .f32) (harg36 : arg36.IsWhole) (arg37 : Memref sig .tc .vmem S1x1x8x64x128 .f32) (harg37 : arg37.IsWhole) (arg38 : Memref sig .tc .vmem S1x1x8x128 .f32) (harg38 : arg38.IsWhole) (arg39 : Memref sig .tc .vmem S1x1x8x128 .f32) (harg39 : arg39.IsWhole) (arg40 : Memref sig .tc .vmem S1x1x8x128 .f32) (harg40 : arg40.IsWhole) (arg41 : Memref sig .tc .vmem S1x1x8x128 .f32) (harg41 : arg41.IsWhole) (arg42 : Memref sig .tc .vmem S1x1x8x128 .f32) (harg42 : arg42.IsWhole) (arg43 : Memref sig .tc .vmem S1x1x8x128 .f32) (harg43 : arg43.IsWhole) (arg44 : Memref sig .tc .vmem S1x1x8x128 .f32) (harg44 : arg44.IsWhole) (arg45 : Memref sig .tc .vmem S1x1x8x128 .f32) (harg45 : arg45.IsWhole) (arg46 : Memref sig .tc .vmem S1x1x8x128 .f32) (harg46 : arg46.IsWhole) (arg47 : Memref sig .tc .vmem S1x1x8x128 .f32) (harg47 : arg47.IsWhole) (arg48 : Memref sig .tc .vmem S1x1x8x128 .f32) (harg48 : arg48.IsWhole) (arg49 : Memref sig .tc .vmem S1x1x8x128 .f32) (harg49 : arg49.IsWhole) (arg50 : Memref sig .tc .vmem S1x1x8x128 .f32) (harg50 : arg50.IsWhole) (arg51 : Memref sig .tc .vmem S1x1x8x128 .f32) (harg51 : arg51.IsWhole) (arg52 : Memref sig .tc .vmem S1x1x8x128 .f32) (harg52 : arg52.IsWhole) (arg53 : Memref sig .tc .vmem S1x1x8x128 .f32) (harg53 : arg53.IsWhole) (arg54 : Memref sig .tc .vmem S128x128 .bf16) (harg54 : arg54.IsWhole) (arg55 : Memref sig .tc .vmem S8x512 .f32) (harg55 : arg55.IsWhole) (arg56 : Memref sig .tc .vmem S128x512 .f32) (harg56 : arg56.IsWhole) (arg57 : Memref sig .tc .vmem S128x512 .f32) (harg57 : arg57.IsWhole)
    (x0 : Vec F S64x512 .f32) (x1 : Vec F S8x512 .f32) (x2 : Vec F S8x512 .f32) (x3 : Vec F S8x128 .f32) (x4 : Vec F S1x1x8x64x128 .f32) (x5 : Vec F S1x1x8x64x128 .f32) (x6 : Vec F S1x1x8x64x128 .f32) (x7 : Vec F S1x1x8x64x128 .f32) (x8 : Vec F S1x1x8x64x128 .f32) (x9 : Vec F S1x1x8x64x128 .f32) (x10 : Vec F S1x1x8x64x128 .f32) (x11 : Vec F S1x1x8x64x128 .f32) (x12 : Vec F S1x1x8x64x128 .f32) (x13 : Vec F S1x1x8x64x128 .f32) (x14 : Vec F S1x1x8x64x128 .f32) (x15 : Vec F S1x1x8x64x128 .f32) (x16 : Vec F S1x1x8x64x128 .f32) (x17 : Vec F S1x1x8x64x128 .f32) (x18 : Vec F S1x1x8x64x128 .f32) (x19 : Vec F S1x1x8x64x128 .f32) (x20 : Vec F S1x1x8x64x128 .f32) (x21 : Vec F S1x1x8x64x128 .f32) (x22 : Vec F S1x1x8x64x128 .f32) (x23 : Vec F S1x1x8x64x128 .f32) (x24 : Vec F S1x1x8x64x128 .f32) (x25 : Vec F S1x1x8x64x128 .f32) (x26 : Vec F S1x1x8x64x128 .f32) (x27 : Vec F S1x1x8x64x128 .f32) (x28 : Vec F S1x1x8x64x128 .f32) (x29 : Vec F S1x1x8x64x128 .f32) (x30 : Vec F S1x1x8x64x128 .f32) (x31 : Vec F S1x1x8x64x128 .f32) (x32 : Vec F S1x1x8x64x128 .f32) (x33 : Vec F S1x1x8x64x128 .f32) (x34 : Vec F S1x1x8x64x128 .f32) (x35 : Vec F S1x1x8x64x128 .f32) (x36 : Vec F S1x1x8x128 .f32) (x37 : Vec F S1x1x8x128 .f32) (x38 : Vec F S1x1x8x128 .f32) (x39 : Vec F S1x1x8x128 .f32) (x40 : Vec F S1x1x8x128 .f32) (x41 : Vec F S1x1x8x128 .f32) (x42 : Vec F S1x1x8x128 .f32) (x43 : Vec F S1x1x8x128 .f32) (x44 : Vec F S1x1x8x128 .f32) (x45 : Vec F S1x1x8x128 .f32) (x46 : Vec F S1x1x8x128 .f32) (x47 : Vec F S1x1x8x128 .f32) (x48 : Vec F S1x1x8x128 .f32) (x49 : Vec F S1x1x8x128 .f32) (x50 : Vec F S1x1x8x128 .f32) (x51 : Vec F S1x1x8x128 .f32) (x52 : Vec F S128x128 .bf16) (xt0 : TbBuf0 (F := F) c tbM0_0) (y : S8x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 xt0).1 S8x512.size (by sl_kernel_rfl) y

/-- What the run leaves in output 53's staging buffer: its pieces read back over junk. -/
def out0_A_53 (c : Dev nD) (i : grid0.Coords) (arg2 : Memref sig .tc .vmem S64x512 .f32) (harg2 : arg2.IsWhole) (arg3 : Memref sig .tc .vmem S8x512 .f32) (harg3 : arg3.IsWhole) (arg4 : Memref sig .tc .vmem S8x512 .f32) (harg4 : arg4.IsWhole) (arg5 : Memref sig .tc .vmem S8x128 .f32) (harg5 : arg5.IsWhole) (arg6 : Memref sig .tc .vmem S1x1x8x64x128 .f32) (harg6 : arg6.IsWhole) (arg7 : Memref sig .tc .vmem S1x1x8x64x128 .f32) (harg7 : arg7.IsWhole) (arg8 : Memref sig .tc .vmem S1x1x8x64x128 .f32) (harg8 : arg8.IsWhole) (arg9 : Memref sig .tc .vmem S1x1x8x64x128 .f32) (harg9 : arg9.IsWhole) (arg10 : Memref sig .tc .vmem S1x1x8x64x128 .f32) (harg10 : arg10.IsWhole) (arg11 : Memref sig .tc .vmem S1x1x8x64x128 .f32) (harg11 : arg11.IsWhole) (arg12 : Memref sig .tc .vmem S1x1x8x64x128 .f32) (harg12 : arg12.IsWhole) (arg13 : Memref sig .tc .vmem S1x1x8x64x128 .f32) (harg13 : arg13.IsWhole) (arg14 : Memref sig .tc .vmem S1x1x8x64x128 .f32) (harg14 : arg14.IsWhole) (arg15 : Memref sig .tc .vmem S1x1x8x64x128 .f32) (harg15 : arg15.IsWhole) (arg16 : Memref sig .tc .vmem S1x1x8x64x128 .f32) (harg16 : arg16.IsWhole) (arg17 : Memref sig .tc .vmem S1x1x8x64x128 .f32) (harg17 : arg17.IsWhole) (arg18 : Memref sig .tc .vmem S1x1x8x64x128 .f32) (harg18 : arg18.IsWhole) (arg19 : Memref sig .tc .vmem S1x1x8x64x128 .f32) (harg19 : arg19.IsWhole) (arg20 : Memref sig .tc .vmem S1x1x8x64x128 .f32) (harg20 : arg20.IsWhole) (arg21 : Memref sig .tc .vmem S1x1x8x64x128 .f32) (harg21 : arg21.IsWhole) (arg22 : Memref sig .tc .vmem S1x1x8x64x128 .f32) (harg22 : arg22.IsWhole) (arg23 : Memref sig .tc .vmem S1x1x8x64x128 .f32) (harg23 : arg23.IsWhole) (arg24 : Memref sig .tc .vmem S1x1x8x64x128 .f32) (harg24 : arg24.IsWhole) (arg25 : Memref sig .tc .vmem S1x1x8x64x128 .f32) (harg25 : arg25.IsWhole) (arg26 : Memref sig .tc .vmem S1x1x8x64x128 .f32) (harg26 : arg26.IsWhole) (arg27 : Memref sig .tc .vmem S1x1x8x64x128 .f32) (harg27 : arg27.IsWhole) (arg28 : Memref sig .tc .vmem S1x1x8x64x128 .f32) (harg28 : arg28.IsWhole) (arg29 : Memref sig .tc .vmem S1x1x8x64x128 .f32) (harg29 : arg29.IsWhole) (arg30 : Memref sig .tc .vmem S1x1x8x64x128 .f32) (harg30 : arg30.IsWhole) (arg31 : Memref sig .tc .vmem S1x1x8x64x128 .f32) (harg31 : arg31.IsWhole) (arg32 : Memref sig .tc .vmem S1x1x8x64x128 .f32) (harg32 : arg32.IsWhole) (arg33 : Memref sig .tc .vmem S1x1x8x64x128 .f32) (harg33 : arg33.IsWhole) (arg34 : Memref sig .tc .vmem S1x1x8x64x128 .f32) (harg34 : arg34.IsWhole) (arg35 : Memref sig .tc .vmem S1x1x8x64x128 .f32) (harg35 : arg35.IsWhole) (arg36 : Memref sig .tc .vmem S1x1x8x64x128 .f32) (harg36 : arg36.IsWhole) (arg37 : Memref sig .tc .vmem S1x1x8x64x128 .f32) (harg37 : arg37.IsWhole) (arg38 : Memref sig .tc .vmem S1x1x8x128 .f32) (harg38 : arg38.IsWhole) (arg39 : Memref sig .tc .vmem S1x1x8x128 .f32) (harg39 : arg39.IsWhole) (arg40 : Memref sig .tc .vmem S1x1x8x128 .f32) (harg40 : arg40.IsWhole) (arg41 : Memref sig .tc .vmem S1x1x8x128 .f32) (harg41 : arg41.IsWhole) (arg42 : Memref sig .tc .vmem S1x1x8x128 .f32) (harg42 : arg42.IsWhole) (arg43 : Memref sig .tc .vmem S1x1x8x128 .f32) (harg43 : arg43.IsWhole) (arg44 : Memref sig .tc .vmem S1x1x8x128 .f32) (harg44 : arg44.IsWhole) (arg45 : Memref sig .tc .vmem S1x1x8x128 .f32) (harg45 : arg45.IsWhole) (arg46 : Memref sig .tc .vmem S1x1x8x128 .f32) (harg46 : arg46.IsWhole) (arg47 : Memref sig .tc .vmem S1x1x8x128 .f32) (harg47 : arg47.IsWhole) (arg48 : Memref sig .tc .vmem S1x1x8x128 .f32) (harg48 : arg48.IsWhole) (arg49 : Memref sig .tc .vmem S1x1x8x128 .f32) (harg49 : arg49.IsWhole) (arg50 : Memref sig .tc .vmem S1x1x8x128 .f32) (harg50 : arg50.IsWhole) (arg51 : Memref sig .tc .vmem S1x1x8x128 .f32) (harg51 : arg51.IsWhole) (arg52 : Memref sig .tc .vmem S1x1x8x128 .f32) (harg52 : arg52.IsWhole) (arg53 : Memref sig .tc .vmem S1x1x8x128 .f32) (harg53 : arg53.IsWhole) (arg54 : Memref sig .tc .vmem S128x128 .bf16) (harg54 : arg54.IsWhole) (arg55 : Memref sig .tc .vmem S8x512 .f32) (harg55 : arg55.IsWhole) (arg56 : Memref sig .tc .vmem S128x512 .f32) (harg56 : arg56.IsWhole) (arg57 : Memref sig .tc .vmem S128x512 .f32) (harg57 : arg57.IsWhole)
    (x0 : Vec F S64x512 .f32) (x1 : Vec F S8x512 .f32) (x2 : Vec F S8x512 .f32) (x3 : Vec F S8x128 .f32) (x4 : Vec F S1x1x8x64x128 .f32) (x5 : Vec F S1x1x8x64x128 .f32) (x6 : Vec F S1x1x8x64x128 .f32) (x7 : Vec F S1x1x8x64x128 .f32) (x8 : Vec F S1x1x8x64x128 .f32) (x9 : Vec F S1x1x8x64x128 .f32) (x10 : Vec F S1x1x8x64x128 .f32) (x11 : Vec F S1x1x8x64x128 .f32) (x12 : Vec F S1x1x8x64x128 .f32) (x13 : Vec F S1x1x8x64x128 .f32) (x14 : Vec F S1x1x8x64x128 .f32) (x15 : Vec F S1x1x8x64x128 .f32) (x16 : Vec F S1x1x8x64x128 .f32) (x17 : Vec F S1x1x8x64x128 .f32) (x18 : Vec F S1x1x8x64x128 .f32) (x19 : Vec F S1x1x8x64x128 .f32) (x20 : Vec F S1x1x8x64x128 .f32) (x21 : Vec F S1x1x8x64x128 .f32) (x22 : Vec F S1x1x8x64x128 .f32) (x23 : Vec F S1x1x8x64x128 .f32) (x24 : Vec F S1x1x8x64x128 .f32) (x25 : Vec F S1x1x8x64x128 .f32) (x26 : Vec F S1x1x8x64x128 .f32) (x27 : Vec F S1x1x8x64x128 .f32) (x28 : Vec F S1x1x8x64x128 .f32) (x29 : Vec F S1x1x8x64x128 .f32) (x30 : Vec F S1x1x8x64x128 .f32) (x31 : Vec F S1x1x8x64x128 .f32) (x32 : Vec F S1x1x8x64x128 .f32) (x33 : Vec F S1x1x8x64x128 .f32) (x34 : Vec F S1x1x8x64x128 .f32) (x35 : Vec F S1x1x8x64x128 .f32) (x36 : Vec F S1x1x8x128 .f32) (x37 : Vec F S1x1x8x128 .f32) (x38 : Vec F S1x1x8x128 .f32) (x39 : Vec F S1x1x8x128 .f32) (x40 : Vec F S1x1x8x128 .f32) (x41 : Vec F S1x1x8x128 .f32) (x42 : Vec F S1x1x8x128 .f32) (x43 : Vec F S1x1x8x128 .f32) (x44 : Vec F S1x1x8x128 .f32) (x45 : Vec F S1x1x8x128 .f32) (x46 : Vec F S1x1x8x128 .f32) (x47 : Vec F S1x1x8x128 .f32) (x48 : Vec F S1x1x8x128 .f32) (x49 : Vec F S1x1x8x128 .f32) (x50 : Vec F S1x1x8x128 .f32) (x51 : Vec F S1x1x8x128 .f32) (x52 : Vec F S128x128 .bf16) (xt0 : TbBuf0 (F := F) c tbM0_0) : Vec F S8x512 .f32 :=
  VO0_53.read (Elt F) (VO0_53.writes (Elt F) VO0_53.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 xt0).1)

/-! ## What the outputs hold after each point -/

/-- What the outputs' staging buffers hold after the body at point `t`: the run's contents at
    the point's memrefs and input blocks. -/
def outsAt0 (hO : Ok m) (c : Dev nD) (t : Fin (cfgM m hO).N) : Vec F S8x512 .f32 :=
  out0_A_53 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) (ms0_37 m hO t) (hs0_37 m hO t) (ms0_38 m hO t) (hs0_38 m hO t) (ms0_39 m hO t) (hs0_39 m hO t) (ms0_40 m hO t) (hs0_40 m hO t) (ms0_41 m hO t) (hs0_41 m hO t) (ms0_42 m hO t) (hs0_42 m hO t) (ms0_43 m hO t) (hs0_43 m hO t) (ms0_44 m hO t) (hs0_44 m hO t) (ms0_45 m hO t) (hs0_45 m hO t) (ms0_46 m hO t) (hs0_46 m hO t) (ms0_47 m hO t) (hs0_47 m hO t) (ms0_48 m hO t) (hs0_48 m hO t) (ms0_49 m hO t) (hs0_49 m hO t) (ms0_50 m hO t) (hs0_50 m hO t) (ms0_51 m hO t) (hs0_51 m hO t) (ms0_52 m hO t) (hs0_52 m hO t) (ms0_53 m hO t) (hs0_53 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (iblk m hO c 36 t) (iblk m hO c 37 t) (iblk m hO c 38 t) (iblk m hO c 39 t) (iblk m hO c 40 t) (iblk m hO c 41 t) (iblk m hO c 42 t) (iblk m hO c 43 t) (iblk m hO c 44 t) (iblk m hO c 45 t) (iblk m hO c 46 t) (iblk m hO c 47 t) (iblk m hO c 48 t) (iblk m hO c 49 t) (iblk m hO c 50 t) (iblk m hO c 51 t) (iblk m hO c 52 t) (tbl m 0)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => iblk m hO c 33 t
    | ⟨34, _⟩ => iblk m hO c 34 t
    | ⟨35, _⟩ => iblk m hO c 35 t
    | ⟨36, _⟩ => iblk m hO c 36 t
    | ⟨37, _⟩ => iblk m hO c 37 t
    | ⟨38, _⟩ => iblk m hO c 38 t
    | ⟨39, _⟩ => iblk m hO c 39 t
    | ⟨40, _⟩ => iblk m hO c 40 t
    | ⟨41, _⟩ => iblk m hO c 41 t
    | ⟨42, _⟩ => iblk m hO c 42 t
    | ⟨43, _⟩ => iblk m hO c 43 t
    | ⟨44, _⟩ => iblk m hO c 44 t
    | ⟨45, _⟩ => iblk m hO c 45 t
    | ⟨46, _⟩ => iblk m hO c 46 t
    | ⟨47, _⟩ => iblk m hO c 47 t
    | ⟨48, _⟩ => iblk m hO c 48 t
    | ⟨49, _⟩ => iblk m hO c 49 t
    | ⟨50, _⟩ => iblk m hO c 50 t
    | ⟨51, _⟩ => iblk m hO c 51 t
    | ⟨52, _⟩ => iblk m hO c 52 t
    | ⟨53, _⟩ => (outsAt0 m hO c t)
    | ⟨_ + 54, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays hold what they hold when the call begins. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = iblk m hO c 21 t := by dsimp only [dats]; try rfl
theorem after0_22 (hO : Ok m) (c : Dev nD) (t : Fin (cfgM m hO).N) : (dats m hO 0 c).after 22 t = iblk m hO c 22 t := by dsimp only [dats]; try rfl
theorem after0_23 (hO : Ok m) (c : Dev nD) (t : Fin (cfgM m hO).N) : (dats m hO 0 c).after 23 t = iblk m hO c 23 t := by dsimp only [dats]; try rfl
theorem after0_24 (hO : Ok m) (c : Dev nD) (t : Fin (cfgM m hO).N) : (dats m hO 0 c).after 24 t = iblk m hO c 24 t := by dsimp only [dats]; try rfl
theorem after0_25 (hO : Ok m) (c : Dev nD) (t : Fin (cfgM m hO).N) : (dats m hO 0 c).after 25 t = iblk m hO c 25 t := by dsimp only [dats]; try rfl
theorem after0_26 (hO : Ok m) (c : Dev nD) (t : Fin (cfgM m hO).N) : (dats m hO 0 c).after 26 t = iblk m hO c 26 t := by dsimp only [dats]; try rfl
theorem after0_27 (hO : Ok m) (c : Dev nD) (t : Fin (cfgM m hO).N) : (dats m hO 0 c).after 27 t = iblk m hO c 27 t := by dsimp only [dats]; try rfl
theorem after0_28 (hO : Ok m) (c : Dev nD) (t : Fin (cfgM m hO).N) : (dats m hO 0 c).after 28 t = iblk m hO c 28 t := by dsimp only [dats]; try rfl
theorem after0_29 (hO : Ok m) (c : Dev nD) (t : Fin (cfgM m hO).N) : (dats m hO 0 c).after 29 t = iblk m hO c 29 t := by dsimp only [dats]; try rfl
theorem after0_30 (hO : Ok m) (c : Dev nD) (t : Fin (cfgM m hO).N) : (dats m hO 0 c).after 30 t = iblk m hO c 30 t := by dsimp only [dats]; try rfl
theorem after0_31 (hO : Ok m) (c : Dev nD) (t : Fin (cfgM m hO).N) : (dats m hO 0 c).after 31 t = iblk m hO c 31 t := by dsimp only [dats]; try rfl
theorem after0_32 (hO : Ok m) (c : Dev nD) (t : Fin (cfgM m hO).N) : (dats m hO 0 c).after 32 t = iblk m hO c 32 t := by dsimp only [dats]; try rfl
theorem after0_33 (hO : Ok m) (c : Dev nD) (t : Fin (cfgM m hO).N) : (dats m hO 0 c).after 33 t = iblk m hO c 33 t := by dsimp only [dats]; try rfl
theorem after0_34 (hO : Ok m) (c : Dev nD) (t : Fin (cfgM m hO).N) : (dats m hO 0 c).after 34 t = iblk m hO c 34 t := by dsimp only [dats]; try rfl
theorem after0_35 (hO : Ok m) (c : Dev nD) (t : Fin (cfgM m hO).N) : (dats m hO 0 c).after 35 t = iblk m hO c 35 t := by dsimp only [dats]; try rfl
theorem after0_36 (hO : Ok m) (c : Dev nD) (t : Fin (cfgM m hO).N) : (dats m hO 0 c).after 36 t = iblk m hO c 36 t := by dsimp only [dats]; try rfl
theorem after0_37 (hO : Ok m) (c : Dev nD) (t : Fin (cfgM m hO).N) : (dats m hO 0 c).after 37 t = iblk m hO c 37 t := by dsimp only [dats]; try rfl
theorem after0_38 (hO : Ok m) (c : Dev nD) (t : Fin (cfgM m hO).N) : (dats m hO 0 c).after 38 t = iblk m hO c 38 t := by dsimp only [dats]; try rfl
theorem after0_39 (hO : Ok m) (c : Dev nD) (t : Fin (cfgM m hO).N) : (dats m hO 0 c).after 39 t = iblk m hO c 39 t := by dsimp only [dats]; try rfl
theorem after0_40 (hO : Ok m) (c : Dev nD) (t : Fin (cfgM m hO).N) : (dats m hO 0 c).after 40 t = iblk m hO c 40 t := by dsimp only [dats]; try rfl
theorem after0_41 (hO : Ok m) (c : Dev nD) (t : Fin (cfgM m hO).N) : (dats m hO 0 c).after 41 t = iblk m hO c 41 t := by dsimp only [dats]; try rfl
theorem after0_42 (hO : Ok m) (c : Dev nD) (t : Fin (cfgM m hO).N) : (dats m hO 0 c).after 42 t = iblk m hO c 42 t := by dsimp only [dats]; try rfl
theorem after0_43 (hO : Ok m) (c : Dev nD) (t : Fin (cfgM m hO).N) : (dats m hO 0 c).after 43 t = iblk m hO c 43 t := by dsimp only [dats]; try rfl
theorem after0_44 (hO : Ok m) (c : Dev nD) (t : Fin (cfgM m hO).N) : (dats m hO 0 c).after 44 t = iblk m hO c 44 t := by dsimp only [dats]; try rfl
theorem after0_45 (hO : Ok m) (c : Dev nD) (t : Fin (cfgM m hO).N) : (dats m hO 0 c).after 45 t = iblk m hO c 45 t := by dsimp only [dats]; try rfl
theorem after0_46 (hO : Ok m) (c : Dev nD) (t : Fin (cfgM m hO).N) : (dats m hO 0 c).after 46 t = iblk m hO c 46 t := by dsimp only [dats]; try rfl
theorem after0_47 (hO : Ok m) (c : Dev nD) (t : Fin (cfgM m hO).N) : (dats m hO 0 c).after 47 t = iblk m hO c 47 t := by dsimp only [dats]; try rfl
theorem after0_48 (hO : Ok m) (c : Dev nD) (t : Fin (cfgM m hO).N) : (dats m hO 0 c).after 48 t = iblk m hO c 48 t := by dsimp only [dats]; try rfl
theorem after0_49 (hO : Ok m) (c : Dev nD) (t : Fin (cfgM m hO).N) : (dats m hO 0 c).after 49 t = iblk m hO c 49 t := by dsimp only [dats]; try rfl
theorem after0_50 (hO : Ok m) (c : Dev nD) (t : Fin (cfgM m hO).N) : (dats m hO 0 c).after 50 t = iblk m hO c 50 t := by dsimp only [dats]; try rfl
theorem after0_51 (hO : Ok m) (c : Dev nD) (t : Fin (cfgM m hO).N) : (dats m hO 0 c).after 51 t = iblk m hO c 51 t := by dsimp only [dats]; try rfl
theorem after0_52 (hO : Ok m) (c : Dev nD) (t : Fin (cfgM m hO).N) : (dats m hO 0 c).after 52 t = iblk m hO c 52 t := by dsimp only [dats]; try rfl
theorem after0_53 (hO : Ok m) (c : Dev nD) (t : Fin (cfgM m hO).N) : (dats m hO 0 c).after 53 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d
theorem before0_22 (hO : Ok m) (c : Dev nD) (t : Fin (cfgM m hO).N) (d) : (dats m hO 0 c).before 22 t d = iblk m hO c 22 t :=
  before0_22_of m hO (dats m hO 0 c) (A_eq m hO c 22) (after0_22 m hO c) t d
theorem before0_23 (hO : Ok m) (c : Dev nD) (t : Fin (cfgM m hO).N) (d) : (dats m hO 0 c).before 23 t d = iblk m hO c 23 t :=
  before0_23_of m hO (dats m hO 0 c) (A_eq m hO c 23) (after0_23 m hO c) t d
theorem before0_24 (hO : Ok m) (c : Dev nD) (t : Fin (cfgM m hO).N) (d) : (dats m hO 0 c).before 24 t d = iblk m hO c 24 t :=
  before0_24_of m hO (dats m hO 0 c) (A_eq m hO c 24) (after0_24 m hO c) t d
theorem before0_25 (hO : Ok m) (c : Dev nD) (t : Fin (cfgM m hO).N) (d) : (dats m hO 0 c).before 25 t d = iblk m hO c 25 t :=
  before0_25_of m hO (dats m hO 0 c) (A_eq m hO c 25) (after0_25 m hO c) t d
theorem before0_26 (hO : Ok m) (c : Dev nD) (t : Fin (cfgM m hO).N) (d) : (dats m hO 0 c).before 26 t d = iblk m hO c 26 t :=
  before0_26_of m hO (dats m hO 0 c) (A_eq m hO c 26) (after0_26 m hO c) t d
theorem before0_27 (hO : Ok m) (c : Dev nD) (t : Fin (cfgM m hO).N) (d) : (dats m hO 0 c).before 27 t d = iblk m hO c 27 t :=
  before0_27_of m hO (dats m hO 0 c) (A_eq m hO c 27) (after0_27 m hO c) t d
theorem before0_28 (hO : Ok m) (c : Dev nD) (t : Fin (cfgM m hO).N) (d) : (dats m hO 0 c).before 28 t d = iblk m hO c 28 t :=
  before0_28_of m hO (dats m hO 0 c) (A_eq m hO c 28) (after0_28 m hO c) t d
theorem before0_29 (hO : Ok m) (c : Dev nD) (t : Fin (cfgM m hO).N) (d) : (dats m hO 0 c).before 29 t d = iblk m hO c 29 t :=
  before0_29_of m hO (dats m hO 0 c) (A_eq m hO c 29) (after0_29 m hO c) t d
theorem before0_30 (hO : Ok m) (c : Dev nD) (t : Fin (cfgM m hO).N) (d) : (dats m hO 0 c).before 30 t d = iblk m hO c 30 t :=
  before0_30_of m hO (dats m hO 0 c) (A_eq m hO c 30) (after0_30 m hO c) t d
theorem before0_31 (hO : Ok m) (c : Dev nD) (t : Fin (cfgM m hO).N) (d) : (dats m hO 0 c).before 31 t d = iblk m hO c 31 t :=
  before0_31_of m hO (dats m hO 0 c) (A_eq m hO c 31) (after0_31 m hO c) t d
theorem before0_32 (hO : Ok m) (c : Dev nD) (t : Fin (cfgM m hO).N) (d) : (dats m hO 0 c).before 32 t d = iblk m hO c 32 t :=
  before0_32_of m hO (dats m hO 0 c) (A_eq m hO c 32) (after0_32 m hO c) t d
theorem before0_33 (hO : Ok m) (c : Dev nD) (t : Fin (cfgM m hO).N) (d) : (dats m hO 0 c).before 33 t d = iblk m hO c 33 t :=
  before0_33_of m hO (dats m hO 0 c) (A_eq m hO c 33) (after0_33 m hO c) t d
theorem before0_34 (hO : Ok m) (c : Dev nD) (t : Fin (cfgM m hO).N) (d) : (dats m hO 0 c).before 34 t d = iblk m hO c 34 t :=
  before0_34_of m hO (dats m hO 0 c) (A_eq m hO c 34) (after0_34 m hO c) t d
theorem before0_35 (hO : Ok m) (c : Dev nD) (t : Fin (cfgM m hO).N) (d) : (dats m hO 0 c).before 35 t d = iblk m hO c 35 t :=
  before0_35_of m hO (dats m hO 0 c) (A_eq m hO c 35) (after0_35 m hO c) t d
theorem before0_36 (hO : Ok m) (c : Dev nD) (t : Fin (cfgM m hO).N) (d) : (dats m hO 0 c).before 36 t d = iblk m hO c 36 t :=
  before0_36_of m hO (dats m hO 0 c) (A_eq m hO c 36) (after0_36 m hO c) t d
theorem before0_37 (hO : Ok m) (c : Dev nD) (t : Fin (cfgM m hO).N) (d) : (dats m hO 0 c).before 37 t d = iblk m hO c 37 t :=
  before0_37_of m hO (dats m hO 0 c) (A_eq m hO c 37) (after0_37 m hO c) t d
theorem before0_38 (hO : Ok m) (c : Dev nD) (t : Fin (cfgM m hO).N) (d) : (dats m hO 0 c).before 38 t d = iblk m hO c 38 t :=
  before0_38_of m hO (dats m hO 0 c) (A_eq m hO c 38) (after0_38 m hO c) t d
theorem before0_39 (hO : Ok m) (c : Dev nD) (t : Fin (cfgM m hO).N) (d) : (dats m hO 0 c).before 39 t d = iblk m hO c 39 t :=
  before0_39_of m hO (dats m hO 0 c) (A_eq m hO c 39) (after0_39 m hO c) t d
theorem before0_40 (hO : Ok m) (c : Dev nD) (t : Fin (cfgM m hO).N) (d) : (dats m hO 0 c).before 40 t d = iblk m hO c 40 t :=
  before0_40_of m hO (dats m hO 0 c) (A_eq m hO c 40) (after0_40 m hO c) t d
theorem before0_41 (hO : Ok m) (c : Dev nD) (t : Fin (cfgM m hO).N) (d) : (dats m hO 0 c).before 41 t d = iblk m hO c 41 t :=
  before0_41_of m hO (dats m hO 0 c) (A_eq m hO c 41) (after0_41 m hO c) t d
theorem before0_42 (hO : Ok m) (c : Dev nD) (t : Fin (cfgM m hO).N) (d) : (dats m hO 0 c).before 42 t d = iblk m hO c 42 t :=
  before0_42_of m hO (dats m hO 0 c) (A_eq m hO c 42) (after0_42 m hO c) t d
theorem before0_43 (hO : Ok m) (c : Dev nD) (t : Fin (cfgM m hO).N) (d) : (dats m hO 0 c).before 43 t d = iblk m hO c 43 t :=
  before0_43_of m hO (dats m hO 0 c) (A_eq m hO c 43) (after0_43 m hO c) t d
theorem before0_44 (hO : Ok m) (c : Dev nD) (t : Fin (cfgM m hO).N) (d) : (dats m hO 0 c).before 44 t d = iblk m hO c 44 t :=
  before0_44_of m hO (dats m hO 0 c) (A_eq m hO c 44) (after0_44 m hO c) t d
theorem before0_45 (hO : Ok m) (c : Dev nD) (t : Fin (cfgM m hO).N) (d) : (dats m hO 0 c).before 45 t d = iblk m hO c 45 t :=
  before0_45_of m hO (dats m hO 0 c) (A_eq m hO c 45) (after0_45 m hO c) t d
theorem before0_46 (hO : Ok m) (c : Dev nD) (t : Fin (cfgM m hO).N) (d) : (dats m hO 0 c).before 46 t d = iblk m hO c 46 t :=
  before0_46_of m hO (dats m hO 0 c) (A_eq m hO c 46) (after0_46 m hO c) t d
theorem before0_47 (hO : Ok m) (c : Dev nD) (t : Fin (cfgM m hO).N) (d) : (dats m hO 0 c).before 47 t d = iblk m hO c 47 t :=
  before0_47_of m hO (dats m hO 0 c) (A_eq m hO c 47) (after0_47 m hO c) t d
theorem before0_48 (hO : Ok m) (c : Dev nD) (t : Fin (cfgM m hO).N) (d) : (dats m hO 0 c).before 48 t d = iblk m hO c 48 t :=
  before0_48_of m hO (dats m hO 0 c) (A_eq m hO c 48) (after0_48 m hO c) t d
theorem before0_49 (hO : Ok m) (c : Dev nD) (t : Fin (cfgM m hO).N) (d) : (dats m hO 0 c).before 49 t d = iblk m hO c 49 t :=
  before0_49_of m hO (dats m hO 0 c) (A_eq m hO c 49) (after0_49 m hO c) t d
theorem before0_50 (hO : Ok m) (c : Dev nD) (t : Fin (cfgM m hO).N) (d) : (dats m hO 0 c).before 50 t d = iblk m hO c 50 t :=
  before0_50_of m hO (dats m hO 0 c) (A_eq m hO c 50) (after0_50 m hO c) t d
theorem before0_51 (hO : Ok m) (c : Dev nD) (t : Fin (cfgM m hO).N) (d) : (dats m hO 0 c).before 51 t d = iblk m hO c 51 t :=
  before0_51_of m hO (dats m hO 0 c) (A_eq m hO c 51) (after0_51 m hO c) t d
theorem before0_52 (hO : Ok m) (c : Dev nD) (t : Fin (cfgM m hO).N) (d) : (dats m hO 0 c).before 52 t d = iblk m hO c 52 t :=
  before0_52_of m hO (dats m hO 0 c) (A_eq m hO c 52) (after0_52 m hO c) t d

/-! ## The body obligation, at a generic point -/

/-- What the body is called with at point `t` (Lib/Pipeline.lean `BodyObligation`'s precondition, the windows one by one), -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d))
    ∗ (∃ d, owns (c : Thread nD τ) (ms0_28 m hO t) fullShare ((dats m hO 0 c).before 28 t d))
    ∗ (∃ d, owns (c : Thread nD τ) (ms0_29 m hO t) fullShare ((dats m hO 0 c).before 29 t d))
    ∗ (∃ d, owns (c : Thread nD τ) (ms0_30 m hO t) fullShare ((dats m hO 0 c).before 30 t d))
    ∗ (∃ d, owns (c : Thread nD τ) (ms0_31 m hO t) fullShare ((dats m hO 0 c).before 31 t d))
    ∗ (∃ d, owns (c : Thread nD τ) (ms0_32 m hO t) fullShare ((dats m hO 0 c).before 32 t d))
    ∗ (∃ d, owns (c : Thread nD τ) (ms0_33 m hO t) fullShare ((dats m hO 0 c).before 33 t d))
    ∗ (∃ d, owns (c : Thread nD τ) (ms0_34 m hO t) fullShare ((dats m hO 0 c).before 34 t d))
    ∗ (∃ d, owns (c : Thread nD τ) (ms0_35 m hO t) fullShare ((dats m hO 0 c).before 35 t d))
    ∗ (∃ d, owns (c : Thread nD τ) (ms0_36 m hO t) fullShare ((dats m hO 0 c).before 36 t d))
    ∗ (∃ d, owns (c : Thread nD τ) (ms0_37 m hO t) fullShare ((dats m hO 0 c).before 37 t d))
    ∗ (∃ d, owns (c : Thread nD τ) (ms0_38 m hO t) fullShare ((dats m hO 0 c).before 38 t d))
    ∗ (∃ d, owns (c : Thread nD τ) (ms0_39 m hO t) fullShare ((dats m hO 0 c).before 39 t d))
    ∗ (∃ d, owns (c : Thread nD τ) (ms0_40 m hO t) fullShare ((dats m hO 0 c).before 40 t d))
    ∗ (∃ d, owns (c : Thread nD τ) (ms0_41 m hO t) fullShare ((dats m hO 0 c).before 41 t d))
    ∗ (∃ d, owns (c : Thread nD τ) (ms0_42 m hO t) fullShare ((dats m hO 0 c).before 42 t d))
    ∗ (∃ d, owns (c : Thread nD τ) (ms0_43 m hO t) fullShare ((dats m hO 0 c).before 43 t d))
    ∗ (∃ d, owns (c : Thread nD τ) (ms0_44 m hO t) fullShare ((dats m hO 0 c).before 44 t d))
    ∗ (∃ d, owns (c : Thread nD τ) (ms0_45 m hO t) fullShare ((dats m hO 0 c).before 45 t d))
    ∗ (∃ d, owns (c : Thread nD τ) (ms0_46 m hO t) fullShare ((dats m hO 0 c).before 46 t d))
    ∗ (∃ d, owns (c : Thread nD τ) (ms0_47 m hO t) fullShare ((dats m hO 0 c).before 47 t d))
    ∗ (∃ d, owns (c : Thread nD τ) (ms0_48 m hO t) fullShare ((dats m hO 0 c).before 48 t d))
    ∗ (∃ d, owns (c : Thread nD τ) (ms0_49 m hO t) fullShare ((dats m hO 0 c).before 49 t d))
    ∗ (∃ d, owns (c : Thread nD τ) (ms0_50 m hO t) fullShare ((dats m hO 0 c).before 50 t d))
    ∗ (∃ d, owns (c : Thread nD τ) (ms0_51 m hO t) fullShare ((dats m hO 0 c).before 51 t d))
    ∗ (∃ d, owns (c : Thread nD τ) (ms0_52 m hO t) fullShare ((dats m hO 0 c).before 52 t d))
    ∗ (∃ d, owns (c : Thread nD τ) (ms0_53 m hO t) fullShare ((dats m hO 0 c).before 53 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t)
    ∗ owns (c : Thread nD τ) (ms0_24 m hO t) fullShare ((dats m hO 0 c).after 24 t)
    ∗ owns (c : Thread nD τ) (ms0_25 m hO t) fullShare ((dats m hO 0 c).after 25 t)
    ∗ owns (c : Thread nD τ) (ms0_26 m hO t) fullShare ((dats m hO 0 c).after 26 t)
    ∗ owns (c : Thread nD τ) (ms0_27 m hO t) fullShare ((dats m hO 0 c).after 27 t)
    ∗ owns (c : Thread nD τ) (ms0_28 m hO t) fullShare ((dats m hO 0 c).after 28 t)
    ∗ owns (c : Thread nD τ) (ms0_29 m hO t) fullShare ((dats m hO 0 c).after 29 t)
    ∗ owns (c : Thread nD τ) (ms0_30 m hO t) fullShare ((dats m hO 0 c).after 30 t)
    ∗ owns (c : Thread nD τ) (ms0_31 m hO t) fullShare ((dats m hO 0 c).after 31 t)
    ∗ owns (c : Thread nD τ) (ms0_32 m hO t) fullShare ((dats m hO 0 c).after 32 t)
    ∗ owns (c : Thread nD τ) (ms0_33 m hO t) fullShare ((dats m hO 0 c).after 33 t)
    ∗ owns (c : Thread nD τ) (ms0_34 m hO t) fullShare ((dats m hO 0 c).after 34 t)
    ∗ owns (c : Thread nD τ) (ms0_35 m hO t) fullShare ((dats m hO 0 c).after 35 t)
    ∗ owns (c : Thread nD τ) (ms0_36 m hO t) fullShare ((dats m hO 0 c).after 36 t)
    ∗ owns (c : Thread nD τ) (ms0_37 m hO t) fullShare ((dats m hO 0 c).after 37 t)
    ∗ owns (c : Thread nD τ) (ms0_38 m hO t) fullShare ((dats m hO 0 c).after 38 t)
    ∗ owns (c : Thread nD τ) (ms0_39 m hO t) fullShare ((dats m hO 0 c).after 39 t)
    ∗ owns (c : Thread nD τ) (ms0_40 m hO t) fullShare ((dats m hO 0 c).after 40 t)
    ∗ owns (c : Thread nD τ) (ms0_41 m hO t) fullShare ((dats m hO 0 c).after 41 t)
    ∗ owns (c : Thread nD τ) (ms0_42 m hO t) fullShare ((dats m hO 0 c).after 42 t)
    ∗ owns (c : Thread nD τ) (ms0_43 m hO t) fullShare ((dats m hO 0 c).after 43 t)
    ∗ owns (c : Thread nD τ) (ms0_44 m hO t) fullShare ((dats m hO 0 c).after 44 t)
    ∗ owns (c : Thread nD τ) (ms0_45 m hO t) fullShare ((dats m hO 0 c).after 45 t)
    ∗ owns (c : Thread nD τ) (ms0_46 m hO t) fullShare ((dats m hO 0 c).after 46 t)
    ∗ owns (c : Thread nD τ) (ms0_47 m hO t) fullShare ((dats m hO 0 c).after 47 t)
    ∗ owns (c : Thread nD τ) (ms0_48 m hO t) fullShare ((dats m hO 0 c).after 48 t)
    ∗ owns (c : Thread nD τ) (ms0_49 m hO t) fullShare ((dats m hO 0 c).after 49 t)
    ∗ owns (c : Thread nD τ) (ms0_50 m hO t) fullShare ((dats m hO 0 c).after 50 t)
    ∗ owns (c : Thread nD τ) (ms0_51 m hO t) fullShare ((dats m hO 0 c).after 51 t)
    ∗ owns (c : Thread nD τ) (ms0_52 m hO t) fullShare ((dats m hO 0 c).after 52 t)
    ∗ owns (c : Thread nD τ) (ms0_53 m hO t) fullShare ((dats m hO 0 c).after 53 t))

set_option maxHeartbeats 0 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36, before0_37, before0_38, before0_39, before0_40, before0_41, before0_42, before0_43, before0_44, before0_45, before0_46, before0_47, before0_48, before0_49, before0_50, before0_51, before0_52]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47, after0_48, after0_49, after0_50, after0_51, after0_52, after0_53]
  rw [show (dats m hO 0 c).Φ t.castSucc = iprop(Pipeline.ΦA spec0 c ∗ Pipeline.ΦT pre0 (tbl m) c) from rfl, PhiT0_eq, PhiA0_eq]
  unfold outsAt0
  unfold out0_A_53
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (iblk m hO c 36 t) (iblk m hO c 37 t) (iblk m hO c 38 t) (iblk m hO c 39 t) (iblk m hO c 40 t) (iblk m hO c 41 t) (iblk m hO c 42 t) (iblk m hO c 43 t) (iblk m hO c 44 t) (iblk m hO c 45 t) (iblk m hO c 46 t) (iblk m hO c 47 t) (iblk m hO c 48 t) (iblk m hO c 49 t) (iblk m hO c 50 t) (iblk m hO c 51 t) (iblk m hO c 52 t) (tbl m 0)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexists _; iexact H53
  isplitl [HS0]; · iexact HS0
  isplitl [HS1]; · iexact HS1
  isplitl [HT0]; · iexact HT0
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, ⟨%e53, H53⟩, ⟨%fT0, HS0⟩, ⟨%fT1, HS1⟩, HT0⟩
  isplitl [HS0 HS1 Hg HT0]
  · isplitl [HS0 HS1 Hg]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  unfold owns; iexists _; isplitr
  swap; · iexact H53
  ipureintro; exact View.read_writes_of_cover _ _ _ _ _ (cover0_A_53 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option backward.isDefEq.respectTransparency.types false in
/-- THE LAUNCH: `run_main`'s statement, and every semaphore counter at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- For any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO)

/-- The frame, over any float values: under the side condition on the page table, every run ends with the arguments unchanged
    and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.KernelIdeal.Gen

end
-- ==== Proof.DecodeClaims.lean ====
/- The paged decode attention: where every entry of the page table names a page of the pool, every block that the table selects
   lies in its array, so the program runs to its end, over the float words and over the extended reals. -/
module

public import proofs.«01_k».proof.Defs
public import proofs.«01_k».proof.Proof.DecodeFrame
public import proofs.«01_k».proof.Proof.Gen.Kernel
public import proofs.«01_k».proof.Proof.Gen.ReferenceIdeal.Run
public import proofs.«01_k».proof.Proof.Gen.Pre_pages_exist
public import Idealize.ShloMosaic.Lib.Pipeline.ValueKit
public import Idealize.ShloMosaic.Lib.StableHlo.RunRead
public import Idealize.ShloMosaic.Lib.Affine
public import Idealize.ShloMosaic.Lib.WordCmp
public import Idealize.ShloMosaic.Lib.Claim

@[expose] public section

noncomputable section

namespace Cert.KernelIdeal.Pages

open Idealize.ShloMosaic Idealize.SL.Sem Idealize.ShloMosaic.TcCoe
open Cert.KernelIdeal Cert.KernelIdeal.Gen

/-- A page of a key or value pool below 2560 lies in the pool. -/
theorem page5 (x : BitVec 32) (hx : x.toNat < 2560) (a : Fin 5) :
    ((![(1#32).toNat, x.toNat, (0#32).toNat, (0#32).toNat, (0#32).toNat] : Fin 5 → Nat) a + 1) * S1x1x8x64x128.size a ≤ S2x2560x8x64x128.size a := by
  match a with
  | 0 => show (1 + 1) * 1 ≤ 2; omega
  | 1 => show (x.toNat + 1) * 1 ≤ 2560; omega
  | 2 => show (0 + 1) * 8 ≤ 8; omega
  | 3 => show (0 + 1) * 64 ≤ 64; omega
  | 4 => show (0 + 1) * 128 ≤ 128; omega

/-- A page of the log forget gates' pool below 2560 lies in the pool. -/
theorem page4 (x : BitVec 32) (hx : x.toNat < 2560) (a : Fin 4) :
    ((![(1#32).toNat, x.toNat, (0#32).toNat, (0#32).toNat] : Fin 4 → Nat) a + 1) * S1x1x8x128.size a ≤ S2x2560x8x128.size a := by
  match a with
  | 0 => show (1 + 1) * 1 ≤ 2; omega
  | 1 => show (x.toNat + 1) * 1 ≤ 2560; omega
  | 2 => show (0 + 1) * 8 ≤ 8; omega
  | 3 => show (0 + 1) * 128 ≤ 128; omega

variable {F : FTy → Type} [FloatOps F]

/-- A table whose entries are below 2560 selects blocks of the arrays. -/
theorem ok_of_range (pf : pre0.Contents (Elt F)) (h : ∀ r hr, (pf.at 0 r hr : BitVec 32).toNat < 2560) : ok0 pf := by
  unfold ok0
  refine ⟨fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page5 _ (h _ _), Or.inl rfl⟩,
    fun i => ⟨page4 _ (h _ _), Or.inl rfl⟩,
    fun i => ⟨page4 _ (h _ _), Or.inl rfl⟩,
    fun i => ⟨page4 _ (h _ _), Or.inl rfl⟩,
    fun i => ⟨page4 _ (h _ _), Or.inl rfl⟩,
    fun i => ⟨page4 _ (h _ _), Or.inl rfl⟩,
    fun i => ⟨page4 _ (h _ _), Or.inl rfl⟩,
    fun i => ⟨page4 _ (h _ _), Or.inl rfl⟩,
    fun i => ⟨page4 _ (h _ _), Or.inl rfl⟩,
    fun i => ⟨page4 _ (h _ _), Or.inl rfl⟩,
    fun i => ⟨page4 _ (h _ _), Or.inl rfl⟩,
    fun i => ⟨page4 _ (h _ _), Or.inl rfl⟩,
    fun i => ⟨page4 _ (h _ _), Or.inl rfl⟩,
    fun i => ⟨page4 _ (h _ _), Or.inl rfl⟩,
    fun i => ⟨page4 _ (h _ _), Or.inl rfl⟩,
    fun i => ⟨page4 _ (h _ _), Or.inl rfl⟩,
    fun i => ⟨page4 _ (h _ _), Or.inl rfl⟩⟩

/-- The entries of the table that the call reads are those of the argument. -/
theorem table_at (m : (ℓ : Loc nD τ sig) → Buf (Elt F) ℓ) (q : Fin 2048) :
    V m 0 main_v29 (ix1 q) = m (((0 : Dev nD) : Thread nD τ).loc main_arg0) (ix2 ⟨q.val / 16, by omega⟩ ⟨q.val % 16, by omega⟩) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_reads_simp
  pointwise []

/-- So a page table of pages that exist selects blocks of the arrays. -/
theorem ok_of_pages (m : (ℓ : Loc nD τ sig) → Buf (Elt F) ℓ)
    (h : ∀ y : S128x16.Idx, (m (((0 : Dev nD) : Thread nD τ).loc main_arg0) y : BitVec 32).toNat < 2560) : Ok m := by
  have key : ∀ x : S2048.Idx, (V m 0 main_v29 x : BitVec 32).toNat < 2560 := by
    intro x
    idx_vars x
    exact (congrArg BitVec.toNat (table_at m x0)).trans_lt (h _)
  exact ok_of_range _ fun r hr => key _

/-- What the precondition says of one word. -/
theorem page_of_words (x : BitVec 32) (h : IntOp.andi (IntOp.cmpi .sge x 0#32) (IntOp.cmpi .slt x 2560#32) = 1#1) : x.toNat < 2560 := by
  rw [IntOp.andi_eq_one, IntOp.cmpi_sge, IntOp.cmpi_slt] at h
  have h0 : (0#32 : BitVec 32).toInt = 0 := by decide
  have h1 : (2560#32 : BitVec 32).toInt = 2560 := by decide
  rw [h0, h1] at h
  have := BitVec.toInt_eq_toNat_cond x
  split at this <;> omega

/-- What it says of the page table. -/
theorem pages_of_pre (a0 : IVec S128x16 32) (a1 a2 a3 : FVec F Cert.Pre_pages_exist.S128x4x8x64 .f32) (a4 : FVec F Cert.Pre_pages_exist.S128x4x8 .f32)
    (a5 a6 : FVec F Cert.Pre_pages_exist.S2x2560x128x8x64 .f32) (a7 : FVec F Cert.Pre_pages_exist.S2x2560x128x8 .f32)
    (h : Cert.Pre_pages_exist.fn (F := F) a0 a1 a2 a3 a4 a5 a6 a7 = fun _ => 1#1) (y : S128x16.Idx) : (a0 y).toNat < 2560 :=
  page_of_words _ (congrFun h y)

end Cert.KernelIdeal.Pages

namespace Cert.Proof.Decode

open Idealize.ShloMosaic Idealize.SL.Sem Cert.KernelIdeal.Pages

/-- The idealized program runs to its end and leaves its arguments. -/
theorem runs_ideal : Cert.quiescent_KernelIdeal := fun m ρ h =>
  Cert.KernelIdeal.Gen.frame m ρ (ok_of_pages m (pages_of_pre _ _ _ _ _ _ _ _ (h 0)))

open Idealize.ShloMosaic.TcCoe in
/-- The idealized program's text, over the float words. -/
def TextRuns : Prop :=
  ∀ (m : (ℓ : Loc Cert.KernelIdeal.nD Cert.KernelIdeal.τ Cert.KernelIdeal.sig) → Buf (Elt Bits) ℓ) (g : Dev Cert.KernelIdeal.nD → PrngReg), (∀ y : Cert.KernelIdeal.S128x16.Idx, (m (((0 : Dev Cert.KernelIdeal.nD) : Thread Cert.KernelIdeal.nD Cert.KernelIdeal.τ).loc Cert.KernelIdeal.main_arg0) y : BitVec 32).toNat < 2560) →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

open Idealize.ShloMosaic.TcCoe in
/-- The program's text. -/
def ProgramRuns : Prop :=
  ∀ (m : (ℓ : Loc Cert.Kernel.nD Cert.Kernel.τ Cert.Kernel.sig) → Buf (Elt Bits) ℓ) (g : Dev Cert.Kernel.nD → PrngReg), (∀ y : Cert.Kernel.S128x16.Idx, (m (((0 : Dev Cert.Kernel.nD) : Thread Cert.Kernel.nD Cert.Kernel.τ).loc Cert.Kernel.main_arg0) y : BitVec 32).toNat < 2560) →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

/-- The two programs have the same text. -/
theorem same_text : TextRuns = ProgramRuns := by sl_kernel_rfl

theorem text_runs : TextRuns := fun m ρ h => Cert.KernelIdeal.Gen.frame (F := Bits) m ρ (ok_of_pages (F := Bits) m h)

/-- So does the program, whose text is the same. -/
theorem runs : Cert.quiescent_Kernel := fun m ρ h =>
  Eq.mp same_text text_runs m ρ (pages_of_pre _ _ _ _ _ _ _ _ (h 0))

/-- So does the reference. -/
theorem runs_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

end Cert.Proof.Decode

end

end
-- ==== Proof.Norm.lean ====
module

public import Idealize.ShloMosaic.Lib.Pipeline.ValueKit
public import Idealize.ShloMosaic.PureOps.Ideal.Laws

@[expose] public section

noncomputable section

namespace Cert.Common

open Idealize.ShloMosaic

/-- A row of 1024 entries divided by its root mean square, at one entry, times that entry's weight. -/
def rms (row g : Fin 1024 → EReal) (k : Fin 1024) : EReal :=
  row k * Ideal.rsqrt (Ideal.div (∑ j, row j * row j) (Ideal.ofBits FTy.f32 1149239296#32)
    + Ideal.ofBits FTy.f32 897988541#32) * g k

/-- The square of the positive part. -/
def sqrelu (x : EReal) : EReal := max x 0 * max x 0

end Cert.Common
-- ==== Proof.MlpValue.lean ====
module

public import proofs.«01_k».proof.Proof.Norm
public import proofs.«01_k».proof.Proof.Gen.MlpIdeal.Value
public import proofs.«01_k».proof.Proof.Gen.MlpRefIdeal.Read
public import Idealize.ShloMosaic.Lib.Pipeline.ValueKit

@[expose] public section

set_option maxRecDepth 16384

noncomputable section

namespace Cert.MlpIdeal.Proofs

open Cert.MlpIdeal Cert.MlpIdeal.Gen Idealize.ShloMosaic Idealize.ShloMosaic.TcCoe Idealize.SL.Sem
open Idealize.ShloMosaic.Pipeline (Dat)
open Cert.Common

theorem pay1_at (x : FVec Ideal S1024x1024 .f32) (g : FVec Ideal S1x1024 .f32) (r l : Fin 1024) :
    k0_pay1 (F := Ideal) x g (ix2 r l) = rms (fun k => x (ix2 r k)) (fun k => g (ix2 0 k)) l := by
  pointwise [k0_pay1, rms]

theorem pay2_at (r l : Fin 1024) : k0_pay2 (F := Ideal) (ix2 r l) = 0 := by
  pointwise [k0_pay2]

/-- One hidden tile's part of the output, from the normalised rows. -/
def part (h : FVec Ideal S1024x1024 .bf16) (u d : FVec Ideal S1024x1024 .bf16) (y : S1024x1024.Idx) : EReal :=
  ∑ x, sqrelu (∑ j, h (ix2 (y 0) j) * u (ix2 j x)) * d (ix2 x (y 1))

theorem pay3_at (h : FVec Ideal S1024x1024 .bf16) (u : FVec Ideal S1024x1024 .bf16) (a : FVec Ideal S1024x1024 .f32)
    (d : FVec Ideal S1024x1024 .bf16) (y : S1024x1024.Idx) :
    k0_pay3 (F := Ideal) h u a d y = (a y + part h u d y : EReal) := by
  idx_vars y; pointwise [k0_pay3, part, sqrelu]

theorem pay4_at (x a : FVec Ideal S1024x1024 .f32) (y : S1024x1024.Idx) :
    k0_pay4 (F := Ideal) x a y = (x y + a y : EReal) := by
  idx_vars y; pointwise [k0_pay4]

open Cert.MlpRefIdeal.Read in
theorem ref_at (x : FVec Ideal Cert.MlpRefIdeal.S4x4096x1024 .f32) (g : FVec Ideal Cert.MlpRefIdeal.S1024 .f32)
    (u : FVec Ideal Cert.MlpRefIdeal.S1024x4096 .f32) (d : FVec Ideal Cert.MlpRefIdeal.S4096x1024 .f32)
    (r : Fin 16384) (l : Fin 1024) :
    val_main_v18 (F := Ideal) x g u d (ix2 r l) =
      x (ix3 ⟨r.val / 4096, by omega⟩ ⟨r.val % 4096, by omega⟩ l) +
      ∑ k : Fin 4096, sqrelu (∑ j, rms (fun j => x (ix3 ⟨r.val / 4096, by omega⟩ ⟨r.val % 4096, by omega⟩ j)) (fun j => g (ix1 j)) j * u (ix2 j k))
        * d (ix2 k l) := by
  pointwise [val_main_v18, val_main_v17, val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0, val_main_cst_1, val_main_call0_cst, val_main_call0_v0, rms, sqrelu]

variable (m : (ℓ : Loc nD τ sig) → Buf (Elt Ideal) ℓ)

theorem idx : ∀ t : Fin cfg0.N, win0_0.index t = ![t.val / 4, 0] ∧ win0_1.index t = ![0, 0]
    ∧ win0_2.index t = ![0, t.val % 4] ∧ win0_3.index t = ![t.val % 4, 0] ∧ win0_4.index t = ![t.val / 4, 0] :=
  (by decide +kernel : ∀ t : Fin grid0.N, _)

theorem x_at (c : Dev nD) (r : Fin 16384) (l : Fin 1024) :
    V m c main_v0 (ix2 r l) = m ((c : Thread nD τ).loc main_arg0) (ix3 ⟨r.val / 4096, by omega⟩ ⟨r.val % 4096, by omega⟩ l) := by
  entry_read; pointwise []
theorem u_at (c : Dev nD) (r : Fin 1024) (l : Fin 4096) :
    V m c main_v1 (ix2 r l) = m ((c : Thread nD τ).loc main_arg2) (ix2 r l) := by
  entry_read; pointwise []
theorem d_at (c : Dev nD) (r : Fin 4096) (l : Fin 1024) :
    V m c main_v2 (ix2 r l) = m ((c : Thread nD τ).loc main_arg3) (ix2 r l) := by
  entry_read; pointwise []
theorem g_at (c : Dev nD) (l : Fin 1024) :
    V m c main_v3 (ix2 0 l) = m ((c : Thread nD τ).loc main_arg1) (ix1 l) := by
  entry_read; pointwise []

/-- The normalised rows of the tile that point `t` works on. -/
abbrev hn (c : Dev nD) (t : Fin cfg0.N) : FVec Ideal S1024x1024 .bf16 :=
  k0_pay1 (F := Ideal) (iblk m c 0 t) (iblk m c 1 t)

theorem hn_step (c : Dev nD) (t t' : Fin cfg0.N) (h : t'.val / 4 = t.val / 4) : hn m c t' = hn m c t := by
  have e0 : iblk m c 0 t' = iblk m c 0 t := by
    funext y
    blk_ext [iblk, idx t, idx t']
  have e1 : iblk m c 1 t' = iblk m c 1 t := by
    funext y
    blk_ext [iblk, idx t, idx t']
  unfold hn
  rw [e0, e1]

theorem scratch_hn (c : Dev nD) : ∀ (n : ℕ) (hlt : n < cfg0.N), (outsAt0 m c n hlt).2.1 = hn m c ⟨n, hlt⟩
  | 0, hlt => by
    rw [outsAt0_A m c ⟨0, hlt⟩ (by rfl) (by show ¬(0 % 4 = 3); decide)]
    frame_out
  | n + 1, hlt => by
    by_cases h0 : (n + 1) % 4 = 0
    · rw [outsAt0_A m c ⟨n + 1, hlt⟩ h0 (by show ¬((n + 1) % 4 = 3); omega)]
      frame_out
    · have e := (scratch_hn c n (Nat.lt_of_succ_lt hlt)).trans (hn_step m c ⟨n + 1, hlt⟩ ⟨n, Nat.lt_of_succ_lt hlt⟩ (by show n / 4 = (n + 1) / 4; omega))
      by_cases h1 : (n + 1) % 4 = 3
      · rw [outsAt0_C m c ⟨n + 1, hlt⟩ h0 h1]
        frame_out
        exact e
      · rw [outsAt0_B m c ⟨n + 1, hlt⟩ h0 h1]
        frame_out
        exact e

theorem acc_first (c : Dev nD) (t : Fin cfg0.N) (h : t.val % 4 = 0) :
    (outsAt0 m c t.val t.isLt).2.2 = k0_pay3 (F := Ideal) (hn m c t) (iblk m c 2 t) (k0_pay2 (F := Ideal)) (iblk m c 3 t) := by
  rw [outsAt0_A m c t h (by omega)]
  frame_out

theorem acc_next (c : Dev nD) (t : Fin cfg0.N) (h : ¬t.val % 4 = 0) :
    (outsAt0 m c t.val t.isLt).2.2 = k0_pay3 (F := Ideal) (hn m c t) (iblk m c 2 t)
      (outsAt0 m c (t.val - 1) (Nat.lt_of_le_of_lt (Nat.sub_le _ _) t.isLt)).2.2 (iblk m c 3 t) := by
  have e := scratch_hn m c (t.val - 1) (Nat.lt_of_le_of_lt (Nat.sub_le _ _) t.isLt)
  rw [hn_step m c t _ (by show (t.val - 1) / 4 = t.val / 4; omega)] at e
  by_cases h1 : t.val % 4 = 3
  · rw [outsAt0_C m c t h h1]
    frame_out
    rw [e]
    exact congrArg₂ (fun a b => k0_pay3 (F := Ideal) a _ b _) (Memref.IsWhole.read_unread (Memref.isWhole_whole _) _) (Memref.IsWhole.read_unread (Memref.isWhole_whole _) _)
  · rw [outsAt0_B m c t h h1]
    frame_out
    rw [e]
    exact congrArg₂ (fun a b => k0_pay3 (F := Ideal) a _ b _) (Memref.IsWhole.read_unread (Memref.isWhole_whole _) _) (Memref.IsWhole.read_unread (Memref.isWhole_whole _) _)

theorem out_last (c : Dev nD) (t : Fin cfg0.N) (h : t.val % 4 = 3) :
    (outsAt0 m c t.val t.isLt).1 = k0_pay4 (F := Ideal) (iblk m c 0 t) (outsAt0 m c t.val t.isLt).2.2 := by
  rw [outsAt0_C m c t (by omega) h]
  frame_out

/-- The running sum over the hidden tiles, at the last point of a run. -/
theorem scratch_acc (c : Dev nD) (t : Fin cfg0.N) (ht : t.val % 4 = 3) (y : S1024x1024.Idx) :
    ((outsAt0 m c t.val t.isLt).2.2 y : EReal)
      = ∑ s : Fin 4, part (hn m c t) (iblk m c 2 ⟨4 * (t.val / 4) + s.val, Pipeline.run_point_lt_of_flush t ht s⟩)
          (iblk m c 3 ⟨4 * (t.val / 4) + s.val, Pipeline.run_point_lt_of_flush t ht s⟩) y := by
  have e := Pipeline.eq_sum_fin_of_reset_step_apply_of_flush (M := EReal) (ι := S1024x1024.Idx) (fun n h => (outsAt0 m c n h).2.2) 4 (fun _ => 0)
    (fun t y => part (hn m c t) (iblk m c 2 t) (iblk m c 3 t) y)
    (fun t h y => by
      beta_reduce
      rw [acc_first m c t h, pay3_at]
      congr 1
      idx_vars y; exact pay2_at _ _)
    (fun t h y => by
      beta_reduce
      rw [acc_next m c t h, pay3_at]) t ht y
  refine e.trans ?_
  rw [zero_add]
  refine Finset.sum_congr rfl fun s _ => ?_
  rw [hn_step m c t ⟨4 * (t.val / 4) + s.val, Pipeline.run_point_lt_of_flush t ht s⟩ (by show (4 * (t.val / 4) + s.val) / 4 = t.val / 4; omega)]

theorem lt_tiles (t : Fin cfg0.N) (r : Fin 1024) : t.val / 4 * 1024 + r.val < 16384 := by
  have h : t.val < 64 := lt_of_lt_of_eq t.isLt N_0
  omega

theorem x_blk (c : Dev nD) (t : Fin cfg0.N) (r l : Fin 1024) :
    iblk m c 0 t (ix2 r l) = m ((c : Thread nD τ).loc main_arg0)
      (ix3 ⟨(t.val / 4 * 1024 + r.val) / 4096, by have := lt_tiles t r; omega⟩ ⟨(t.val / 4 * 1024 + r.val) % 4096, by omega⟩ l) := by
  refine Eq.trans ?_ (x_at m c ⟨t.val / 4 * 1024 + r.val, lt_tiles t r⟩ l)
  blk_ext [iblk, idx t]
theorem g_blk (c : Dev nD) (t : Fin cfg0.N) (l : Fin 1024) :
    iblk m c 1 t (ix2 0 l) = m ((c : Thread nD τ).loc main_arg1) (ix1 l) := by
  refine Eq.trans ?_ (g_at m c l)
  blk_ext [iblk, idx t]
theorem u_blk (c : Dev nD) (t : Fin cfg0.N) (r l : Fin 1024) :
    iblk m c 2 t (ix2 r l) = m ((c : Thread nD τ).loc main_arg2) (ix2 r ⟨t.val % 4 * 1024 + l.val, by omega⟩) := by
  refine Eq.trans ?_ (u_at m c r ⟨t.val % 4 * 1024 + l.val, by omega⟩)
  blk_ext [iblk, idx t]
theorem d_blk (c : Dev nD) (t : Fin cfg0.N) (r l : Fin 1024) :
    iblk m c 3 t (ix2 r l) = m ((c : Thread nD τ).loc main_arg3) (ix2 ⟨t.val % 4 * 1024 + r.val, by omega⟩ l) := by
  refine Eq.trans ?_ (d_at m c ⟨t.val % 4 * 1024 + r.val, by omega⟩ l)
  blk_ext [iblk, idx t]

theorem final (c : Dev nD) : (dats m 0 c).arrAt 4 (cfgs 0).N
    = Cert.MlpRefIdeal.Read.val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht := (flush0_4 t).mp hf
  blk_simp
  rw [after0_4, out_last m c t ht, pay4_at, scratch_acc m c t ht]
  idx_vars y;
  have ee : ((win0_4.blk t).view.emb (ix2 y0 y1)) = ix2 (⟨t.val / 4 * 1024 + y0.val, lt_tiles t y0⟩ : Fin 16384) y1 := by
    blk_ext [idx t]
  refine Eq.trans ?_ (congrArg _ ee).symm
  refine Eq.trans ?_ (ref_at _ _ _ _ _ _).symm
  refine congrArg₂ (· + ·) (x_blk m c t y0 y1) ?_
  unfold part
  refine Fin.sum_mul_add_congr fun s k hl => ?_
  have hs : (4 * (t.val / 4) + s.val) % 4 = s.val := by omega
  refine congrArg₂ (· * ·) (congrArg sqrelu (Finset.sum_congr rfl fun j _ => congrArg₂ (· * ·) ?_ ?_)) ?_
  · refine (pay1_at _ _ y0 j).trans (congrArg₂ (fun a b => rms a b j) (funext fun l => x_blk m c t y0 l) (funext fun l => g_blk m c t l))
  · refine (u_blk m c _ j k).trans (congrArg _ ?_)
    blk_ext [hs]
  · refine (d_blk m c _ k y1).trans (congrArg _ ?_)
    blk_ext [hs]

end Cert.MlpIdeal.Proofs
-- ==== Proof.MlpClaims.lean ====
/- What is claimed of `Mlp`: its three runs, and the value of its result. -/
module

public import proofs.«01_k».proof.Defs
public import proofs.«01_k».proof.Proof.MlpValue
public import proofs.«01_k».proof.Proof.Gen.Mlp.Frame
public import proofs.«01_k».proof.Proof.Gen.MlpIdeal.Frame
public import proofs.«01_k».proof.Proof.Gen.MlpRefIdeal.Run
public import proofs.«01_k».proof.Proof.Gen.MlpRefIdeal.Read
public import Idealize.ShloMosaic.Lib.Claim

@[expose] public section

noncomputable section

namespace Cert.Proof.Mlp

open Idealize.ShloMosaic Idealize.SL.Sem

/-- The program runs to its end and leaves its arguments. -/
theorem runs : Cert.quiescent_Mlp := fun m ρ _ => Cert.Mlp.Gen.frame m ρ

/-- So does the idealized program. -/
theorem runs_ideal : Cert.quiescent_MlpIdeal := fun m ρ _ => Cert.MlpIdeal.Gen.frame m ρ

/-- So does the reference. -/
theorem runs_reference : Cert.quiescent_MlpRefIdeal := fun m g _ =>
  (θ_run Cert.MlpRefIdeal.defs _ _).mono
    (fun r h => ⟨fun c => (h c).2, Idealize.ShloMosaic.sem_eq_zero_of_no_sems (by decide) r.2⟩)
    (Cert.MlpRefIdeal.Value.run (F := Ideal) m g)

/-- The idealized program's result is the reference's. -/
theorem value : Cert.algebraic_MlpIdeal_MlpRefIdeal := by
  intro m g m' g' hpre hag
  refine ⟨fun c => Cert.MlpRefIdeal.Read.val_main_v18 (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)), ?_, ?_⟩
  · run_from Cert.MlpIdeal.Gen.run_main m g
    exact Cert.MlpIdeal.Proofs.final m c
  · refine (θ_run Cert.MlpRefIdeal.defs _ _).mono (fun r h c => ⟨(h c).1.trans ?_, (h c).2⟩)
      (Cert.MlpRefIdeal.Value.run (F := Ideal) m' g')
    obtain ⟨h0, h1, h2, h3⟩ := hag c
    rw [Cert.MlpRefIdeal.Read.val_main_v18_eq]
    rw [h0, h1, h2, h3]

end Cert.Proof.Mlp

end

end
-- ==== Proof.MergeValue.lean ====
module

public import proofs.«01_k».proof.Proof.Norm
public import proofs.«01_k».proof.Proof.Gen.MergeIdeal.Value
public import proofs.«01_k».proof.Proof.Gen.MergeRefIdeal.Read
public import Idealize.ShloMosaic.Lib.Pipeline.ValueKit

@[expose] public section

set_option maxRecDepth 16384

noncomputable section

namespace Cert.MergeIdeal.Proofs

open Cert.MergeIdeal Cert.MergeIdeal.Gen Idealize.ShloMosaic Idealize.ShloMosaic.TcCoe Idealize.SL.Sem
open Idealize.ShloMosaic.Pipeline (Dat)
open Cert.Common

/-- The logistic function. -/
def sigm (x : EReal) : EReal := Ideal.div 1 (1 + Ideal.exp (-x))

/-- One row of the gated merge of three branches, projected, with its residual, at one entry. -/
def mergeRow (x g : Fin 1024 → EReal) (w0 w1 w2 : Fin 1024 → Fin 1024 → EReal) (y0 y1 y2 : Fin 512 → EReal)
    (b0 b1 b2 : Fin 512 → Fin 1024 → EReal) (wo : Fin 1024 → Fin 1024 → EReal) (l : Fin 1024) : EReal :=
  x l + ∑ k, (sigm (∑ j, rms x g j * w0 j k) * ∑ i, y0 i * b0 i k
    + sigm (∑ j, rms x g j * w1 j k) * ∑ i, y1 i * b1 i k
    + sigm (∑ j, rms x g j * w2 j k) * ∑ i, y2 i * b2 i k) * wo k l

theorem pay2_at (x : FVec Ideal S512x1024 .f32) (g : FVec Ideal S1x1024 .f32) (r : Fin 512) (l : Fin 1024) :
    k0_pay2 (F := Ideal) x g (ix2 r l) = rms (fun k => x (ix2 r k)) (fun k => g (ix2 0 k)) l := by
  pointwise [k0_pay1, k0_pay2, rms]

theorem pay5_at (x : FVec Ideal S512x1024 .f32) (g : FVec Ideal S1x1024 .f32) (w0 w1 w2 : FVec Ideal S1024x1024 .bf16)
   (y0 y1 y2 : FVec Ideal S512x512 .f32) (b0 b1 b2 : FVec Ideal S512x1024 .bf16) (wo : FVec Ideal S1024x1024 .bf16) (r : Fin 512) (l : Fin 1024) :
    k0_pay5 (F := Ideal) (k0_pay1 (F := Ideal) x) (k0_pay2 (F := Ideal) x g)
      (k0_pay3 (F := Ideal) x g w0 y0 b0) (k0_pay4 (F := Ideal) x g w1) (Scalar.ofBits .f32 0x00000000#32) y1 b1 w2 y2 b2 wo (ix2 r l)
    = mergeRow (fun k => x (ix2 r k)) (fun k => g (ix2 0 k)) (fun j k => w0 (ix2 j k)) (fun j k => w1 (ix2 j k)) (fun j k => w2 (ix2 j k))
        (fun k => y0 (ix2 r k)) (fun k => y1 (ix2 r k)) (fun k => y2 (ix2 r k)) (fun j k => b0 (ix2 j k)) (fun j k => b1 (ix2 j k)) (fun j k => b2 (ix2 j k))
        (fun j k => wo (ix2 j k)) l := by
  pointwise [k0_pay5, k0_pay4, k0_pay3, mergeRow, sigm]
  simp only [pay2_at, sub_eq_add_neg, zero_add]
  pointwise [k0_pay1]

open Cert.MergeRefIdeal.Read in
theorem ref_at (x : FVec Ideal Cert.MergeRefIdeal.S4x4096x1024 .f32) (g : FVec Ideal Cert.MergeRefIdeal.S1024 .f32)
    (w : FVec Ideal Cert.MergeRefIdeal.S1024x7184 .f32) (y0 y1 y2 : FVec Ideal Cert.MergeRefIdeal.S4x4096x512 .f32)
    (b0 b1 b2 : FVec Ideal Cert.MergeRefIdeal.S512x1024 .f32) (wo : FVec Ideal Cert.MergeRefIdeal.S1024x1024 .f32)
    (r : Fin 16384) (l : Fin 1024) :
    val_main_v49 (F := Ideal) x g w y0 y1 y2 b0 b1 b2 wo (ix2 r l)
    = mergeRow (fun k => x (ix3 ⟨r.val / 4096, by omega⟩ ⟨r.val % 4096, by omega⟩ k)) (fun k => g (ix1 k)) (fun j k => w (ix2 j ⟨4112 + k.val, by omega⟩))
        (fun j k => w (ix2 j ⟨4112 + (1024 + k.val), by omega⟩)) (fun j k => w (ix2 j ⟨4112 + (2048 + k.val), by omega⟩))
        (fun k => y0 (ix3 ⟨r.val / 4096, by omega⟩ ⟨r.val % 4096, by omega⟩ k)) (fun k => y1 (ix3 ⟨r.val / 4096, by omega⟩ ⟨r.val % 4096, by omega⟩ k))
        (fun k => y2 (ix3 ⟨r.val / 4096, by omega⟩ ⟨r.val % 4096, by omega⟩ k)) (fun j k => b0 (ix2 j k)) (fun j k => b1 (ix2 j k)) (fun j k => b2 (ix2 j k))
        (fun j k => wo (ix2 j k)) l := by
  pointwise [val_main_v49, val_main_v48, val_main_v47, val_main_v46, val_main_v45, val_main_v44, val_main_v43,
    val_main_v42, val_main_v41, val_main_v40, val_main_v39, val_main_v38, val_main_v37, val_main_v36,
    val_main_v35, val_main_v34, val_main_v33, val_main_v32, val_main_v31, val_main_v30, val_main_cst_3,
    val_main_v29, val_main_v28, val_main_cst_2, val_main_v27, val_main_v26, val_main_v25, val_main_v24,
    val_main_v23, val_main_v22, val_main_v21, val_main_v20, val_main_v19, val_main_v18, val_main_v17,
    val_main_v16, val_main_v15, val_main_v14, val_main_v13, val_main_v12, val_main_v11, val_main_v10,
    val_main_v9, val_main_v8, val_main_v7, val_main_v6, val_main_v5, val_main_cst_1, val_main_v4,
    val_main_v3, val_main_cst_0, val_main_v2, val_main_v1, val_main_cst, val_main_v0]

  unfold mergeRow sigm rms
  rfl

variable (m : (ℓ : Loc nD τ sig) → Buf (Elt Ideal) ℓ)

theorem idx : ∀ t : Fin cfg0.N, win0_0.index t = ![t.val, 0] ∧ win0_1.index t = ![0, 0]
    ∧ win0_2.index t = ![0, 0] ∧ win0_3.index t = ![t.val, 0] ∧ win0_4.index t = ![t.val, 0] ∧ win0_5.index t = ![t.val, 0]
    ∧ win0_6.index t = ![0, 0] ∧ win0_7.index t = ![0, 0] ∧ win0_8.index t = ![0, 0] ∧ win0_9.index t = ![0, 0] ∧ win0_10.index t = ![t.val, 0] :=
  (by decide +kernel : ∀ t : Fin grid0.N, _)

theorem lt_tiles (t : Fin cfg0.N) (r : Fin 512) : t.val * 512 + r.val < 16384 := by
  have h : t.val < 32 := lt_of_lt_of_eq t.isLt N_0
  omega

theorem w_at (c : Dev nD) (r : Fin 1024) (l : Fin 3072) :
    V m c main_v1 (ix2 r l) = m ((c : Thread nD τ).loc main_arg2) (ix2 r ⟨4112 + l.val, by omega⟩) := by
  entry_read; pointwise []

theorem w_blk (c : Dev nD) (t : Fin cfg0.N) (r : Fin 1024) (l : Fin 3072) :
    iblk m c 2 t (ix2 r l) = m ((c : Thread nD τ).loc main_arg2) (ix2 r ⟨4112 + l.val, by omega⟩) := by
  refine Eq.trans ?_ (w_at m c r l)
  blk_ext [iblk, idx t]

theorem final (c : Dev nD) : (dats m 0 c).arrAt 10 (cfgs 0).N
    = Cert.MergeRefIdeal.Read.val_main_v49 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t _ y => ?_
  blk_simp
  rw [after0_10]
  frame_out
  idx_vars y;
  have ee : ((win0_10.blk t).view.emb (ix2 y0 y1)) = ix2 (⟨t.val * 512 + y0.val, lt_tiles t y0⟩ : Fin 16384) y1 := by
    blk_ext [idx t]
  refine Eq.trans ?_ (congrArg _ ee).symm
  refine Eq.trans ?_ (ref_at _ _ _ _ _ _ _ _ _ _ _ _).symm
  refine (pay5_at _ _ _ _ _ _ _ _ _ _ _ _ _ _).trans ?_
  have ht := lt_tiles t y0
  congr 1
  all_goals first | (funext j k; blk_point [iblk, V, idx t]; done) | (funext k; blk_point [iblk, V, idx t]; done) | skip
  · funext j k
    refine (View.ld_unit_apply_of _ _ _ _ _ (ix2 j (⟨k.val, by omega⟩ : Fin 3072)) (fun a => ?_)).trans (w_blk m c t j _)
    match a with
    | ⟨0, _⟩ => exact (Nat.zero_add _).symm
    | ⟨1, _⟩ => exact (Nat.zero_add _).symm
  · funext j k
    refine (View.ld_unit_apply_of _ _ _ _ _ (ix2 j (⟨1024 + k.val, by omega⟩ : Fin 3072)) (fun a => ?_)).trans (w_blk m c t j _)
    match a with
    | ⟨0, _⟩ => exact (Nat.zero_add _).symm
    | ⟨1, _⟩ => rfl
  · funext j k
    refine (View.ld_unit_apply_of _ _ _ _ _ (ix2 j (⟨2048 + k.val, by omega⟩ : Fin 3072)) (fun a => ?_)).trans (w_blk m c t j _)
    match a with
    | ⟨0, _⟩ => exact (Nat.zero_add _).symm
    | ⟨1, _⟩ => rfl

end Cert.MergeIdeal.Proofs
-- ==== Proof.MergeClaims.lean ====
/- What is claimed of `Merge`: its three runs, and the value of its result. -/
module

public import proofs.«01_k».proof.Defs
public import proofs.«01_k».proof.Proof.MergeValue
public import proofs.«01_k».proof.Proof.Gen.Merge.Frame
public import proofs.«01_k».proof.Proof.Gen.MergeIdeal.Frame
public import proofs.«01_k».proof.Proof.Gen.MergeRefIdeal.Run
public import proofs.«01_k».proof.Proof.Gen.MergeRefIdeal.Read
public import Idealize.ShloMosaic.Lib.Claim

@[expose] public section

noncomputable section

namespace Cert.Proof.Merge

open Idealize.ShloMosaic Idealize.SL.Sem

/-- The program runs to its end and leaves its arguments. -/
theorem runs : Cert.quiescent_Merge := fun m ρ _ => Cert.Merge.Gen.frame m ρ

/-- So does the idealized program. -/
theorem runs_ideal : Cert.quiescent_MergeIdeal := fun m ρ _ => Cert.MergeIdeal.Gen.frame m ρ

/-- So does the reference. -/
theorem runs_reference : Cert.quiescent_MergeRefIdeal := fun m g _ =>
  (θ_run Cert.MergeRefIdeal.defs _ _).mono
    (fun r h => ⟨fun c => (h c).2, Idealize.ShloMosaic.sem_eq_zero_of_no_sems (by decide) r.2⟩)
    (Cert.MergeRefIdeal.Value.run (F := Ideal) m g)

/-- The idealized program's result is the reference's. -/
theorem value : Cert.algebraic_MergeIdeal_MergeRefIdeal := by
  intro m g m' g' hpre hag
  refine ⟨fun c => Cert.MergeRefIdeal.Read.val_main_v49 (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)), ?_, ?_⟩
  · run_from Cert.MergeIdeal.Gen.run_main m g
    exact Cert.MergeIdeal.Proofs.final m c
  · refine (θ_run Cert.MergeRefIdeal.defs _ _).mono (fun r h c => ⟨(h c).1.trans ?_, (h c).2⟩)
      (Cert.MergeRefIdeal.Value.run (F := Ideal) m' g')
    obtain ⟨h0, h1, h2, h3, h4, h5, h6, h7, h8, h9⟩ := hag c
    refine (Cert.MergeRefIdeal.Read.val_main_v49_eq m' c).trans ?_
    rw [h0, h1, h2, h3, h4, h5, h6, h7, h8, h9]

end Cert.Proof.Merge

end

end
-- ==== Proof.ProjAValue.lean ====
module

public import proofs.«01_k».proof.Proof.Norm
public import proofs.«01_k».proof.Proof.Gen.ProjAIdeal.Value
public import proofs.«01_k».proof.Proof.Gen.ProjARefIdeal.Read
public import Idealize.ShloMosaic.Lib.Pipeline.ValueKit
public import Idealize.ShloMosaic.Lib.StableHlo.RunRead

@[expose] public section

set_option maxRecDepth 16384

noncomputable section

namespace Cert.ProjAIdeal.Proofs

open Cert.ProjAIdeal Cert.ProjAIdeal.Gen Idealize.ShloMosaic Idealize.ShloMosaic.TcCoe Idealize.SL.Sem
open Idealize.ShloMosaic.Pipeline (Dat)
open Cert.Common

theorem pay1_at (x : FVec Ideal S1024x1024 .f32) (g : FVec Ideal S1x1024 .f32) (r l : Fin 1024) :
    k0_pay1 (F := Ideal) x g (ix2 r l) = rms (fun k => x (ix2 r k)) (fun k => g (ix2 0 k)) l := by
  pointwise [k0_pay1, rms]

theorem pay2_at (h : FVec Ideal S1024x1024 .bf16) (w : FVec Ideal S1024x1024 .bf16) (r : Fin 1024) (l : Fin 1024) :
    k0_pay2 (F := Ideal) h w (ix2 r l) = (∑ k, h (ix2 r k) * w (ix2 k l) : EReal) := by
  pointwise [k0_pay2]

/-- The packed columns, out of all the columns. -/
def packed (f : Fin 7184 → EReal) (l : Fin 3072) : EReal :=
  if h : l.val < 512 then f ⟨l.val, by omega⟩ else
    if h : l.val - 512 < 512 then f ⟨512 + (l.val - 512), by omega⟩ else
    if h : l.val - 512 - 512 < 512 then f ⟨1024 + (l.val - 512 - 512), by omega⟩ else
    if h : l.val - 512 - 512 - 512 < 512 then f ⟨1536 + (l.val - 512 - 512 - 512), by omega⟩ else
    if h : l.val - 512 - 512 - 512 - 512 < 512 then f ⟨3600 + (l.val - 512 - 512 - 512 - 512), by omega⟩ else
    if h : l.val - 512 - 512 - 512 - 512 - 512 < 8 then f ⟨2048 + (l.val - 512 - 512 - 512 - 512 - 512), by omega⟩ else
    if h : l.val - 512 - 512 - 512 - 512 - 512 - 8 < 4 then f ⟨3592 + (l.val - 512 - 512 - 512 - 512 - 512 - 8), by omega⟩ else
    if h : l.val - 512 - 512 - 512 - 512 - 512 - 8 - 4 < 4 then f ⟨3596 + (l.val - 512 - 512 - 512 - 512 - 512 - 8 - 4), by omega⟩ else
    0

theorem packed_sum (a : Fin 1024 → EReal) (w : Fin 1024 → Fin 7184 → EReal) (l : Fin 3072) :
    packed (fun q => ∑ k, a k * w k q) l = ∑ k, a k * packed (w k) l := by
  unfold packed
  split_ifs <;> first | rfl | simp only [mul_zero, Finset.sum_const_zero]

open Cert.ProjARefIdeal.Read in
theorem ref_in (x : FVec Ideal Cert.ProjARefIdeal.S4x4096x1024 .f32) (g : FVec Ideal Cert.ProjARefIdeal.S1024 .f32)
    (w : FVec Ideal Cert.ProjARefIdeal.S1024x7184 .f32) (a : Fin 4) (b : Fin 4096) (q : Fin 7184) :
    val_main_v13 (F := Ideal) x g w (ix3 a b q) = ∑ k, rms (fun k => x (ix3 a b k)) (fun k => g (ix1 k)) k * w (ix2 k q) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms]

open Cert.ProjARefIdeal.Read in
theorem ref_at (x : FVec Ideal Cert.ProjARefIdeal.S4x4096x1024 .f32) (g : FVec Ideal Cert.ProjARefIdeal.S1024 .f32)
    (w : FVec Ideal Cert.ProjARefIdeal.S1024x7184 .f32) (r : Fin 16384) (l : Fin 3072) :
    val_main_v28 (F := Ideal) x g w (ix2 r l)
      = ∑ k, rms (fun k => x (ix3 ⟨r.val / 4096, by omega⟩ ⟨r.val % 4096, by omega⟩ k)) (fun k => g (ix1 k)) k * packed (fun q => w (ix2 k q)) l := by
  rw [← packed_sum]
  simp only [← ref_in]
  pointwise [val_main_v28, val_main_v27, val_main_v26, val_main_v25, val_main_v24, val_main_v23, val_main_v22, val_main_v21, val_main_v20, val_main_v19, val_main_v18, val_main_v17, val_main_v16, val_main_v15, val_main_v14, val_main_cst_2, packed]

variable (m : (ℓ : Loc nD τ sig) → Buf (Elt Ideal) ℓ)

theorem idx : ∀ t : Fin cfg0.N, win0_0.index t = ![t.val / 3, 0] ∧ win0_1.index t = ![0, 0]
    ∧ win0_2.index t = ![0, t.val % 3] ∧ win0_3.index t = ![t.val / 3, t.val % 3] :=
  (by decide +kernel : ∀ t : Fin grid0.N, _)

theorem x_at (c : Dev nD) (r : Fin 16384) (l : Fin 1024) :
    V m c main_v18 (ix2 r l) = m ((c : Thread nD τ).loc main_arg0) (ix3 ⟨r.val / 4096, by omega⟩ ⟨r.val % 4096, by omega⟩ l) := by
  unfold V; after_reads_simp; pointwise []
theorem g_at (c : Dev nD) (l : Fin 1024) :
    V m c main_v19 (ix2 0 l) = m ((c : Thread nD τ).loc main_arg1) (ix1 l) := by
  unfold V; after_reads_simp; pointwise []
theorem w_at (c : Dev nD) (r : Fin 1024) (l : Fin 3072) :
    V m c main_v14 (ix2 r l) = packed (fun q => m ((c : Thread nD τ).loc main_arg2) (ix2 r q)) l := by
  unfold V; after_reads_simp; pointwise [packed]; after_reads_simp; pointwise []

theorem lt_tiles (t : Fin cfg0.N) (r : Fin 1024) : t.val / 3 * 1024 + r.val < 16384 := by
  have h : t.val < 48 := lt_of_lt_of_eq t.isLt N_0
  omega

theorem x_blk (c : Dev nD) (t : Fin cfg0.N) (r l : Fin 1024) :
    iblk m c 0 t (ix2 r l) = m ((c : Thread nD τ).loc main_arg0)
      (ix3 ⟨(t.val / 3 * 1024 + r.val) / 4096, by have := lt_tiles t r; omega⟩ ⟨(t.val / 3 * 1024 + r.val) % 4096, by omega⟩ l) := by
  refine Eq.trans ?_ (x_at m c ⟨t.val / 3 * 1024 + r.val, lt_tiles t r⟩ l)
  blk_ext [iblk, idx t]
theorem g_blk (c : Dev nD) (t : Fin cfg0.N) (l : Fin 1024) :
    iblk m c 1 t (ix2 0 l) = m ((c : Thread nD τ).loc main_arg1) (ix1 l) := by
  refine Eq.trans ?_ (g_at m c l)
  blk_ext [iblk, idx t]
theorem w_blk (c : Dev nD) (t : Fin cfg0.N) (r : Fin 1024) (l : Fin 1024) :
    iblk m c 2 t (ix2 r l) = packed (fun q => m ((c : Thread nD τ).loc main_arg2) (ix2 r q)) ⟨t.val % 3 * 1024 + l.val, by omega⟩ := by
  refine Eq.trans ?_ (w_at m c r ⟨t.val % 3 * 1024 + l.val, by omega⟩)
  blk_ext [iblk, idx t]

/-- The normalised rows of the tile that point `t` works on. -/
abbrev hn (c : Dev nD) (t : Fin cfg0.N) : FVec Ideal S1024x1024 .bf16 :=
  k0_pay1 (F := Ideal) (iblk m c 0 t) (iblk m c 1 t)

theorem hn_step (c : Dev nD) (t t' : Fin cfg0.N) (h : t'.val / 3 = t.val / 3) : hn m c t' = hn m c t := by
  have e0 : iblk m c 0 t' = iblk m c 0 t := by
    funext y
    blk_ext [iblk, idx t, idx t']
  have e1 : iblk m c 1 t' = iblk m c 1 t := by
    funext y
    blk_ext [iblk, idx t, idx t']
  unfold hn
  rw [e0, e1]

theorem scratch_hn (c : Dev nD) : ∀ (n : ℕ) (hlt : n < cfg0.N), (outsAt0 m c n hlt).2 = hn m c ⟨n, hlt⟩
  | 0, hlt => by
    rw [outsAt0_A m c ⟨0, hlt⟩ (by rfl)]
    frame_out
  | n + 1, hlt => by
    by_cases h0 : (n + 1) % 3 = 0
    · rw [outsAt0_A m c ⟨n + 1, hlt⟩ h0]
      frame_out
    · have e := (scratch_hn c n (Nat.lt_of_succ_lt hlt)).trans (hn_step m c ⟨n + 1, hlt⟩ ⟨n, Nat.lt_of_succ_lt hlt⟩ (by show n / 3 = (n + 1) / 3; omega))
      rw [outsAt0_B m c ⟨n + 1, hlt⟩ h0]
      frame_out
      exact e

theorem out_at (c : Dev nD) (t : Fin cfg0.N) :
    (outsAt0 m c t.val t.isLt).1 = k0_pay2 (F := Ideal) (hn m c t) (iblk m c 2 t) := by
  by_cases h0 : t.val % 3 = 0
  · rw [outsAt0_A m c t h0]
    frame_out
  · have e := scratch_hn m c (t.val - 1) (Nat.lt_of_le_of_lt (Nat.sub_le _ _) t.isLt)
    rw [hn_step m c t _ (by show (t.val - 1) / 3 = t.val / 3; omega)] at e
    rw [outsAt0_B m c t h0]
    frame_out
    rw [e]
    exact congrArg (fun a => k0_pay2 (F := Ideal) a _) (Memref.IsWhole.read_unread (Memref.isWhole_whole _) _)

theorem final (c : Dev nD) : (dats m 0 c).arrAt 3 (cfgs 0).N
    = Cert.ProjARefIdeal.Read.val_main_v28 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  rw [out_at]
  idx_vars y;
  have ee : ((win0_3.blk t).view.emb (ix2 y0 y1)) = ix2 (⟨t.val / 3 * 1024 + y0.val, lt_tiles t y0⟩ : Fin 16384) (⟨t.val % 3 * 1024 + y1.val, by omega⟩ : Fin 3072) := by
    blk_ext [idx t]
  refine Eq.trans ?_ (congrArg _ ee).symm
  refine Eq.trans ?_ (ref_at _ _ _ _ _).symm
  refine (pay2_at _ _ _ _).trans ?_
  refine Finset.sum_congr rfl fun j _ => congrArg₂ (· * ·) ?_ (w_blk m c t j y1)
  exact (pay1_at _ _ y0 j).trans (congrArg₂ (fun a b => rms a b j) (funext fun l => x_blk m c t y0 l) (funext fun l => g_blk m c t l))

end Cert.ProjAIdeal.Proofs
-- ==== Proof.ProjAClaims.lean ====
/- What is claimed of `ProjA`: its three runs, and the value of its result. -/
module

public import proofs.«01_k».proof.Defs
public import proofs.«01_k».proof.Proof.ProjAValue
public import proofs.«01_k».proof.Proof.Gen.ProjA.Frame
public import proofs.«01_k».proof.Proof.Gen.ProjAIdeal.Frame
public import proofs.«01_k».proof.Proof.Gen.ProjARefIdeal.Run
public import proofs.«01_k».proof.Proof.Gen.ProjARefIdeal.Read
public import Idealize.ShloMosaic.Lib.Claim

@[expose] public section

noncomputable section

namespace Cert.Proof.ProjA

open Idealize.ShloMosaic Idealize.SL.Sem

/-- The program runs to its end and leaves its arguments. -/
theorem runs : Cert.quiescent_ProjA := fun m ρ _ => Cert.ProjA.Gen.frame m ρ

/-- So does the idealized program. -/
theorem runs_ideal : Cert.quiescent_ProjAIdeal := fun m ρ _ => Cert.ProjAIdeal.Gen.frame m ρ

/-- So does the reference. -/
theorem runs_reference : Cert.quiescent_ProjARefIdeal := fun m g _ =>
  (θ_run Cert.ProjARefIdeal.defs _ _).mono
    (fun r h => ⟨fun c => (h c).2, Idealize.ShloMosaic.sem_eq_zero_of_no_sems (by decide) r.2⟩)
    (Cert.ProjARefIdeal.Value.run (F := Ideal) m g)

/-- The idealized program's result is the reference's. -/
theorem value : Cert.algebraic_ProjAIdeal_ProjARefIdeal := by
  intro m g m' g' hpre hag
  refine ⟨fun c => Cert.ProjARefIdeal.Read.val_main_v28 (F := Ideal) (m ((c.tc : Thread Cert.ProjAIdeal.nD Cert.ProjAIdeal.τ).loc Cert.ProjAIdeal.main_arg0)) (m ((c.tc : Thread Cert.ProjAIdeal.nD Cert.ProjAIdeal.τ).loc Cert.ProjAIdeal.main_arg1)) (m ((c.tc : Thread Cert.ProjAIdeal.nD Cert.ProjAIdeal.τ).loc Cert.ProjAIdeal.main_arg2)), ?_, ?_⟩
  · run_from Cert.ProjAIdeal.Gen.run_main m g
    exact Cert.ProjAIdeal.Proofs.final m c
  · refine (θ_run Cert.ProjARefIdeal.defs _ _).mono (fun r h c => ⟨(h c).1.trans ?_, (h c).2⟩)
      (Cert.ProjARefIdeal.Value.run (F := Ideal) m' g')
    obtain ⟨h0, h1, h2⟩ := hag c
    refine (Cert.ProjARefIdeal.Read.val_main_v28_eq m' c).trans ?_
    rw [h0, h1, h2]

end Cert.Proof.ProjA

end

end
-- ==== Proof.ProjBValue.lean ====
module

public import proofs.«01_k».proof.Proof.Norm
public import proofs.«01_k».proof.Proof.Gen.ProjBIdeal.Value
public import proofs.«01_k».proof.Proof.Gen.ProjBRefIdeal.Read
public import Idealize.ShloMosaic.Lib.Pipeline.ValueKit
public import Idealize.ShloMosaic.Lib.StableHlo.RunRead

@[expose] public section

set_option maxRecDepth 16384

noncomputable section

namespace Cert.ProjBIdeal.Proofs

open Cert.ProjBIdeal Cert.ProjBIdeal.Gen Idealize.ShloMosaic Idealize.ShloMosaic.TcCoe Idealize.SL.Sem
open Idealize.ShloMosaic.Pipeline (Dat)
open Cert.Common

theorem pay1_at (x : FVec Ideal S1024x1024 .f32) (g : FVec Ideal S1x1024 .f32) (r l : Fin 1024) :
    k0_pay1 (F := Ideal) x g (ix2 r l) = rms (fun k => x (ix2 r k)) (fun k => g (ix2 0 k)) l := by
  pointwise [k0_pay1, rms]

theorem pay2_at (h : FVec Ideal S1024x1024 .bf16) (w : FVec Ideal S1024x1536 .bf16) (r : Fin 1024) (l : Fin 1536) :
    k0_pay2 (F := Ideal) h w (ix2 r l) = (∑ k, h (ix2 r k) * w (ix2 k l) : EReal) := by
  pointwise [k0_pay2]

/-- The packed columns, out of all the columns. -/
def packed (f : Fin 7184 → EReal) (l : Fin 1536) : EReal :=
  if h : l.val < 512 then f ⟨2056 + (l.val), by omega⟩ else
    if h : l.val - 512 < 512 then f ⟨2568 + (l.val - 512), by omega⟩ else
    f ⟨3080 + (l.val - 512 - 512), by omega⟩

theorem packed_sum (a : Fin 1024 → EReal) (w : Fin 1024 → Fin 7184 → EReal) (l : Fin 1536) :
    packed (fun q => ∑ k, a k * w k q) l = ∑ k, a k * packed (w k) l := by
  unfold packed
  split_ifs <;> first | rfl | simp only [mul_zero, Finset.sum_const_zero]

open Cert.ProjBRefIdeal.Read in
theorem ref_in (x : FVec Ideal Cert.ProjBRefIdeal.S4x4096x1024 .f32) (g : FVec Ideal Cert.ProjBRefIdeal.S1024 .f32)
    (w : FVec Ideal Cert.ProjBRefIdeal.S1024x7184 .f32) (a : Fin 4) (b : Fin 4096) (q : Fin 7184) :
    val_main_v13 (F := Ideal) x g w (ix3 a b q) = ∑ k, rms (fun k => x (ix3 a b k)) (fun k => g (ix1 k)) k * w (ix2 k q) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms]

open Cert.ProjBRefIdeal.Read in
theorem ref_at (x : FVec Ideal Cert.ProjBRefIdeal.S4x4096x1024 .f32) (g : FVec Ideal Cert.ProjBRefIdeal.S1024 .f32)
    (w : FVec Ideal Cert.ProjBRefIdeal.S1024x7184 .f32) (r : Fin 16384) (l : Fin 1536) :
    val_main_v28 (F := Ideal) x g w (ix2 r l)
      = ∑ k, rms (fun k => x (ix3 ⟨r.val / 4096, by omega⟩ ⟨r.val % 4096, by omega⟩ k)) (fun k => g (ix1 k)) k * packed (fun q => w (ix2 k q)) l := by
  rw [← packed_sum]
  simp only [← ref_in]
  pointwise [val_main_v28, val_main_v27, val_main_v26, val_main_v25, val_main_v24, val_main_v23, val_main_v22, val_main_v21, val_main_v20, val_main_v19, val_main_v18, val_main_v17, val_main_v16, val_main_v15, val_main_v14, packed]

variable (m : (ℓ : Loc nD τ sig) → Buf (Elt Ideal) ℓ)

theorem idx : ∀ t : Fin cfg0.N, win0_0.index t = ![t.val / 1, 0] ∧ win0_1.index t = ![0, 0]
    ∧ win0_2.index t = ![0, t.val % 1] ∧ win0_3.index t = ![t.val / 1, t.val % 1] :=
  (by decide +kernel : ∀ t : Fin grid0.N, _)

theorem x_at (c : Dev nD) (r : Fin 16384) (l : Fin 1024) :
    V m c main_v18 (ix2 r l) = m ((c : Thread nD τ).loc main_arg0) (ix3 ⟨r.val / 4096, by omega⟩ ⟨r.val % 4096, by omega⟩ l) := by
  unfold V; after_reads_simp; pointwise []
theorem g_at (c : Dev nD) (l : Fin 1024) :
    V m c main_v19 (ix2 0 l) = m ((c : Thread nD τ).loc main_arg1) (ix1 l) := by
  unfold V; after_reads_simp; pointwise []
theorem w_at (c : Dev nD) (r : Fin 1024) (l : Fin 1536) :
    V m c main_v16 (ix2 r l) = packed (fun q => m ((c : Thread nD τ).loc main_arg2) (ix2 r q)) l := by
  unfold V; after_reads_simp; pointwise [packed]; after_reads_simp; pointwise []

theorem lt_tiles (t : Fin cfg0.N) (r : Fin 1024) : t.val / 1 * 1024 + r.val < 16384 := by
  have h : t.val < 16 := lt_of_lt_of_eq t.isLt N_0
  omega

theorem x_blk (c : Dev nD) (t : Fin cfg0.N) (r l : Fin 1024) :
    iblk m c 0 t (ix2 r l) = m ((c : Thread nD τ).loc main_arg0)
      (ix3 ⟨(t.val / 1 * 1024 + r.val) / 4096, by have := lt_tiles t r; omega⟩ ⟨(t.val / 1 * 1024 + r.val) % 4096, by omega⟩ l) := by
  refine Eq.trans ?_ (x_at m c ⟨t.val / 1 * 1024 + r.val, lt_tiles t r⟩ l)
  blk_ext [iblk, idx t]
theorem g_blk (c : Dev nD) (t : Fin cfg0.N) (l : Fin 1024) :
    iblk m c 1 t (ix2 0 l) = m ((c : Thread nD τ).loc main_arg1) (ix1 l) := by
  refine Eq.trans ?_ (g_at m c l)
  blk_ext [iblk, idx t]
theorem w_blk (c : Dev nD) (t : Fin cfg0.N) (r : Fin 1024) (l : Fin 1536) :
    iblk m c 2 t (ix2 r l) = packed (fun q => m ((c : Thread nD τ).loc main_arg2) (ix2 r q)) ⟨t.val % 1 * 1536 + l.val, by omega⟩ := by
  refine Eq.trans ?_ (w_at m c r ⟨t.val % 1 * 1536 + l.val, by omega⟩)
  blk_ext [iblk, idx t]

/-- The normalised rows of the tile that point `t` works on. -/
abbrev hn (c : Dev nD) (t : Fin cfg0.N) : FVec Ideal S1024x1024 .bf16 :=
  k0_pay1 (F := Ideal) (iblk m c 0 t) (iblk m c 1 t)

theorem final (c : Dev nD) : (dats m 0 c).arrAt 3 (cfgs 0).N
    = Cert.ProjBRefIdeal.Read.val_main_v28 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0; frame_out
  idx_vars y;
  have ee : ((win0_3.blk t).view.emb (ix2 y0 y1)) = ix2 (⟨t.val / 1 * 1024 + y0.val, lt_tiles t y0⟩ : Fin 16384) (⟨t.val % 1 * 1536 + y1.val, by omega⟩ : Fin 1536) := by
    blk_ext [idx t]
  refine Eq.trans ?_ (congrArg _ ee).symm
  refine Eq.trans ?_ (ref_at _ _ _ _ _).symm
  refine (pay2_at _ _ _ _).trans ?_
  refine Finset.sum_congr rfl fun j _ => congrArg₂ (· * ·) ?_ (w_blk m c t j y1)
  exact (pay1_at _ _ y0 j).trans (congrArg₂ (fun a b => rms a b j) (funext fun l => x_blk m c t y0 l) (funext fun l => g_blk m c t l))

end Cert.ProjBIdeal.Proofs
-- ==== Proof.ProjBClaims.lean ====
/- What is claimed of `ProjB`: its three runs, and the value of its result. -/
module

public import proofs.«01_k».proof.Defs
public import proofs.«01_k».proof.Proof.ProjBValue
public import proofs.«01_k».proof.Proof.Gen.ProjB.Frame
public import proofs.«01_k».proof.Proof.Gen.ProjBIdeal.Frame
public import proofs.«01_k».proof.Proof.Gen.ProjBRefIdeal.Run
public import proofs.«01_k».proof.Proof.Gen.ProjBRefIdeal.Read
public import Idealize.ShloMosaic.Lib.Claim

@[expose] public section

noncomputable section

namespace Cert.Proof.ProjB

open Idealize.ShloMosaic Idealize.SL.Sem

/-- The program runs to its end and leaves its arguments. -/
theorem runs : Cert.quiescent_ProjB := fun m ρ _ => Cert.ProjB.Gen.frame m ρ

/-- So does the idealized program. -/
theorem runs_ideal : Cert.quiescent_ProjBIdeal := fun m ρ _ => Cert.ProjBIdeal.Gen.frame m ρ

/-- So does the reference. -/
theorem runs_reference : Cert.quiescent_ProjBRefIdeal := fun m g _ =>
  (θ_run Cert.ProjBRefIdeal.defs _ _).mono
    (fun r h => ⟨fun c => (h c).2, Idealize.ShloMosaic.sem_eq_zero_of_no_sems (by decide) r.2⟩)
    (Cert.ProjBRefIdeal.Value.run (F := Ideal) m g)

/-- The idealized program's result is the reference's. -/
theorem value : Cert.algebraic_ProjBIdeal_ProjBRefIdeal := by
  intro m g m' g' hpre hag
  refine ⟨fun c => Cert.ProjBRefIdeal.Read.val_main_v28 (F := Ideal) (m ((c.tc : Thread Cert.ProjBIdeal.nD Cert.ProjBIdeal.τ).loc Cert.ProjBIdeal.main_arg0)) (m ((c.tc : Thread Cert.ProjBIdeal.nD Cert.ProjBIdeal.τ).loc Cert.ProjBIdeal.main_arg1)) (m ((c.tc : Thread Cert.ProjBIdeal.nD Cert.ProjBIdeal.τ).loc Cert.ProjBIdeal.main_arg2)), ?_, ?_⟩
  · run_from Cert.ProjBIdeal.Gen.run_main m g
    exact Cert.ProjBIdeal.Proofs.final m c
  · refine (θ_run Cert.ProjBRefIdeal.defs _ _).mono (fun r h c => ⟨(h c).1.trans ?_, (h c).2⟩)
      (Cert.ProjBRefIdeal.Value.run (F := Ideal) m' g')
    obtain ⟨h0, h1, h2⟩ := hag c
    rw [Cert.ProjBRefIdeal.Read.val_main_v28_eq]
    rw [h0, h1, h2]

end Cert.Proof.ProjB

end

end
-- ==== Proof.Soft.lean ====
/- Real entries among the extended reals, and the weighted mean that a softmax takes: dividing each weight by the
   weights' sum, or the weighted sum by it, is the same where the scores are real. -/
module

public import proofs.«01_k».proof.Proof.Norm
public import Idealize.ShloMosaic.Lib.Pipeline.ValueKit
public import Idealize.ShloMosaic.PureOps.Ideal.Laws

@[expose] public section

noncomputable section

namespace Cert.Common

open Idealize.ShloMosaic

/-- Neither infinity. -/
def IsR (x : EReal) : Prop := ∃ r : ℝ, x = (r : EReal)

theorem IsR.coe (r : ℝ) : IsR (r : EReal) := ⟨r, rfl⟩

theorem IsR.zero : IsR 0 := ⟨0, rfl⟩

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.sub {x y : EReal} (hx : IsR x) (hy : IsR y) : IsR (x - y) := by
  obtain ⟨a, rfl⟩ := hx
  obtain ⟨b, rfl⟩ := hy
  exact ⟨a - b, (EReal.coe_sub a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.max {x y : EReal} (hx : IsR x) (hy : IsR y) : IsR (max x y) := by
  rcases max_choice x y with h | h <;> rw [h] <;> assumption

theorem IsR.sum {ι : Type*} (s : Finset ι) (f : ι → EReal) (h : ∀ i, IsR (f i)) : IsR (∑ i ∈ s, f i) := by
  classical
  induction s using Finset.induction_on with
  | empty => simpa using IsR.zero
  | insert a s ha ih => rw [Finset.sum_insert ha]; exact (h a).add ih

/-- The sum of squares of reals is a real that is not negative. -/
theorem sum_squares {ι : Type*} (s : Finset ι) (f : ι → EReal) (h : ∀ i, IsR (f i)) :
    ∃ r : ℝ, 0 ≤ r ∧ ∑ i ∈ s, f i * f i = (r : EReal) := by
  classical
  induction s using Finset.induction_on with
  | empty => exact ⟨0, le_refl _, by simp⟩
  | insert a s ha ih =>
    obtain ⟨r, hr, e⟩ := ih
    obtain ⟨b, hb⟩ := h a
    refine ⟨b * b + r, add_nonneg (mul_self_nonneg b) hr, ?_⟩
    rw [Finset.sum_insert ha, e, hb, EReal.coe_add, EReal.coe_mul]

theorem word_bot : Ideal.ofBits FTy.f32 0xFF800000#32 = ⊥ := by
  simp [Ideal.ofBits, Ideal.ieee]

theorem word_top : Ideal.ofBits FTy.f32 0x7F800000#32 = ⊤ := by
  simp [Ideal.ofBits, Ideal.ieee]

theorem word_1024 : Ideal.ofBits FTy.f32 1149239296#32 = ((1024 : ℝ) : EReal) := by
  simp [Ideal.ofBits, Ideal.ieee, -EReal.coe_mul]; norm_num

theorem word_128 : Ideal.ofBits FTy.f32 1124073472#32 = ((128 : ℝ) : EReal) := by
  simp [Ideal.ofBits, Ideal.ieee, -EReal.coe_mul]; norm_num

theorem word_eps : ∃ r : ℝ, 0 < r ∧ Ideal.ofBits FTy.f32 897988541#32 = (r : EReal) := by
  refine ⟨_, ?_, by simp [Ideal.ofBits, Ideal.ieee, -EReal.coe_mul]; rfl⟩
  positivity

theorem word_scale : IsR (Ideal.ofBits FTy.f32 1035273459#32) := by
  refine ⟨_, by simp [Ideal.ofBits, Ideal.ieee, -EReal.coe_mul]; rfl⟩

/-- The reciprocal root of a positive real is a real. -/
theorem IsR.rsqrt {r : ℝ} (h : 0 < r) : IsR (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr h.le), if_neg h.ne']

theorem div_coe (x : EReal) {r : ℝ} (h : r ≠ 0) : Ideal.div x (r : EReal) = x * ((r⁻¹ : ℝ) : EReal) := by
  unfold Ideal.div
  rw [if_neg (by exact_mod_cast h), EReal.coe_inv]

/-- The factor by which a norm multiplies is a real. -/
theorem isR_factor {n : ℕ} (f : Fin n → EReal) (h : ∀ i, IsR (f i)) (d : EReal) {c : ℝ} (hc : 0 < c) (hd : d = (c : EReal)) :
    IsR (Ideal.rsqrt (Ideal.div (∑ j, f j * f j) d + Ideal.ofBits FTy.f32 897988541#32)) := by
  obtain ⟨r, hr, e⟩ := sum_squares Finset.univ f h
  obtain ⟨ε, hε, e'⟩ := word_eps
  rw [e, e', hd, div_coe _ hc.ne', ← EReal.coe_mul, ← EReal.coe_add]
  exact IsR.rsqrt (by positivity)

theorem IsR.rms {row g : Fin 1024 → EReal} (h : ∀ k, IsR (row k)) (hg : ∀ k, IsR (g k)) (k : Fin 1024) :
    IsR (rms row g k) :=
  ((h k).mul (isR_factor row h _ (by norm_num) word_1024)).mul (hg k)

/-- A head's row of 128 entries divided by its root mean square, at one entry, times that entry's weight. -/
def headRms (row g : Fin 128 → EReal) (k : Fin 128) : EReal :=
  row k * Ideal.rsqrt (Ideal.div (∑ j, row j * row j) (Ideal.ofBits FTy.f32 1124073472#32)
    + Ideal.ofBits FTy.f32 897988541#32) * g k

theorem IsR.headRms {row g : Fin 128 → EReal} (h : ∀ k, IsR (row k)) (hg : ∀ k, IsR (g k)) (k : Fin 128) :
    IsR (headRms row g k) :=
  ((h k).mul (isR_factor row h _ (by norm_num) word_128)).mul (hg k)

/-- The largest of the entries, from the least extended real. -/
def top {n : ℕ} (s : Fin n → EReal) : EReal := Finset.fold max (Ideal.ofBits FTy.f32 4286578688#32) s Finset.univ

theorem isR_fold {ι : Type*} (s : ι → EReal) (h : ∀ i, IsR (s i)) (S : Finset ι) (hS : S.Nonempty) :
    IsR (Finset.fold max ⊥ s S) := by
  classical
  induction S using Finset.induction_on with
  | empty => exact absurd hS Finset.not_nonempty_empty
  | insert a S ha ih =>
    rw [Finset.fold_insert ha]
    rcases S.eq_empty_or_nonempty with rfl | hS'
    · rw [Finset.fold_empty, max_eq_left bot_le]; exact h a
    · exact (h a).max (ih hS')

theorem IsR.top {n : ℕ} [NeZero n] (s : Fin n → EReal) (h : ∀ i, IsR (s i)) : IsR (top s) := by
  unfold Cert.Common.top
  rw [show Ideal.ofBits FTy.f32 4286578688#32 = ⊥ from word_bot]
  exact isR_fold s h _ ⟨0, Finset.mem_univ _⟩

/-- Multiplication by a real that is not negative distributes over a sum. -/
theorem sum_mul_real {ι : Type*} (S : Finset ι) (f : ι → EReal) {c : ℝ} (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha, ← ih]
    exact EReal.right_distrib_of_nonneg_of_ne_top (by exact_mod_cast hc) (EReal.coe_ne_top c) _ _

/-- The exponentials of reals have a positive real sum. -/
theorem sum_exp {n : ℕ} [NeZero n] (s : Fin n → EReal) (h : ∀ i, IsR (s i)) :
    ∃ l : ℝ, 0 < l ∧ ∑ i, Ideal.exp (s i) = (l : EReal) := by
  choose r hr using h
  refine ⟨∑ i, Real.exp (r i), Finset.sum_pos (fun i _ => Real.exp_pos _) ⟨0, Finset.mem_univ _⟩, ?_⟩
  have e : ∀ S : Finset (Fin n), ((∑ i ∈ S, Real.exp (r i) : ℝ) : EReal) = ∑ i ∈ S, Ideal.exp (s i) := by
    intro S
    induction S using Finset.induction_on with
    | empty => simp
    | insert a S ha ih =>
      rw [Finset.sum_insert ha, Finset.sum_insert ha, EReal.coe_add, ih, hr a]
      rfl
  exact (e _).symm

/-- The mean of `v` by the weights that the scores `s` have after `c` is taken off them: the weighted sum over the sum. -/
theorem weighted_mean {n : ℕ} [NeZero n] (s v : Fin n → EReal) (c : EReal) (hs : ∀ i, IsR (s i)) (hc : IsR c) :
    Ideal.div (∑ j, Ideal.exp (s j - c) * v j) (∑ j, Ideal.exp (s j - c))
      = ∑ j, v j * Ideal.div (Ideal.exp (s j - c)) (∑ i, Ideal.exp (s i - c)) := by
  obtain ⟨l, hl, e⟩ := sum_exp (fun j => s j - c) fun j => (hs j).sub hc
  rw [e, div_coe _ hl.ne', sum_mul_real _ _ (inv_nonneg.mpr hl.le)]
  refine Finset.sum_congr rfl fun j _ => ?_
  rw [div_coe _ hl.ne', mul_comm (Ideal.exp _) (v j), mul_assoc]

end Cert.Common

end

end
-- ==== Proof.CrossValue.lean ====
/- The cross-attention into the memory tokens: what the idealized call leaves, and the reference's value of it. -/
module

public import proofs.«01_k».proof.Proof.Soft
public import proofs.«01_k».proof.Proof.Gen.CrossIdeal.Value
public import proofs.«01_k».proof.Proof.Gen.CrossRefIdeal.Read
public import Idealize.ShloMosaic.Lib.Pipeline.ValueKit
public import Idealize.ShloMosaic.Lib.StableHlo.RunRead

@[expose] public section

set_option maxRecDepth 16384

noncomputable section

namespace Cert.CrossIdeal.Proofs

open Cert.CrossIdeal Cert.CrossIdeal.Gen Idealize.ShloMosaic Idealize.ShloMosaic.TcCoe Idealize.SL.Sem
open Idealize.ShloMosaic.Pipeline (Dat)
open Cert.Common

/-- A query's scores against the keys of one head. -/
def score (q : Fin 128 → EReal) (k : Fin 256 → Fin 128 → EReal) (j : Fin 256) : EReal :=
  (∑ d, q d * k j d) * Ideal.ofBits FTy.f32 1035273459#32

/-- The exponential of a score less the largest. -/
def wt (s : Fin 256 → EReal) (j : Fin 256) : EReal := Ideal.exp (s j - top s)

theorem pay12_at (q : FVec Ideal S512x128 .bf16) (k : FVec Ideal S256x128 .f32) (r : Fin 512) (l : Fin 256) :
    k0_pay12 (F := Ideal) q k (ix2 r l) = wt (score (fun d => q (ix2 r d)) fun j d => k (ix2 j d)) l := by
  pointwise [k0_pay12, wt, score, top]
theorem pay13_at (q : FVec Ideal S512x128 .bf16) (k : FVec Ideal S256x128 .f32) (r : Fin 512) (l : Fin 256) :
    k0_pay13 (F := Ideal) q k (ix2 r l) = wt (score (fun d => q (ix2 r d)) fun j d => k (ix2 j d)) l := by
  pointwise [k0_pay13, wt, score, top]
theorem pay14_at (q : FVec Ideal S512x128 .bf16) (k : FVec Ideal S256x128 .f32) (r : Fin 512) (l : Fin 256) :
    k0_pay14 (F := Ideal) q k (ix2 r l) = wt (score (fun d => q (ix2 r d)) fun j d => k (ix2 j d)) l := by
  pointwise [k0_pay14, wt, score, top]
theorem pay15_at (q : FVec Ideal S512x128 .bf16) (k : FVec Ideal S256x128 .f32) (r : Fin 512) (l : Fin 256) :
    k0_pay15 (F := Ideal) q k (ix2 r l) = wt (score (fun d => q (ix2 r d)) fun j d => k (ix2 j d)) l := by
  pointwise [k0_pay15, wt, score, top]
theorem pay11_at (k : FVec Ideal S256x128 .f32) (r : Fin 256) (l : Fin 128) :
    k0_pay11 (F := Ideal) k (ix2 r l) = k (ix2 r l) := by
  pointwise [k0_pay11]
theorem pay2_at (x : FVec Ideal S512x1024 .f32) (r : Fin 512) (l : Fin 1024) :
    k0_pay2 (F := Ideal) x (ix2 r l) = x (ix2 r l) := by
  pointwise [k0_pay2]
theorem pay1_at (x : FVec Ideal S512x1024 .f32) (o : FVec Ideal S512x512 .bf16) (w : FVec Ideal S512x1024 .bf16) (r : Fin 512)
    (l : Fin 1024) :
    k0_pay1 (F := Ideal) x o w (ix2 r l) = x (ix2 r l) + (∑ c, o (ix2 r c) * w (ix2 c l) : EReal) := by
  pointwise [k0_pay1]

theorem pay3_at (x : FVec Ideal S512x1024 .f32) (g : FVec Ideal S1x1024 .f32) (w : FVec Ideal S1024x512 .bf16) (r c : Fin 512) :
    k0_pay3 (F := Ideal) x g w (ix2 r c) = ∑ k, rms (fun k => x (ix2 r k)) (fun k => g (ix2 0 k)) k * w (ix2 k c) := by
  pointwise [k0_pay3, k0_pay2, rms]
theorem pay4_at (x : FVec Ideal S512x1024 .f32) (g : FVec Ideal S1x1024 .f32) (w : FVec Ideal S1024x512 .bf16)
    (u : FVec Ideal S1x128 .f32) (r : Fin 512) (l : Fin 128) :
    k0_pay4 (F := Ideal) x g w u (ix2 r l)
      = headRms (fun d => k0_pay3 (F := Ideal) x g w (ix2 r ⟨d.val, by omega⟩)) (fun d => u (ix2 0 d)) l := by
  pointwise [k0_pay4, headRms]
theorem pay8_at (x : FVec Ideal S512x1024 .f32) (g : FVec Ideal S1x1024 .f32) (w : FVec Ideal S1024x512 .bf16)
    (u : FVec Ideal S1x128 .f32) (r : Fin 512) (l : Fin 128) :
    k0_pay8 (F := Ideal) (k0_pay5 x g w) (k0_pay6 u) (k0_pay7 x g w) (ix2 r l)
      = headRms (fun d => k0_pay3 (F := Ideal) x g w (ix2 r ⟨128 + d.val, by omega⟩)) (fun d => u (ix2 0 d)) l := by
  pointwise [k0_pay8, k0_pay5, k0_pay6, k0_pay7, headRms]
theorem pay9_at (q : FVec Ideal S512x512 .f32) (u : FVec Ideal S1x128 .f32) (r : Fin 512) (l : Fin 128) :
    k0_pay9 (F := Ideal) q u (ix2 r l)
      = headRms (fun d => q (ix2 r ⟨256 + d.val, by omega⟩)) (fun d => u (ix2 0 d)) l := by
  pointwise [k0_pay9, headRms]
theorem pay10_at (q : FVec Ideal S512x512 .f32) (u : FVec Ideal S1x128 .f32) (r : Fin 512) (l : Fin 128) :
    k0_pay10 (F := Ideal) q u (ix2 r l)
      = headRms (fun d => q (ix2 r ⟨384 + d.val, by omega⟩)) (fun d => u (ix2 0 d)) l := by
  pointwise [k0_pay10, headRms]

/-- The weighted sum of a column over the sum of the weights. -/
def mean (p v : Fin 256 → EReal) : EReal := Ideal.div (∑ j, p j * v j) (∑ j, p j)

theorem pay16_at (a b c d : FVec Ideal S512x256 .f32) (v w x y : FVec Ideal S256x128 .f32) (r l : Fin 512) :
    k0_pay16 (F := Ideal) a b c d v w x y (ix2 r l)
      = if h : l.val < 128 then mean (fun j => a (ix2 r j)) (fun j => v (ix2 j ⟨l.val, h⟩))
        else if h : l.val - 128 < 128 then mean (fun j => b (ix2 r j)) (fun j => w (ix2 j ⟨l.val - 128, h⟩))
        else if h : l.val - 128 - 128 < 128 then mean (fun j => c (ix2 r j)) (fun j => x (ix2 j ⟨l.val - 128 - 128, h⟩))
        else mean (fun j => d (ix2 r j)) (fun j => y (ix2 j ⟨l.val - 128 - 128 - 128, by omega⟩)) := by
  pointwise [k0_pay16, mean]

open Cert.CrossRefIdeal.Read in
theorem ref_v13 (x : FVec Ideal Cert.CrossRefIdeal.S4x4096x1024 .f32) (g : FVec Ideal Cert.CrossRefIdeal.S1024 .f32)
    (w : FVec Ideal Cert.CrossRefIdeal.S1024x512 .f32) (a : Fin 4) (t : Fin 4096) (c : Fin 512) :
    val_main_v13 (F := Ideal) x g w (ix3 a t c) = ∑ k, rms (fun k => x (ix3 a t k)) (fun k => g (ix1 k)) k * w (ix2 k c) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms]

open Cert.CrossRefIdeal.Read in
theorem ref_v27 (x : FVec Ideal Cert.CrossRefIdeal.S4x4096x1024 .f32) (g : FVec Ideal Cert.CrossRefIdeal.S1024 .f32)
    (w : FVec Ideal Cert.CrossRefIdeal.S1024x512 .f32) (u : FVec Ideal Cert.CrossRefIdeal.S128 .f32)
    (a : Fin 4) (t : Fin 4096) (h : Fin 4) (d : Fin 128) :
    val_main_v27 (F := Ideal) x g w u (ix4 a t h d)
      = headRms (fun d => val_main_v13 (F := Ideal) x g w (ix3 a t ⟨h.val * 128 + d.val, by omega⟩)) (fun d => u (ix1 d)) d := by
  pointwise [val_main_v27, val_main_v26, val_main_v25, val_main_v24, val_main_v23, val_main_v22, val_main_v21, val_main_v20, val_main_v19, val_main_v18, val_main_v17, val_main_v16, val_main_v15, val_main_v14, val_main_cst_2, val_main_cst_3, val_main_cst_4, headRms]

open Cert.CrossRefIdeal.Read in
theorem ref_v30 (x : FVec Ideal Cert.CrossRefIdeal.S4x4096x1024 .f32) (g : FVec Ideal Cert.CrossRefIdeal.S1024 .f32)
    (w : FVec Ideal Cert.CrossRefIdeal.S1024x512 .f32) (u : FVec Ideal Cert.CrossRefIdeal.S128 .f32)
    (k : FVec Ideal Cert.CrossRefIdeal.S4x256x4x128 .f32) (a : Fin 4) (t : Fin 4096) (h : Fin 4) (j : Fin 256) :
    val_main_v30 (F := Ideal) x g w u k (ix4 a h t j)
      = score (fun d => val_main_v27 (F := Ideal) x g w u (ix4 a t h d)) (fun j d => k (ix4 a j h d)) j := by
  pointwise [val_main_v30, val_main_v29, val_main_v28, val_main_cst_5, score]

/-- A largest-value reduction along the last of four axes, read at an index. -/
theorem reduce_max_last {n0 n1 n2 n3 : ℕ} {u : Shape} (y : FVec Ideal ⟨4, ![n0, n1, n2, n3]⟩ .f32) (i0 : u.Idx → EReal)
    (h : (⟨4, ![n0, n1, n2, n3]⟩ : Shape).ReducesTo [3] ⟨3, ![n0, n1, n2]⟩) (hu : 0 < u.numel)
    (a : Fin n0) (b : Fin n1) (c : Fin n2) :
    Host.reduce (FloatOps.maximumf (F := Ideal) (φ := .f32)) y i0 h hu (ix3 a b c)
      = (Finset.univ : Finset (Fin n3)).fold max (i0 (Shape.Idx.first hu)) (fun j => y (ix4 a b c j)) := by
  rw [Host.reduce_eq_fold]
  refine (h.fold_fiber_r4_a3 (ix3 a b c) _ _ _).trans ?_
  rfl

theorem cst6_at (i : Cert.CrossRefIdeal.S_.Idx) :
    Cert.CrossRefIdeal.Read.val_main_cst_6 (F := Ideal) i = Ideal.ofBits FTy.f32 4286578688#32 := by
  pointwise [Cert.CrossRefIdeal.Read.val_main_cst_6]

theorem cst7_at (i : Cert.CrossRefIdeal.S4x4x4096.Idx) :
    Cert.CrossRefIdeal.Read.val_main_v32 (F := Ideal) i = Ideal.ofBits FTy.f32 4286578688#32 := by
  rw [Cert.CrossRefIdeal.Read.val_main_v32_apply]
  pointwise [Cert.CrossRefIdeal.Read.val_main_cst_7]

open Cert.CrossRefIdeal.Read in
theorem ref_v31 (x : FVec Ideal Cert.CrossRefIdeal.S4x4096x1024 .f32) (g : FVec Ideal Cert.CrossRefIdeal.S1024 .f32)
    (w : FVec Ideal Cert.CrossRefIdeal.S1024x512 .f32) (u : FVec Ideal Cert.CrossRefIdeal.S128 .f32)
    (k : FVec Ideal Cert.CrossRefIdeal.S4x256x4x128 .f32) (a : Fin 4) (t : Fin 4096) (h : Fin 4) :
    val_main_v31 (F := Ideal) x g w u k (ix3 a h t)
      = (Finset.univ : Finset (Fin 256)).fold max (Ideal.ofBits FTy.f32 4286578688#32)
        (fun j => val_main_v30 (F := Ideal) x g w u k (ix4 a h t j)) := by
  unfold val_main_v31
  generalize val_main_v30 (F := Ideal) x g w u k = y
  rw [reduce_max_last, cst6_at]

open Cert.CrossRefIdeal.Read in
theorem ref_v33 (x : FVec Ideal Cert.CrossRefIdeal.S4x4096x1024 .f32) (g : FVec Ideal Cert.CrossRefIdeal.S1024 .f32)
    (w : FVec Ideal Cert.CrossRefIdeal.S1024x512 .f32) (u : FVec Ideal Cert.CrossRefIdeal.S128 .f32)
    (k : FVec Ideal Cert.CrossRefIdeal.S4x256x4x128 .f32) (a : Fin 4) (t : Fin 4096) (h : Fin 4) :
    val_main_v33 (F := Ideal) x g w u k (ix3 a h t)
      = max (Ideal.ofBits FTy.f32 4286578688#32) (top fun j => val_main_v30 (F := Ideal) x g w u k (ix4 a h t j)) := by
  rw [val_main_v33_apply, cst7_at, ref_v31]
  unfold top
  generalize (fun j => val_main_v30 (F := Ideal) x g w u k (ix4 a h t j)) = y
  rfl

open Cert.CrossRefIdeal.Read in
theorem ref_v37 (x : FVec Ideal Cert.CrossRefIdeal.S4x4096x1024 .f32) (g : FVec Ideal Cert.CrossRefIdeal.S1024 .f32)
    (w : FVec Ideal Cert.CrossRefIdeal.S1024x512 .f32) (u : FVec Ideal Cert.CrossRefIdeal.S128 .f32)
    (k : FVec Ideal Cert.CrossRefIdeal.S4x256x4x128 .f32) (a : Fin 4) (t : Fin 4096) (h : Fin 4) (j : Fin 256) :
    val_main_v37 (F := Ideal) x g w u k (ix4 a h t j)
      = wt (fun j => val_main_v30 (F := Ideal) x g w u k (ix4 a h t j)) j := by
  have e := ref_v33 x g w u k a t h
  rw [show Ideal.ofBits FTy.f32 4286578688#32 = ⊥ from word_bot, max_eq_right bot_le] at e
  unfold wt
  rw [← e]
  pointwise [val_main_v37, val_main_v36, val_main_v35, val_main_v34]

open Cert.CrossRefIdeal.Read in
theorem ref_v42 (x : FVec Ideal Cert.CrossRefIdeal.S4x4096x1024 .f32) (g : FVec Ideal Cert.CrossRefIdeal.S1024 .f32)
    (w : FVec Ideal Cert.CrossRefIdeal.S1024x512 .f32) (u : FVec Ideal Cert.CrossRefIdeal.S128 .f32)
    (k v : FVec Ideal Cert.CrossRefIdeal.S4x256x4x128 .f32) (a : Fin 4) (t : Fin 4096) (h : Fin 4) (d : Fin 128) :
    val_main_v42 (F := Ideal) x g w u k v (ix4 a h d t)
      = ∑ j, v (ix4 a j h d) * Ideal.div (val_main_v37 (F := Ideal) x g w u k (ix4 a h t j))
          (∑ j, val_main_v37 (F := Ideal) x g w u k (ix4 a h t j)) := by
  pointwise [val_main_v42, val_main_v41, val_main_v40, val_main_v39, val_main_v38, val_main_cst_8]

open Cert.CrossRefIdeal.Read in
theorem ref_v47 (x : FVec Ideal Cert.CrossRefIdeal.S4x4096x1024 .f32) (g : FVec Ideal Cert.CrossRefIdeal.S1024 .f32)
    (w : FVec Ideal Cert.CrossRefIdeal.S1024x512 .f32) (u : FVec Ideal Cert.CrossRefIdeal.S128 .f32)
    (k v : FVec Ideal Cert.CrossRefIdeal.S4x256x4x128 .f32) (o : FVec Ideal Cert.CrossRefIdeal.S512x1024 .f32)
    (r : Fin 16384) (l : Fin 1024) :
    val_main_v47 (F := Ideal) x g w u k v o (ix2 r l)
      = x (ix3 ⟨r.val / 4096, by omega⟩ ⟨r.val % 4096, by omega⟩ l)
        + (∑ c, val_main_v42 (F := Ideal) x g w u k v
            (ix4 ⟨r.val / 4096, by omega⟩ ⟨c.val / 128, by omega⟩ ⟨c.val % 128, by omega⟩ ⟨r.val % 4096, by omega⟩) * o (ix2 c l) : EReal) := by
  pointwise [val_main_v47, val_main_v46, val_main_v45, val_main_v44, val_main_v43]

variable (m : (ℓ : Loc nD τ sig) → Buf (Elt Ideal) ℓ)

theorem idx : ∀ t : Fin cfg0.N, win0_0.index t = ![t.val, 0] ∧ win0_1.index t = ![0, 0]
    ∧ win0_2.index t = ![0, 0] ∧ win0_3.index t = ![0, 0] ∧ win0_4.index t = ![t.val / 8, 0]
    ∧ win0_5.index t = ![t.val / 8, 0] ∧ win0_6.index t = ![0, 0] ∧ win0_7.index t = ![t.val, 0] :=
  (by decide +kernel : ∀ t : Fin grid0.N, _)

theorem x_at (c : Dev nD) (r : Fin 16384) (l : Fin 1024) :
    V m c main_v0 (ix2 r l) = m ((c : Thread nD τ).loc main_arg0) (ix3 ⟨r.val / 4096, by omega⟩ ⟨r.val % 4096, by omega⟩ l) := by
  entry_read; pointwise []
theorem g_at (c : Dev nD) (l : Fin 1024) :
    V m c main_v5 (ix2 0 l) = m ((c : Thread nD τ).loc main_arg1) (ix1 l) := by
  entry_read; pointwise []
theorem wq_at (c : Dev nD) (r : Fin 1024) (l : Fin 512) :
    V m c main_v1 (ix2 r l) = m ((c : Thread nD τ).loc main_arg2) (ix2 r l) := by
  entry_read; pointwise []
theorem gq_at (c : Dev nD) (l : Fin 128) :
    V m c main_v6 (ix2 0 l) = m ((c : Thread nD τ).loc main_arg3) (ix1 l) := by
  entry_read; pointwise []
theorem k_at (c : Dev nD) (r : Fin 1024) (l : Fin 512) :
    V m c main_v2 (ix2 r l) = m ((c : Thread nD τ).loc main_arg4)
      (ix4 ⟨r.val / 256, by omega⟩ ⟨r.val % 256, by omega⟩ ⟨l.val / 128, by omega⟩ ⟨l.val % 128, by omega⟩) := by
  entry_read; pointwise []
theorem v_at (c : Dev nD) (r : Fin 1024) (l : Fin 512) :
    V m c main_v3 (ix2 r l) = m ((c : Thread nD τ).loc main_arg5)
      (ix4 ⟨r.val / 256, by omega⟩ ⟨r.val % 256, by omega⟩ ⟨l.val / 128, by omega⟩ ⟨l.val % 128, by omega⟩) := by
  entry_read; pointwise []
theorem wo_at (c : Dev nD) (r : Fin 512) (l : Fin 1024) :
    V m c main_v4 (ix2 r l) = m ((c : Thread nD τ).loc main_arg6) (ix2 r l) := by
  entry_read; pointwise []

/-- The weights of one head for one row: the exponentials of its scores less the largest. -/
def attn (x g : Fin 1024 → EReal) (w : Fin 1024 → Fin 512 → EReal) (u : Fin 128 → EReal) (K : Fin 256 → Fin 512 → EReal)
    (i : Fin 4) : Fin 256 → EReal :=
  score (headRms (fun d => ∑ k, rms x g k * w k ⟨i.val * 128 + d.val, by omega⟩) u)
    (fun j d => K j ⟨i.val * 128 + d.val, by omega⟩)

theorem cols4_at (k : FVec Ideal S256x512 .f32) (j : Fin 256) (d : Fin 128) :
    (View.ld (Val := Elt Ideal) (e' := .f32) k r0_4 : FVec Ideal S256x128 .f32) (ix2 j d) = k (ix2 j ⟨d.val, by omega⟩) := by
  refine View.ld_unit_apply_of _ _ _ _ _ (ix2 j (⟨d.val, by omega⟩ : Fin 512)) (fun a => ?_)
  match a with
  | ⟨0, _⟩ => exact (Nat.zero_add _).symm
  | ⟨1, _⟩ => exact (Nat.zero_add _).symm
theorem cols5_at (k : FVec Ideal S256x512 .f32) (j : Fin 256) (d : Fin 128) :
    (View.ld (Val := Elt Ideal) (e' := .f32) k r0_5 : FVec Ideal S256x128 .f32) (ix2 j d) = k (ix2 j ⟨1 * 128 + d.val, by omega⟩) := by
  refine View.ld_unit_apply_of _ _ _ _ _ (ix2 j (⟨1 * 128 + d.val, by omega⟩ : Fin 512)) (fun a => ?_)
  match a with
  | ⟨0, _⟩ => exact (Nat.zero_add _).symm
  | ⟨1, _⟩ => exact rfl
theorem cols6_at (k : FVec Ideal S256x512 .f32) (j : Fin 256) (d : Fin 128) :
    (View.ld (Val := Elt Ideal) (e' := .f32) k r0_6 : FVec Ideal S256x128 .f32) (ix2 j d) = k (ix2 j ⟨2 * 128 + d.val, by omega⟩) := by
  refine View.ld_unit_apply_of _ _ _ _ _ (ix2 j (⟨2 * 128 + d.val, by omega⟩ : Fin 512)) (fun a => ?_)
  match a with
  | ⟨0, _⟩ => exact (Nat.zero_add _).symm
  | ⟨1, _⟩ => exact rfl
theorem cols7_at (k : FVec Ideal S256x512 .f32) (j : Fin 256) (d : Fin 128) :
    (View.ld (Val := Elt Ideal) (e' := .f32) k r0_7 : FVec Ideal S256x128 .f32) (ix2 j d) = k (ix2 j ⟨3 * 128 + d.val, by omega⟩) := by
  refine View.ld_unit_apply_of _ _ _ _ _ (ix2 j (⟨3 * 128 + d.val, by omega⟩ : Fin 512)) (fun a => ?_)
  match a with
  | ⟨0, _⟩ => exact (Nat.zero_add _).symm
  | ⟨1, _⟩ => exact rfl

/-- The attended values of one tile, a column at a time: the mean of the value's column under its head's weights. -/
theorem heads_at (x : FVec Ideal S512x1024 .f32) (g : FVec Ideal S1x1024 .f32) (w : FVec Ideal S1024x512 .bf16)
    (u : FVec Ideal S1x128 .f32) (k v : FVec Ideal S256x512 .f32) (r c : Fin 512) (i : Fin 4) (hi : c.val / 128 = i.val) :
    k0_pay16 (F := Ideal)
      (k0_pay12 (k0_pay4 x g w u) (k0_pay11 (View.ld k r0_4)))
      (k0_pay13 (k0_pay8 (k0_pay5 x g w) (k0_pay6 u) (k0_pay7 x g w)) (View.ld k r0_5))
      (k0_pay14 (k0_pay9 (k0_pay3 x g w) u) (View.ld k r0_6))
      (k0_pay15 (k0_pay10 (k0_pay3 x g w) u) (View.ld k r0_7))
      (View.ld v r0_4) (View.ld v r0_5) (View.ld v r0_6) (View.ld v r0_7) (ix2 r c)
    = mean (wt (attn (fun k => x (ix2 r k)) (fun k => g (ix2 0 k)) (fun k j => w (ix2 k j)) (fun d => u (ix2 0 d))
        (fun j d => k (ix2 j d)) i)) (fun j => v (ix2 j c)) := by
  have hc := c.isLt
  rw [pay16_at]
  split_ifs with h0 h1 h2
  · obtain rfl : i = 0 := Fin.ext (by show i.val = 0; omega)
    congr 1
    · funext j
      rw [pay12_at]
      unfold attn
      simp only [pay4_at, pay11_at, pay3_at, Nat.zero_mul, Nat.zero_add, Fin.val_zero]
      exact congrArg (fun K => wt (score _ K) j) (funext fun j => funext fun d => cols4_at k j d)
    · funext j
      exact cols4_at _ _ _
  · obtain rfl : i = 1 := Fin.ext (by show i.val = 1; omega)
    congr 1
    · funext j
      rw [pay13_at]
      unfold attn
      simp only [pay8_at, pay3_at]
      exact congrArg (fun K => wt (score _ K) j) (funext fun j => funext fun d => cols5_at k j d)
    · funext j
      refine (cols5_at _ _ _).trans ?_; congr 2; exact Fin.ext (by show 1 * 128 + (c.val - 128) = c.val; omega)
  · obtain rfl : i = 2 := Fin.ext (by show i.val = 2; omega)
    congr 1
    · funext j
      rw [pay14_at]
      unfold attn
      simp only [pay9_at, pay3_at]
      exact congrArg (fun K => wt (score _ K) j) (funext fun j => funext fun d => cols6_at k j d)
    · funext j
      refine (cols6_at _ _ _).trans ?_; congr 2; exact Fin.ext (by show 2 * 128 + (c.val - 128 - 128) = c.val; omega)
  · obtain rfl : i = 3 := Fin.ext (by show i.val = 3; omega)
    congr 1
    · funext j
      rw [pay15_at]
      unfold attn
      simp only [pay10_at, pay3_at]
      exact congrArg (fun K => wt (score _ K) j) (funext fun j => funext fun d => cols7_at k j d)
    · funext j
      refine (cols7_at _ _ _).trans ?_; congr 2; exact Fin.ext (by show 3 * 128 + (c.val - 128 - 128 - 128) = c.val; omega)

theorem isR_attn {x g : Fin 1024 → EReal} {w : Fin 1024 → Fin 512 → EReal} {u : Fin 128 → EReal} {K : Fin 256 → Fin 512 → EReal}
    (hx : ∀ k, IsR (x k)) (hg : ∀ k, IsR (g k)) (hw : ∀ k j, IsR (w k j)) (hu : ∀ d, IsR (u d)) (hK : ∀ j d, IsR (K j d))
    (i : Fin 4) (j : Fin 256) : IsR (attn x g w u K i j) :=
  (IsR.sum _ _ fun d => (IsR.headRms (fun d => IsR.sum _ _ fun k => (IsR.rms hx hg k).mul (hw k _)) hu d).mul (hK j _)).mul word_scale

/-- With finite scores, dividing the weighted sum is weighting by the quotients. -/
theorem mean_eq {s : Fin 256 → EReal} (hs : ∀ j, IsR (s j)) (v : Fin 256 → EReal) :
    mean (wt s) v = ∑ j, v j * Ideal.div (wt s j) (∑ i, wt s i) :=
  weighted_mean s v (top s) hs (IsR.top s hs)

open Cert.CrossRefIdeal.Read in
theorem ref_heads (x : FVec Ideal Cert.CrossRefIdeal.S4x4096x1024 .f32) (g : FVec Ideal Cert.CrossRefIdeal.S1024 .f32)
    (w : FVec Ideal Cert.CrossRefIdeal.S1024x512 .f32) (u : FVec Ideal Cert.CrossRefIdeal.S128 .f32)
    (k v : FVec Ideal Cert.CrossRefIdeal.S4x256x4x128 .f32) (a : Fin 4) (t : Fin 4096) (h : Fin 4) (d : Fin 128) :
    val_main_v42 (F := Ideal) x g w u k v (ix4 a h d t)
      = ∑ j, v (ix4 a j h d) * Ideal.div
          (wt (attn (fun k => x (ix3 a t k)) (fun k => g (ix1 k)) (fun k j => w (ix2 k j)) (fun d => u (ix1 d))
            (fun j d => k (ix4 a j ⟨d.val / 128, by omega⟩ ⟨d.val % 128, by omega⟩)) h) j)
          (∑ i, wt (attn (fun k => x (ix3 a t k)) (fun k => g (ix1 k)) (fun k j => w (ix2 k j)) (fun d => u (ix1 d))
            (fun j d => k (ix4 a j ⟨d.val / 128, by omega⟩ ⟨d.val % 128, by omega⟩)) h) i) := by
  have e : (fun j => val_main_v30 (F := Ideal) x g w u k (ix4 a h t j))
      = attn (fun k => x (ix3 a t k)) (fun k => g (ix1 k)) (fun k j => w (ix2 k j)) (fun d => u (ix1 d))
            (fun j d => k (ix4 a j ⟨d.val / 128, by omega⟩ ⟨d.val % 128, by omega⟩)) h := by
    funext j
    rw [ref_v30]
    unfold attn
    congr 1
    · funext d
      rw [ref_v27]
      congr 1
      funext d
      rw [ref_v13]
    · funext j d
      congr 2
      · exact Fin.ext (by show h.val = (h.val * 128 + d.val) / 128; omega)
      · exact Fin.ext (by show d.val = (h.val * 128 + d.val) % 128; omega)
  rw [ref_v42]
  simp only [ref_v37, e]

theorem lt_tiles (t : Fin cfg0.N) (r : Fin 512) : t.val * 512 + r.val < 16384 := by
  have h : t.val < 32 := lt_of_lt_of_eq t.isLt N_0
  omega

theorem lt_rows (t : Fin cfg0.N) : t.val < 32 := lt_of_lt_of_eq t.isLt N_0

theorem x_blk (c : Dev nD) (t : Fin cfg0.N) (r : Fin 512) (l : Fin 1024) :
    iblk m c 0 t (ix2 r l) = V m c main_v0 (ix2 (⟨t.val * 512 + r.val, lt_tiles t r⟩ : Fin 16384) l) := by
  blk_ext [iblk, idx t]
theorem g_blk (c : Dev nD) (t : Fin cfg0.N) (l : Fin 1024) : iblk m c 1 t (ix2 0 l) = V m c main_v5 (ix2 0 l) := by
  blk_ext [iblk, idx t]
theorem wq_blk (c : Dev nD) (t : Fin cfg0.N) (r : Fin 1024) (l : Fin 512) : iblk m c 2 t (ix2 r l) = V m c main_v1 (ix2 r l) := by
  blk_ext [iblk, idx t]
theorem gq_blk (c : Dev nD) (t : Fin cfg0.N) (l : Fin 128) : iblk m c 3 t (ix2 0 l) = V m c main_v6 (ix2 0 l) := by
  blk_ext [iblk, idx t]
theorem k_blk (c : Dev nD) (t : Fin cfg0.N) (r : Fin 256) (l : Fin 512) :
    iblk m c 4 t (ix2 r l) = V m c main_v2 (ix2 (⟨t.val / 8 * 256 + r.val, by have := lt_rows t; omega⟩ : Fin 1024) l) := by
  blk_ext [iblk, idx t]
theorem v_blk (c : Dev nD) (t : Fin cfg0.N) (r : Fin 256) (l : Fin 512) :
    iblk m c 5 t (ix2 r l) = V m c main_v3 (ix2 (⟨t.val / 8 * 256 + r.val, by have := lt_rows t; omega⟩ : Fin 1024) l) := by
  blk_ext [iblk, idx t]
theorem wo_blk (c : Dev nD) (t : Fin cfg0.N) (r : Fin 512) (l : Fin 1024) : iblk m c 6 t (ix2 r l) = V m c main_v4 (ix2 r l) := by
  blk_ext [iblk, idx t]

/-- The arguments the scores are computed from are real numbers. -/
def AllReal (c : Dev nD) : Prop :=
  (∀ i, IsR (m ((c : Thread nD τ).loc main_arg0) i)) ∧ (∀ i, IsR (m ((c : Thread nD τ).loc main_arg1) i))
  ∧ (∀ i, IsR (m ((c : Thread nD τ).loc main_arg2) i)) ∧ (∀ i, IsR (m ((c : Thread nD τ).loc main_arg3) i))
  ∧ (∀ i, IsR (m ((c : Thread nD τ).loc main_arg4) i))

theorem pay17_eq (x0 : FVec Ideal S512x1024 .f32) (x1 : FVec Ideal S1x1024 .f32) (x2 : FVec Ideal S1024x512 .bf16) (x3 : FVec Ideal S1x128 .f32)
    (x4 x5 : FVec Ideal S256x512 .f32) (x6 : FVec Ideal S512x1024 .bf16) : k0_pay17 (F := Ideal) x0 x1 x2 x3 x4 x5 x6 = k0_pay3 x0 x1 x2 := by
  unfold k0_pay17
  frame_out

/-- One column of a tile's attended values is the reference's. -/
theorem column_eq (c : Dev nD) (hfin : AllReal m c) (t : Fin cfg0.N) (y0 d : Fin 512) :
    k0_pay16 (F := Ideal)
      (k0_pay12 (k0_pay4 (iblk m c 0 t) (iblk m c 1 t) (iblk m c 2 t) (iblk m c 3 t)) (k0_pay11 (View.ld (iblk m c 4 t) r0_4)))
      (k0_pay13 (k0_pay8 (k0_pay5 (iblk m c 0 t) (iblk m c 1 t) (iblk m c 2 t)) (k0_pay6 (iblk m c 3 t))
        (k0_pay7 (iblk m c 0 t) (iblk m c 1 t) (iblk m c 2 t))) (View.ld (iblk m c 4 t) r0_5))
      (k0_pay14 (k0_pay9 (k0_pay3 (iblk m c 0 t) (iblk m c 1 t) (iblk m c 2 t)) (iblk m c 3 t)) (View.ld (iblk m c 4 t) r0_6))
      (k0_pay15 (k0_pay10 (k0_pay3 (iblk m c 0 t) (iblk m c 1 t) (iblk m c 2 t)) (iblk m c 3 t)) (View.ld (iblk m c 4 t) r0_7))
      (View.ld (iblk m c 5 t) r0_4) (View.ld (iblk m c 5 t) r0_5) (View.ld (iblk m c 5 t) r0_6) (View.ld (iblk m c 5 t) r0_7) (ix2 y0 d)
    = Cert.CrossRefIdeal.Read.val_main_v42 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5))
      (ix4 ⟨(t.val * 512 + y0.val) / 4096, by have := lt_tiles t y0; omega⟩ ⟨d.val / 128, by omega⟩ ⟨d.val % 128, by omega⟩ ⟨(t.val * 512 + y0.val) % 4096, by omega⟩) := by
  obtain ⟨h0, h1, h2, h3, h4⟩ := hfin
  have ht := lt_rows t
  have hy := lt_tiles t y0
  refine (heads_at _ _ _ _ _ _ y0 d ⟨d.val / 128, by omega⟩ rfl).trans ?_
  rw [ref_heads]
  have e : attn (fun k => iblk m c 0 t (ix2 y0 k)) (fun k => iblk m c 1 t (ix2 0 k)) (fun k j => iblk m c 2 t (ix2 k j))
        (fun d => iblk m c 3 t (ix2 0 d)) (fun j d => iblk m c 4 t (ix2 j d)) ⟨d.val / 128, by omega⟩
      = attn (fun k => m ((c : Thread nD τ).loc main_arg0) (ix3 ⟨(t.val * 512 + y0.val) / 4096, by omega⟩ ⟨(t.val * 512 + y0.val) % 4096, by omega⟩ k))
        (fun k => m ((c : Thread nD τ).loc main_arg1) (ix1 k)) (fun k j => m ((c : Thread nD τ).loc main_arg2) (ix2 k j))
        (fun d => m ((c : Thread nD τ).loc main_arg3) (ix1 d))
        (fun j d => m ((c : Thread nD τ).loc main_arg4) (ix4 ⟨(t.val * 512 + y0.val) / 4096, by omega⟩ j ⟨d.val / 128, by omega⟩ ⟨d.val % 128, by omega⟩))
        ⟨d.val / 128, by omega⟩ := by
    congr 1
    · funext k; rw [x_blk, x_at]
    · funext k; rw [g_blk, g_at]
    · funext k j; rw [wq_blk, wq_at]
    · funext k; rw [gq_blk, gq_at]
    · funext j d
      rw [k_blk, k_at]
      congr 2
      · exact Fin.ext (by show (t.val / 8 * 256 + j.val) / 256 = (t.val * 512 + y0.val) / 4096; omega)
      · exact Fin.ext (by show (t.val / 8 * 256 + j.val) % 256 = j.val; omega)
  refine (congrArg (fun s => mean (wt s) _) e).trans ?_
  refine (mean_eq (fun j => isR_attn (fun k => h0 _) (fun k => h1 _) (fun k j => h2 _) (fun d => h3 _) (fun j d => h4 _) _ j) _).trans ?_
  refine Finset.sum_congr rfl fun j _ => ?_
  congr 1
  rw [v_blk, v_at]
  congr 2
  · exact Fin.ext (by show (t.val / 8 * 256 + j.val) / 256 = (t.val * 512 + y0.val) / 4096; omega)
  · exact Fin.ext (by show (t.val / 8 * 256 + j.val) % 256 = j.val; omega)

theorem final (c : Dev nD) (hfin : AllReal m c) : (dats m 0 c).arrAt 7 (cfgs 0).N
    = Cert.CrossRefIdeal.Read.val_main_v47 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  frame_out
  idx_vars y;
  have ee : ((win0_7.blk t).view.emb (ix2 y0 y1)) = ix2 (⟨t.val * 512 + y0.val, lt_tiles t y0⟩ : Fin 16384) y1 := by
    blk_ext [idx t]
  refine Eq.trans ?_ (congrArg _ ee).symm
  refine Eq.trans ?_ (ref_v47 _ _ _ _ _ _ _ _ _).symm
  refine (pay1_at _ _ _ _ _).trans ?_
  congr 1
  · rw [pay2_at, x_blk, x_at]
  · refine Finset.sum_congr rfl fun d _ => ?_
    congr 1
    · rw [pay17_eq]; exact column_eq m c hfin t y0 d
    · rw [wo_blk, wo_at]

end Cert.CrossIdeal.Proofs

end

end
-- ==== Proof.Finite.lean ====
/- Reading the condition that the arguments are finite: each element is a real number. -/
module

public import proofs.«01_k».proof.Proof.CrossValue
public import proofs.«01_k».proof.Proof.Gen.Pre_finite_args
public import proofs.«01_k».proof.Defs
public import Idealize.ShloMosaic.Lib.ReduceAll

@[expose] public section

noncomputable section

namespace Cert.Common

open Idealize.ShloMosaic

theorem isR_of_lt {x : EReal} (h : Ideal.cmp .olt (max x (-x)) (Ideal.ofBits FTy.f32 0x7F800000#32) = 1#1) : IsR x := by
  rw [show Ideal.ofBits FTy.f32 0x7F800000#32 = ⊤ from word_top] at h
  have hlt : max x (-x) < ⊤ := by
    by_contra hn
    simp [Ideal.cmp, hn] at h
  obtain ⟨h1, h2⟩ := max_lt_iff.mp hlt
  induction x with
  | bot => simp at h2
  | top => simp at h1
  | coe r => exact ⟨r, rfl⟩

/-- Every magnitude below infinity: every element a real number. -/
theorem isR_of_all {s s0 : Shape} {axes : List (Fin s.rank)} [Subsingleton s0.Idx] {d : Fin s0.rank → Fin s.rank} (x : FVec Ideal s .f32)
    (hb : s0.BroadcastsInDim s d) (h : s.ReducesTo axes s0) (hu : 0 < s0.numel) (j : s0.Idx)
    (e : Host.reduce IntOp.andi (cmpf .olt (Host.absf x) (broadcastInDim s d hb (constant (F := Ideal) s0 .f32 0x7F800000#32)))
      (constantI s0 1 1#1) h hu j = 1#1) (i : s.Idx) : IsR (x i) :=
  isR_of_lt (Host.reduce_andi_all _ _ h hu j e i)

end Cert.Common

namespace Cert.CrossIdeal.Proofs

open Cert.CrossIdeal Cert.CrossIdeal.Gen Idealize.ShloMosaic Idealize.ShloMosaic.TcCoe Idealize.SL.Sem
open Cert.Common

instance : Subsingleton Cert.Pre_finite_args.S_.Idx := ⟨fun a b => funext fun i => i.elim0⟩

theorem finite_of_pre (m : (ℓ : Loc nD τ sig) → Buf (Elt Ideal) ℓ) (h : Cert.Pre_CrossIdeal_finite_args m) (c : Dev nD) :
    AllReal m c := by
  have e := congrFun (h c) (Shape.Idx.first Cert.Pre_finite_args.Gen.h_S_)
  dsimp only [Cert.Pre_finite_args.fn, Cert.Pre_finite_args.fn_part1] at e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨isR_of_all _ _ _ _ _ e0, isR_of_all _ _ _ _ _ e1, isR_of_all _ _ _ _ _ e2, isR_of_all _ _ _ _ _ e3, isR_of_all _ _ _ _ _ e4⟩

end Cert.CrossIdeal.Proofs
end
end
-- ==== Proof.CrossClaims.lean ====
/- What is claimed of `Cross`: its three runs, and the value of its result. -/
module

public import proofs.«01_k».proof.Defs
public import proofs.«01_k».proof.Proof.CrossValue
public import proofs.«01_k».proof.Proof.Finite
public import proofs.«01_k».proof.Proof.Gen.Cross.Frame
public import proofs.«01_k».proof.Proof.Gen.CrossIdeal.Frame
public import proofs.«01_k».proof.Proof.Gen.CrossRefIdeal.Run
public import proofs.«01_k».proof.Proof.Gen.CrossRefIdeal.Read
public import Idealize.ShloMosaic.Lib.Claim

@[expose] public section

noncomputable section

namespace Cert.Proof.Cross

open Idealize.ShloMosaic Idealize.SL.Sem

/-- The program runs to its end and leaves its arguments. -/
theorem runs : Cert.quiescent_Cross := fun m ρ _ => Cert.Cross.Gen.frame m ρ

/-- So does the idealized program. -/
theorem runs_ideal : Cert.quiescent_CrossIdeal := fun m ρ _ => Cert.CrossIdeal.Gen.frame m ρ

/-- The same, of finite arguments. -/
theorem runs_ideal_finite : Cert.quiescent_CrossIdeal_pre_finite_args := fun m ρ _ => Cert.CrossIdeal.Gen.frame m ρ

/-- So does the reference. -/
theorem runs_reference : Cert.quiescent_CrossRefIdeal := fun m g _ =>
  (θ_run Cert.CrossRefIdeal.defs _ _).mono
    (fun r h => ⟨fun c => (h c).2, Idealize.ShloMosaic.sem_eq_zero_of_no_sems (by decide) r.2⟩)
    (Cert.CrossRefIdeal.Value.run (F := Ideal) m g)

/-- The same, of finite arguments. -/
theorem runs_reference_finite : Cert.quiescent_CrossRefIdeal_pre_finite_args := fun m g _ => runs_reference m g trivial

/-- The idealized program's result is the reference's. -/
theorem value : Cert.algebraic_CrossIdeal_CrossRefIdeal_pre_finite_args := by
  intro m g m' g' hpre hag
  refine ⟨fun c => Cert.CrossRefIdeal.Read.val_main_v47 (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)), ?_, ?_⟩
  · run_from Cert.CrossIdeal.Gen.run_main m g
    exact Cert.CrossIdeal.Proofs.final m c (Cert.CrossIdeal.Proofs.finite_of_pre m hpre c)
  · refine (θ_run Cert.CrossRefIdeal.defs _ _).mono (fun r h c => ⟨(h c).1.trans ?_, (h c).2⟩)
      (Cert.CrossRefIdeal.Value.run (F := Ideal) m' g')
    obtain ⟨h0, h1, h2, h3, h4, h5, h6⟩ := hag c
    refine (Cert.CrossRefIdeal.Read.val_main_v47_eq m' c).trans ?_
    rw [h0, h1, h2, h3, h4, h5, h6]

end Cert.Proof.Cross

end

end
-- ==== Proof.MemKValue.lean ====
module

public import proofs.«01_k».proof.Proof.Soft
public import proofs.«01_k».proof.Proof.Gen.MemKIdeal.Value
public import proofs.«01_k».proof.Proof.Gen.MemKRefIdeal.Read
public import Idealize.ShloMosaic.Lib.Pipeline.ValueKit
public import Idealize.ShloMosaic.Lib.StableHlo.RunRead

@[expose] public section

set_option maxRecDepth 16384

noncomputable section

namespace Cert.MemKIdeal.Proofs

open Cert.MemKIdeal Cert.MemKIdeal.Gen Idealize.ShloMosaic Idealize.ShloMosaic.TcCoe Idealize.SL.Sem
open Idealize.ShloMosaic.Pipeline (Dat)
open Cert.Common

theorem pay4_at (x : FVec Ideal S512x1024 .f32) (g : FVec Ideal S1x1024 .f32) (r : Fin 512) (l : Fin 1024) :
    k0_pay4 (F := Ideal) x g (ix2 r l) = rms (fun k => x (ix2 r k)) (fun k => g (ix2 0 k)) l := by
  pointwise [k0_pay4, rms]

theorem pay5_at (h : FVec Ideal S512x1024 .bf16) (w : FVec Ideal S1024x512 .bf16) (r l : Fin 512) :
    k0_pay5 (F := Ideal) h w (ix2 r l) = (∑ k, h (ix2 r k) * w (ix2 k l) : EReal) := by
  pointwise [k0_pay5]

theorem pay6_at (h : FVec Ideal S512x1024 .bf16) (w : FVec Ideal S1024x512 .bf16) (u : FVec Ideal S1x128 .f32) (r : Fin 512) (l : Fin 128) :
    k0_pay6 (F := Ideal) h w u (ix2 r l)
      = headRms (fun d => k0_pay5 (F := Ideal) h w (ix2 r ⟨d.val, by omega⟩)) (fun d => u (ix2 0 d)) l := by
  pointwise [k0_pay6, headRms]
theorem pay7_at (h : FVec Ideal S512x1024 .bf16) (w : FVec Ideal S1024x512 .bf16) (u : FVec Ideal S1x128 .f32) (r : Fin 512) (l : Fin 128) :
    k0_pay1 (F := Ideal) (k0_pay7 h w) (k0_pay8 u) (ix2 r l)
      = headRms (fun d => k0_pay5 (F := Ideal) h w (ix2 r ⟨128 + d.val, by omega⟩)) (fun d => u (ix2 0 d)) l := by
  pointwise [k0_pay1, k0_pay7, k0_pay8, headRms]
theorem pay2_at (q : FVec Ideal S512x512 .f32) (u : FVec Ideal S1x128 .f32) (r : Fin 512) (l : Fin 128) :
    k0_pay2 (F := Ideal) q u (ix2 r l)
      = headRms (fun d => q (ix2 r ⟨256 + d.val, by omega⟩)) (fun d => u (ix2 0 d)) l := by
  pointwise [k0_pay2, headRms]
theorem pay3_at (q : FVec Ideal S512x512 .f32) (u : FVec Ideal S1x128 .f32) (r : Fin 512) (l : Fin 128) :
    k0_pay3 (F := Ideal) q u (ix2 r l)
      = headRms (fun d => q (ix2 r ⟨384 + d.val, by omega⟩)) (fun d => u (ix2 0 d)) l := by
  pointwise [k0_pay3, headRms]

open Cert.MemKRefIdeal.Read in
theorem ref_in (x : FVec Ideal Cert.MemKRefIdeal.S4x256x1024 .f32) (g : FVec Ideal Cert.MemKRefIdeal.S1024 .f32)
    (w : FVec Ideal Cert.MemKRefIdeal.S1024x512 .f32) (a : Fin 4) (b : Fin 256) (q : Fin 512) :
    val_main_v13 (F := Ideal) x g w (ix3 a b q) = ∑ k, rms (fun k => x (ix3 a b k)) (fun k => g (ix1 k)) k * w (ix2 k q) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms]

open Cert.MemKRefIdeal.Read in
theorem ref_at (x : FVec Ideal Cert.MemKRefIdeal.S4x256x1024 .f32) (g : FVec Ideal Cert.MemKRefIdeal.S1024 .f32)
    (w : FVec Ideal Cert.MemKRefIdeal.S1024x512 .f32) (u : FVec Ideal Cert.MemKRefIdeal.S128 .f32) (r : Fin 1024) (l : Fin 512) :
    val_main_v28 (F := Ideal) x g w u (ix2 r l)
      = headRms (fun d => ∑ k, rms (fun k => x (ix3 ⟨r.val / 256, by omega⟩ ⟨r.val % 256, by omega⟩ k)) (fun k => g (ix1 k)) k
          * w (ix2 k ⟨l.val / 128 * 128 + d.val, by omega⟩)) (fun d => u (ix1 d)) ⟨l.val % 128, by omega⟩ := by
  simp only [← ref_in]
  have e : (⟨l.val / 128 * 128 + l.val % 128, by omega⟩ : Fin 512) = l := Fin.ext (by show l.val / 128 * 128 + l.val % 128 = l.val; omega)
  pointwise [val_main_v28, val_main_v27, val_main_v26, val_main_v25, val_main_v24, val_main_v23, val_main_v22, val_main_v21, val_main_v20, val_main_v19, val_main_v18, val_main_v17, val_main_v16, val_main_v15, val_main_v14, val_main_cst_2, val_main_cst_3, val_main_cst_4, headRms]
  refine congrArg₂ (· * ·) (congrArg₂ (· * ·) (congrArg (fun q => val_main_v13 (F := Ideal) x g w (ix3 ⟨r.val / 256, by omega⟩ ⟨r.val % 256, by omega⟩ q)) e.symm) rfl) rfl

variable (m : (ℓ : Loc nD τ sig) → Buf (Elt Ideal) ℓ)

theorem idx : ∀ t : Fin cfg0.N, win0_0.index t = ![t.val, 0] ∧ win0_1.index t = ![0, 0]
    ∧ win0_2.index t = ![0, 0] ∧ win0_3.index t = ![0, 0] ∧ win0_4.index t = ![t.val, 0] :=
  (by decide +kernel : ∀ t : Fin grid0.N, _)

theorem x_at (c : Dev nD) (r l : Fin 1024) :
    V m c main_v0 (ix2 r l) = m ((c : Thread nD τ).loc main_arg0) (ix3 ⟨r.val / 256, by omega⟩ ⟨r.val % 256, by omega⟩ l) := by
  entry_read; pointwise []
theorem g_at (c : Dev nD) (l : Fin 1024) :
    V m c main_v2 (ix2 0 l) = m ((c : Thread nD τ).loc main_arg1) (ix1 l) := by
  entry_read; pointwise []
theorem w_at (c : Dev nD) (r : Fin 1024) (l : Fin 512) :
    V m c main_v1 (ix2 r l) = m ((c : Thread nD τ).loc main_arg2) (ix2 r l) := by
  entry_read; pointwise []
theorem u_at (c : Dev nD) (l : Fin 128) :
    V m c main_v3 (ix2 0 l) = m ((c : Thread nD τ).loc main_arg3) (ix1 l) := by
  entry_read; pointwise []

theorem lt_tiles (t : Fin cfg0.N) (r : Fin 512) : t.val * 512 + r.val < 1024 := by
  have h : t.val < 2 := lt_of_lt_of_eq t.isLt N_0
  omega

theorem x_blk (c : Dev nD) (t : Fin cfg0.N) (r : Fin 512) (l : Fin 1024) :
    iblk m c 0 t (ix2 r l) = m ((c : Thread nD τ).loc main_arg0)
      (ix3 ⟨(t.val * 512 + r.val) / 256, by have := lt_tiles t r; omega⟩ ⟨(t.val * 512 + r.val) % 256, by omega⟩ l) := by
  refine Eq.trans ?_ (x_at m c ⟨t.val * 512 + r.val, lt_tiles t r⟩ l)
  blk_ext [iblk, idx t]
theorem g_blk (c : Dev nD) (t : Fin cfg0.N) (l : Fin 1024) :
    iblk m c 1 t (ix2 0 l) = m ((c : Thread nD τ).loc main_arg1) (ix1 l) := by
  refine Eq.trans ?_ (g_at m c l)
  blk_ext [iblk, idx t]
theorem w_blk (c : Dev nD) (t : Fin cfg0.N) (r : Fin 1024) (l : Fin 512) :
    iblk m c 2 t (ix2 r l) = m ((c : Thread nD τ).loc main_arg2) (ix2 r l) := by
  refine Eq.trans ?_ (w_at m c r l)
  blk_ext [iblk, idx t]
theorem u_blk (c : Dev nD) (t : Fin cfg0.N) (l : Fin 128) :
    iblk m c 3 t (ix2 0 l) = m ((c : Thread nD τ).loc main_arg3) (ix1 l) := by
  refine Eq.trans ?_ (u_at m c l)
  blk_ext [iblk, idx t]

/-- The normalised rows of the tile that point `t` works on. -/
abbrev hn (c : Dev nD) (t : Fin cfg0.N) : FVec Ideal S512x1024 .bf16 :=
  k0_pay4 (F := Ideal) (iblk m c 0 t) (iblk m c 1 t)

theorem hn_at (c : Dev nD) (t : Fin cfg0.N) (r : Fin 512) (l : Fin 1024) : hn m c t (ix2 r l)
    = rms (fun k => m ((c : Thread nD τ).loc main_arg0)
        (ix3 ⟨(t.val * 512 + r.val) / 256, by have := lt_tiles t r; omega⟩ ⟨(t.val * 512 + r.val) % 256, by omega⟩ k))
        (fun k => m ((c : Thread nD τ).loc main_arg1) (ix1 k)) l :=
  (pay4_at _ _ r l).trans (congrArg₂ (fun a b => rms a b l) (funext fun k => x_blk m c t r k) (funext fun k => g_blk m c t k))

/-- One element of a head's tile is the reference's. -/
theorem tile_eq (c : Dev nD) (t : Fin cfg0.N) (y0 y1 : Fin 512) (o : ℕ) (x1 : Fin 128) (h : y1.val = o + x1.val) (ho : o % 128 = 0) (hl : o + 128 ≤ 512) :
    headRms (fun d => k0_pay5 (F := Ideal) (hn m c t) (iblk m c 2 t) (ix2 y0 ⟨o + d.val, by omega⟩)) (fun d => iblk m c 3 t (ix2 0 d)) x1
    = headRms (fun d => ∑ k, rms (fun k => m ((c : Thread nD τ).loc main_arg0)
        (ix3 ⟨(t.val * 512 + y0.val) / 256, by have := lt_tiles t y0; omega⟩ ⟨(t.val * 512 + y0.val) % 256, by omega⟩ k))
        (fun k => m ((c : Thread nD τ).loc main_arg1) (ix1 k)) k
          * m ((c : Thread nD τ).loc main_arg2) (ix2 k ⟨y1.val / 128 * 128 + d.val, by omega⟩)) (fun d => m ((c : Thread nD τ).loc main_arg3) (ix1 d))
        ⟨y1.val % 128, by omega⟩ := by
  have e : x1 = ⟨y1.val % 128, by omega⟩ := Fin.ext (by show x1.val = y1.val % 128; omega)
  rw [← e]
  refine congrArg₂ (fun a b => headRms a b x1) (funext fun d => ?_) (funext fun d => u_blk m c t d)
  refine (pay5_at _ _ _ _).trans (Finset.sum_congr rfl fun k _ => congrArg₂ (· * ·) (hn_at m c t y0 k) ((w_blk m c t k _).trans ?_))
  congr 2
  exact Fin.ext (by show o + d.val = y1.val / 128 * 128 + d.val; omega)

theorem final (c : Dev nD) : (dats m 0 c).arrAt 4 (cfgs 0).N
    = Cert.MemKRefIdeal.Read.val_main_v28 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold outsAt0; frame_out
  idx_vars y;
  have ee : ((win0_4.blk t).view.emb (ix2 y0 y1)) = ix2 (⟨t.val * 512 + y0.val, lt_tiles t y0⟩ : Fin 1024) y1 := by
    blk_ext [idx t]
  refine Eq.trans ?_ (congrArg _ ee).symm
  refine Eq.trans ?_ (ref_at _ _ _ _ _ _).symm
  refine View.canon_eq_of_allAt _ _ _ (View.cover_of_tiled_head _ _ _ (by rfl) _) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) ?_)))
  all_goals first | (idx_vars x; have h0 := hx 0; have h1 := hx 1; simp at h0 h1; obtain rfl : y0 = x0 := Fin.ext h0) | skip
  · exact (pay3_at _ _ y0 x1).trans (tile_eq m c t y0 y1 384 x1 h1 rfl (by omega))
  · exact (pay2_at _ _ y0 x1).trans (tile_eq m c t y0 y1 256 x1 h1 rfl (by omega))
  · exact (pay7_at _ _ _ y0 x1).trans (tile_eq m c t y0 y1 128 x1 h1 rfl (by omega))
  · refine (pay6_at _ _ _ y0 x1).trans (Eq.trans ?_ (tile_eq m c t y0 y1 0 x1 (by omega) rfl (by omega)))
    simp only [Nat.zero_add]
  · exact fun p hp => absurd hp List.not_mem_nil

end Cert.MemKIdeal.Proofs
-- ==== Proof.MemKClaims.lean ====
/- What is claimed of `MemK`: its three runs, and the value of its result. -/
module

public import proofs.«01_k».proof.Defs
public import proofs.«01_k».proof.Proof.MemKValue
public import proofs.«01_k».proof.Proof.Gen.MemK.Frame
public import proofs.«01_k».proof.Proof.Gen.MemKIdeal.Frame
public import proofs.«01_k».proof.Proof.Gen.MemKRefIdeal.Run
public import proofs.«01_k».proof.Proof.Gen.MemKRefIdeal.Read
public import Idealize.ShloMosaic.Lib.Claim

@[expose] public section

noncomputable section

namespace Cert.Proof.MemK

open Idealize.ShloMosaic Idealize.SL.Sem

/-- The program runs to its end and leaves its arguments. -/
theorem runs : Cert.quiescent_MemK := fun m ρ _ => Cert.MemK.Gen.frame m ρ

/-- So does the idealized program. -/
theorem runs_ideal : Cert.quiescent_MemKIdeal := fun m ρ _ => Cert.MemKIdeal.Gen.frame m ρ

/-- So does the reference. -/
theorem runs_reference : Cert.quiescent_MemKRefIdeal := fun m g _ =>
  (θ_run Cert.MemKRefIdeal.defs _ _).mono
    (fun r h => ⟨fun c => (h c).2, Idealize.ShloMosaic.sem_eq_zero_of_no_sems (by decide) r.2⟩)
    (Cert.MemKRefIdeal.Value.run (F := Ideal) m g)

/-- The idealized program's result is the reference's. -/
theorem value : Cert.algebraic_MemKIdeal_MemKRefIdeal := by
  intro m g m' g' hpre hag
  refine ⟨fun c => Cert.MemKRefIdeal.Read.val_main_v28 (F := Ideal) (m ((c.tc : Thread Cert.MemKIdeal.nD Cert.MemKIdeal.τ).loc Cert.MemKIdeal.main_arg0)) (m ((c.tc : Thread Cert.MemKIdeal.nD Cert.MemKIdeal.τ).loc Cert.MemKIdeal.main_arg1)) (m ((c.tc : Thread Cert.MemKIdeal.nD Cert.MemKIdeal.τ).loc Cert.MemKIdeal.main_arg2)) (m ((c.tc : Thread Cert.MemKIdeal.nD Cert.MemKIdeal.τ).loc Cert.MemKIdeal.main_arg3)), ?_, ?_⟩
  · run_from Cert.MemKIdeal.Gen.run_main m g
    exact Cert.MemKIdeal.Proofs.final m c
  · refine (θ_run Cert.MemKRefIdeal.defs _ _).mono (fun r h c => ⟨(h c).1.trans ?_, (h c).2⟩)
      (Cert.MemKRefIdeal.Value.run (F := Ideal) m' g')
    obtain ⟨h0, h1, h2, h3⟩ := hag c
    rw [Cert.MemKRefIdeal.Read.val_main_v28_eq]
    rw [h0, h1, h2, h3]

end Cert.Proof.MemK

end

end
-- ==== Proof.MemVValue.lean ====
module

public import proofs.«01_k».proof.Proof.Norm
public import proofs.«01_k».proof.Proof.Gen.MemVIdeal.Value
public import proofs.«01_k».proof.Proof.Gen.MemVRefIdeal.Read
public import Idealize.ShloMosaic.Lib.Pipeline.ValueKit
public import Idealize.ShloMosaic.Lib.StableHlo.RunRead

@[expose] public section

set_option maxRecDepth 16384

noncomputable section

namespace Cert.MemVIdeal.Proofs

open Cert.MemVIdeal Cert.MemVIdeal.Gen Idealize.ShloMosaic Idealize.ShloMosaic.TcCoe Idealize.SL.Sem
open Idealize.ShloMosaic.Pipeline (Dat)
open Cert.Common

theorem pay1_at (x : FVec Ideal S512x1024 .f32) (g : FVec Ideal S1x1024 .f32) (r : Fin 512) (l : Fin 1024) :
    k0_pay1 (F := Ideal) x g (ix2 r l) = rms (fun k => x (ix2 r k)) (fun k => g (ix2 0 k)) l := by
  pointwise [k0_pay1, rms]

theorem pay2_at (h : FVec Ideal S512x1024 .bf16) (w : FVec Ideal S1024x512 .bf16) (r l : Fin 512) :
    k0_pay2 (F := Ideal) h w (ix2 r l) = (∑ k, h (ix2 r k) * w (ix2 k l) : EReal) := by
  pointwise [k0_pay2]

open Cert.MemVRefIdeal.Read in
theorem ref_in (x : FVec Ideal Cert.MemVRefIdeal.S4x256x1024 .f32) (g : FVec Ideal Cert.MemVRefIdeal.S1024 .f32)
    (w : FVec Ideal Cert.MemVRefIdeal.S1024x512 .f32) (a : Fin 4) (b : Fin 256) (q : Fin 512) :
    val_main_v13 (F := Ideal) x g w (ix3 a b q) = ∑ k, rms (fun k => x (ix3 a b k)) (fun k => g (ix1 k)) k * w (ix2 k q) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms]

open Cert.MemVRefIdeal.Read in
theorem ref_at (x : FVec Ideal Cert.MemVRefIdeal.S4x256x1024 .f32) (g : FVec Ideal Cert.MemVRefIdeal.S1024 .f32)
    (w : FVec Ideal Cert.MemVRefIdeal.S1024x512 .f32) (r : Fin 1024) (l : Fin 512) :
    val_main_v15 (F := Ideal) x g w (ix2 r l)
      = ∑ k, rms (fun k => x (ix3 ⟨r.val / 256, by omega⟩ ⟨r.val % 256, by omega⟩ k)) (fun k => g (ix1 k)) k * w (ix2 k l) := by
  simp only [← ref_in]
  pointwise [val_main_v15, val_main_v14]

variable (m : (ℓ : Loc nD τ sig) → Buf (Elt Ideal) ℓ)

theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

theorem x_at (c : Dev nD) (r l : Fin 1024) :
    V m c main_v0 (ix2 r l) = m ((c : Thread nD τ).loc main_arg0) (ix3 ⟨r.val / 256, by omega⟩ ⟨r.val % 256, by omega⟩ l) := by
  entry_read; pointwise []
theorem g_at (c : Dev nD) (l : Fin 1024) :
    V m c main_v2 (ix2 0 l) = m ((c : Thread nD τ).loc main_arg1) (ix1 l) := by
  entry_read; pointwise []
theorem w_at (c : Dev nD) (r : Fin 1024) (l : Fin 512) :
    V m c main_v1 (ix2 r l) = m ((c : Thread nD τ).loc main_arg2) (ix2 r l) := by
  entry_read; pointwise []

theorem lt_tiles (t : Fin cfg0.N) (r : Fin 512) : t.val * 512 + r.val < 1024 := by
  have h : t.val < 2 := lt_of_lt_of_eq t.isLt N_0
  omega

theorem x_blk (c : Dev nD) (t : Fin cfg0.N) (r : Fin 512) (l : Fin 1024) :
    iblk m c 0 t (ix2 r l) = m ((c : Thread nD τ).loc main_arg0)
      (ix3 ⟨(t.val * 512 + r.val) / 256, by have := lt_tiles t r; omega⟩ ⟨(t.val * 512 + r.val) % 256, by omega⟩ l) := by
  refine Eq.trans ?_ (x_at m c ⟨t.val * 512 + r.val, lt_tiles t r⟩ l)
  blk_ext [iblk, idx t]
theorem g_blk (c : Dev nD) (t : Fin cfg0.N) (l : Fin 1024) :
    iblk m c 1 t (ix2 0 l) = m ((c : Thread nD τ).loc main_arg1) (ix1 l) := by
  refine Eq.trans ?_ (g_at m c l)
  blk_ext [iblk, idx t]
theorem w_blk (c : Dev nD) (t : Fin cfg0.N) (r : Fin 1024) (l : Fin 512) :
    iblk m c 2 t (ix2 r l) = m ((c : Thread nD τ).loc main_arg2) (ix2 r l) := by
  refine Eq.trans ?_ (w_at m c r l)
  blk_ext [iblk, idx t]

/-- The normalised rows of the tile that point `t` works on. -/
abbrev hn (c : Dev nD) (t : Fin cfg0.N) : FVec Ideal S512x1024 .bf16 :=
  k0_pay1 (F := Ideal) (iblk m c 0 t) (iblk m c 1 t)

theorem hn_at (c : Dev nD) (t : Fin cfg0.N) (r : Fin 512) (l : Fin 1024) : hn m c t (ix2 r l)
    = rms (fun k => m ((c : Thread nD τ).loc main_arg0)
        (ix3 ⟨(t.val * 512 + r.val) / 256, by have := lt_tiles t r; omega⟩ ⟨(t.val * 512 + r.val) % 256, by omega⟩ k))
        (fun k => m ((c : Thread nD τ).loc main_arg1) (ix1 k)) l :=
  (pay1_at _ _ r l).trans (congrArg₂ (fun a b => rms a b l) (funext fun k => x_blk m c t r k) (funext fun k => g_blk m c t k))

theorem final (c : Dev nD) : (dats m 0 c).arrAt 3 (cfgs 0).N
    = Cert.MemVRefIdeal.Read.val_main_v15 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0; frame_out
  idx_vars y;
  have ee : ((win0_3.blk t).view.emb (ix2 y0 y1)) = ix2 (⟨t.val * 512 + y0.val, lt_tiles t y0⟩ : Fin 1024) y1 := by
    blk_ext [idx t]
  refine Eq.trans ?_ (congrArg _ ee).symm
  refine Eq.trans ?_ (ref_at _ _ _ _ _).symm
  refine (pay2_at _ _ _ _).trans ?_
  exact Finset.sum_congr rfl fun j _ => congrArg₂ (· * ·) (hn_at m c t y0 j) (w_blk m c t j y1)

end Cert.MemVIdeal.Proofs
-- ==== Proof.MemVClaims.lean ====
/- What is claimed of `MemV`: its three runs, and the value of its result. -/
module

public import proofs.«01_k».proof.Defs
public import proofs.«01_k».proof.Proof.MemVValue
public import proofs.«01_k».proof.Proof.Gen.MemV.Frame
public import proofs.«01_k».proof.Proof.Gen.MemVIdeal.Frame
public import proofs.«01_k».proof.Proof.Gen.MemVRefIdeal.Run
public import proofs.«01_k».proof.Proof.Gen.MemVRefIdeal.Read
public import Idealize.ShloMosaic.Lib.Claim

@[expose] public section

noncomputable section

namespace Cert.Proof.MemV

open Idealize.ShloMosaic Idealize.SL.Sem

/-- The program runs to its end and leaves its arguments. -/
theorem runs : Cert.quiescent_MemV := fun m ρ _ => Cert.MemV.Gen.frame m ρ

/-- So does the idealized program. -/
theorem runs_ideal : Cert.quiescent_MemVIdeal := fun m ρ _ => Cert.MemVIdeal.Gen.frame m ρ

/-- So does the reference. -/
theorem runs_reference : Cert.quiescent_MemVRefIdeal := fun m g _ =>
  (θ_run Cert.MemVRefIdeal.defs _ _).mono
    (fun r h => ⟨fun c => (h c).2, Idealize.ShloMosaic.sem_eq_zero_of_no_sems (by decide) r.2⟩)
    (Cert.MemVRefIdeal.Value.run (F := Ideal) m g)

/-- The idealized program's result is the reference's. -/
theorem value : Cert.algebraic_MemVIdeal_MemVRefIdeal := by
  intro m g m' g' hpre hag
  refine ⟨fun c => Cert.MemVRefIdeal.Read.val_main_v15 (F := Ideal) (m ((c.tc : Thread Cert.MemVIdeal.nD Cert.MemVIdeal.τ).loc Cert.MemVIdeal.main_arg0)) (m ((c.tc : Thread Cert.MemVIdeal.nD Cert.MemVIdeal.τ).loc Cert.MemVIdeal.main_arg1)) (m ((c.tc : Thread Cert.MemVIdeal.nD Cert.MemVIdeal.τ).loc Cert.MemVIdeal.main_arg2)), ?_, ?_⟩
  · run_from Cert.MemVIdeal.Gen.run_main m g
    exact Cert.MemVIdeal.Proofs.final m c
  · refine (θ_run Cert.MemVRefIdeal.defs _ _).mono (fun r h c => ⟨(h c).1.trans ?_, (h c).2⟩)
      (Cert.MemVRefIdeal.Value.run (F := Ideal) m' g')
    obtain ⟨h0, h1, h2⟩ := hag c
    rw [Cert.MemVRefIdeal.Read.val_main_v15_eq]
    rw [h0, h1, h2]

end Cert.Proof.MemV

end

end
-- ==== Proof.OutValue.lean ====
module

public import proofs.«01_k».proof.Proof.Norm
public import proofs.«01_k».proof.Proof.Gen.OutIdeal.Value
public import proofs.«01_k».proof.Proof.Gen.OutRefIdeal.Read
public import Idealize.ShloMosaic.Lib.Pipeline.ValueKit
public import Idealize.ShloMosaic.Lib.StableHlo.RunRead

@[expose] public section

set_option maxRecDepth 16384

noncomputable section

namespace Cert.OutIdeal.Proofs

open Cert.OutIdeal Cert.OutIdeal.Gen Idealize.ShloMosaic Idealize.ShloMosaic.TcCoe Idealize.SL.Sem
open Idealize.ShloMosaic.Pipeline (Dat)
open Cert.Common

theorem pay_at (x : FVec Ideal S512x1024 .f32) (a : FVec Ideal S512x512 .f32) (w : FVec Ideal S512x1024 .bf16) (r : Fin 512) (l : Fin 1024) :
    k0_pay1 (F := Ideal) x a w (ix2 r l) = (x (ix2 r l) + ∑ k, a (ix2 r k) * w (ix2 k l) : EReal) := by
  pointwise [k0_pay1]

open Cert.OutRefIdeal.Read in
theorem ref_at (x : FVec Ideal Cert.OutRefIdeal.S128x8x1024 .f32) (a : FVec Ideal Cert.OutRefIdeal.S128x8x512 .f32)
    (w : FVec Ideal Cert.OutRefIdeal.S512x1024 .f32) (r : Fin 1024) (l : Fin 1024) :
    val_main_v2 (F := Ideal) x a w (ix2 r l)
      = (x (ix3 ⟨r.val / 8, by omega⟩ ⟨r.val % 8, by omega⟩ l)
          + ∑ k, a (ix3 ⟨r.val / 8, by omega⟩ ⟨r.val % 8, by omega⟩ k) * w (ix2 k l) : EReal) := by
  pointwise [val_main_v2, val_main_v1, val_main_v0]

variable (m : (ℓ : Loc nD τ sig) → Buf (Elt Ideal) ℓ)

theorem idx : ∀ t : Fin cfg0.N, win0_0.index t = ![t.val, 0] ∧ win0_1.index t = ![t.val, 0]
    ∧ win0_2.index t = ![0, 0] ∧ win0_3.index t = ![t.val, 0] :=
  (by decide +kernel : ∀ t : Fin grid0.N, _)

theorem x_at (c : Dev nD) (r l : Fin 1024) :
    V m c main_v0 (ix2 r l) = m ((c : Thread nD τ).loc main_arg0) (ix3 ⟨r.val / 8, by omega⟩ ⟨r.val % 8, by omega⟩ l) := by
  entry_read; pointwise []
theorem a_at (c : Dev nD) (r : Fin 1024) (l : Fin 512) :
    V m c main_v1 (ix2 r l) = m ((c : Thread nD τ).loc main_arg1) (ix3 ⟨r.val / 8, by omega⟩ ⟨r.val % 8, by omega⟩ l) := by
  entry_read; pointwise []
theorem w_at (c : Dev nD) (r : Fin 512) (l : Fin 1024) :
    V m c main_v2 (ix2 r l) = m ((c : Thread nD τ).loc main_arg2) (ix2 r l) := by
  entry_read; pointwise []

theorem lt_tiles (t : Fin cfg0.N) (r : Fin 512) : t.val * 512 + r.val < 1024 := by
  have h : t.val < 2 := lt_of_lt_of_eq t.isLt N_0
  omega

theorem x_blk (c : Dev nD) (t : Fin cfg0.N) (r : Fin 512) (l : Fin 1024) :
    iblk m c 0 t (ix2 r l) = m ((c : Thread nD τ).loc main_arg0)
      (ix3 ⟨(t.val * 512 + r.val) / 8, by have := lt_tiles t r; omega⟩ ⟨(t.val * 512 + r.val) % 8, by omega⟩ l) := by
  refine Eq.trans ?_ (x_at m c ⟨t.val * 512 + r.val, lt_tiles t r⟩ l)
  blk_ext [iblk, idx t]
theorem a_blk (c : Dev nD) (t : Fin cfg0.N) (r : Fin 512) (l : Fin 512) :
    iblk m c 1 t (ix2 r l) = m ((c : Thread nD τ).loc main_arg1)
      (ix3 ⟨(t.val * 512 + r.val) / 8, by have := lt_tiles t r; omega⟩ ⟨(t.val * 512 + r.val) % 8, by omega⟩ l) := by
  refine Eq.trans ?_ (a_at m c ⟨t.val * 512 + r.val, lt_tiles t r⟩ l)
  blk_ext [iblk, idx t]
theorem w_blk (c : Dev nD) (t : Fin cfg0.N) (r : Fin 512) (l : Fin 1024) :
    iblk m c 2 t (ix2 r l) = m ((c : Thread nD τ).loc main_arg2) (ix2 r l) := by
  refine Eq.trans ?_ (w_at m c r l)
  blk_ext [iblk, idx t]

theorem final (c : Dev nD) : (dats m 0 c).arrAt 3 (cfgs 0).N
    = Cert.OutRefIdeal.Read.val_main_v2 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y;
  have ee : ((win0_3.blk t).view.emb (ix2 y0 y1)) = ix2 (⟨t.val * 512 + y0.val, lt_tiles t y0⟩ : Fin 1024) y1 := by
    blk_ext [idx t]
  refine Eq.trans ?_ (congrArg _ ee).symm
  refine Eq.trans ?_ (ref_at _ _ _ _ _).symm
  refine (pay_at _ _ _ _ _).trans ?_
  exact congrArg₂ (· + ·) (x_blk m c t y0 y1)
    (Finset.sum_congr rfl fun j _ => congrArg₂ (· * ·) (a_blk m c t y0 j) (w_blk m c t j y1))

end Cert.OutIdeal.Proofs
-- ==== Proof.OutClaims.lean ====
/- What is claimed of `Out`: its three runs, and the value of its result. -/
module

public import proofs.«01_k».proof.Defs
public import proofs.«01_k».proof.Proof.OutValue
public import proofs.«01_k».proof.Proof.Gen.Out.Frame
public import proofs.«01_k».proof.Proof.Gen.OutIdeal.Frame
public import proofs.«01_k».proof.Proof.Gen.OutRefIdeal.Run
public import proofs.«01_k».proof.Proof.Gen.OutRefIdeal.Read
public import Idealize.ShloMosaic.Lib.Claim

@[expose] public section

noncomputable section

namespace Cert.Proof.Out

open Idealize.ShloMosaic Idealize.SL.Sem

/-- The program runs to its end and leaves its arguments. -/
theorem runs : Cert.quiescent_Out := fun m ρ _ => Cert.Out.Gen.frame m ρ

/-- So does the idealized program. -/
theorem runs_ideal : Cert.quiescent_OutIdeal := fun m ρ _ => Cert.OutIdeal.Gen.frame m ρ

/-- So does the reference. -/
theorem runs_reference : Cert.quiescent_OutRefIdeal := fun m g _ =>
  (θ_run Cert.OutRefIdeal.defs _ _).mono
    (fun r h => ⟨fun c => (h c).2, Idealize.ShloMosaic.sem_eq_zero_of_no_sems (by decide) r.2⟩)
    (Cert.OutRefIdeal.Value.run (F := Ideal) m g)

/-- The idealized program's result is the reference's. -/
theorem value : Cert.algebraic_OutIdeal_OutRefIdeal := by
  intro m g m' g' hpre hag
  refine ⟨fun c => Cert.OutRefIdeal.Read.val_main_v2 (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)), ?_, ?_⟩
  · run_from Cert.OutIdeal.Gen.run_main m g
    exact Cert.OutIdeal.Proofs.final m c
  · refine (θ_run Cert.OutRefIdeal.defs _ _).mono (fun r h c => ⟨(h c).1.trans ?_, (h c).2⟩)
      (Cert.OutRefIdeal.Value.run (F := Ideal) m' g')
    obtain ⟨h0, h1, h2⟩ := hag c
    rw [Cert.OutRefIdeal.Read.val_main_v2_eq]
    rw [h0, h1, h2]

end Cert.Proof.Out

end

end
-- ==== Proof.Masked.lean ====
/- A softmax over scores of which only every fourth counts: the others are minus infinity, and weigh nothing. -/
module

public import proofs.«01_k».proof.Proof.Soft

@[expose] public section

noncomputable section

namespace Cert.Common

open Idealize.ShloMosaic

/-- The exponential of a score less the largest. -/
def wts {n : ℕ} (s : Fin n → EReal) (j : Fin n) : EReal := Ideal.exp (s j - top s)

/-- The weighted sum over the sum of the weights. -/
def avg {n : ℕ} (p v : Fin n → EReal) : EReal := Ideal.div (∑ j, p j * v j) (∑ j, p j)

/-- With real scores, dividing the weighted sum is weighting by the quotients. -/
theorem avg_eq {n : ℕ} [NeZero n] {s : Fin n → EReal} (hs : ∀ j, IsR (s j)) (v : Fin n → EReal) :
    avg (wts s) v = ∑ j, v j * Ideal.div (wts s j) (∑ i, wts s i) :=
  weighted_mean s v (top s) hs (IsR.top s hs)

/-- The place of a head's score among all heads' scores. -/
def place (h : Fin 4) (k : Fin 256) : Fin 1024 := ⟨4 * k.val + h.val, by omega⟩

variable {f : Fin 1024 → EReal} {g : Fin 256 → EReal} {h : Fin 4}

theorem top_masked (e : ∀ k, f (place h k) = g k) (e' : ∀ j : Fin 1024, j.val % 4 ≠ h.val → f j = ⊥) : top f = top g := by
  unfold top
  refine le_antisymm ?_ ?_
  · rw [Finset.fold_max_le]
    refine ⟨(Finset.le_fold_max _).mpr (Or.inl le_rfl), fun j _ => ?_⟩
    by_cases hj : j.val % 4 = h.val
    · refine (Finset.le_fold_max _).mpr (Or.inr ⟨⟨j.val / 4, by omega⟩, Finset.mem_univ _, ?_⟩)
      rw [← e]
      refine le_of_eq (congrArg f (Fin.ext ?_))
      show j.val = 4 * (j.val / 4) + h.val
      omega
    · rw [e' j hj]; exact bot_le
  · rw [Finset.fold_max_le]
    exact ⟨(Finset.le_fold_max _).mpr (Or.inl le_rfl),
      fun k _ => (Finset.le_fold_max _).mpr (Or.inr ⟨place h k, Finset.mem_univ _, (e k).ge⟩)⟩

theorem sum_masked (F : Fin 1024 → EReal) (h : Fin 4) (z : ∀ j : Fin 1024, j.val % 4 ≠ h.val → F j = 0) :
    ∑ j, F j = ∑ k, F (place h k) := by
  symm
  refine Finset.sum_of_injOn (place h) (fun a _ b _ hab => ?_) (fun _ _ => Finset.mem_univ _) (fun j _ hj => z j fun hm => hj ?_)
    (fun _ _ => rfl)
  · have : 4 * a.val + h.val = 4 * b.val + h.val := congrArg Fin.val hab
    exact Fin.ext (by omega)
  · refine ⟨⟨j.val / 4, by omega⟩, Finset.mem_coe.mpr (Finset.mem_univ _), Fin.ext ?_⟩
    show 4 * (j.val / 4) + h.val = j.val
    omega

/-- The mean over all places is the mean over the places that count. -/
theorem avg_masked (hg : ∀ k, IsR (g k)) (e : ∀ k, f (place h k) = g k) (e' : ∀ j : Fin 1024, j.val % 4 ≠ h.val → f j = ⊥)
    (v : Fin 1024 → EReal) : avg (wts f) v = avg (wts g) fun k => v (place h k) := by
  have et := top_masked e e'
  have z : ∀ j : Fin 1024, j.val % 4 ≠ h.val → wts f j = 0 := fun j hj => by
    unfold wts
    obtain ⟨r, hr⟩ := IsR.top g hg
    rw [e' j hj, et, hr]
    rfl
  have w : ∀ k, wts f (place h k) = wts g k := fun k => by unfold wts; rw [e, et]
  unfold avg
  rw [sum_masked (wts f) h z, sum_masked (fun j => wts f j * v j) h fun j hj => by rw [z j hj, zero_mul]]
  simp only [w]

end Cert.Common

end

end
-- ==== Proof.CachedTile.lean ====
/- The sample's cross-attention into the cached memory tokens: what the idealized call leaves, and the reference's value of it. -/
module

public import proofs.«01_k».proof.Proof.Masked
public import proofs.«01_k».proof.Proof.Gen.CachedIdeal.Value
public import proofs.«01_k».proof.Proof.Gen.CachedRefIdeal.Read
public import Idealize.ShloMosaic.Lib.Pipeline.ValueKit
public import Idealize.ShloMosaic.Lib.StableHlo.RunRead

@[expose] public section

set_option maxRecDepth 16384

noncomputable section

namespace Cert.CachedIdeal.Proofs

open Cert.CachedIdeal Cert.CachedIdeal.Gen Idealize.ShloMosaic Idealize.ShloMosaic.TcCoe Idealize.SL.Sem
open Idealize.ShloMosaic.Pipeline (Dat)
open Cert.Common

/-- A score: the product of a query with a key, scaled. -/
def score (q k : Fin 128 → EReal) : EReal := (∑ d, q d * k d) * Ideal.ofBits FTy.f32 1035273459#32

/-- The scores of one row against all heads' keys, minus infinity where the key is another head's. -/
def row (M : IVec S32x1024 1) (r : Fin 32) (q : Fin 128 → EReal) (K : Fin 1024 → Fin 128 → EReal) (j : Fin 1024) : EReal :=
  if M (ix2 r j) = 1#1 then score q (K j) else Ideal.ofBits FTy.f32 4286578688#32

/-- The mask: a row of head `h` keeps the keys of head `h`. -/
theorem mask_at (r : Fin 32) (j : Fin 1024) : k0_pay11 (ix2 r j) = if j.val % 4 = r.val / 8 then 1#1 else 0#1 := by
  have e : ∀ a b : Fin 4, IntOp.cmpi CmpIPredicate.eq (BitVec.ofNat 32 a.val) (BitVec.ofNat 32 b.val)
      = if b.val = a.val then 1#1 else 0#1 := by decide
  refine Eq.trans ?_ (e ⟨r.val / 8, by omega⟩ ⟨j.val % 4, by omega⟩)
  pointwise [k0_pay11]
  refine congrArg₂ (IntOp.cmpi CmpIPredicate.eq) ?_ ?_
  · clear j; revert r; decide +kernel
  · clear r; revert j; decide +kernel

/-- Four tiles one under another: the row names the tile and the row in it. -/
theorem pick (X : Fin 4 → Fin 8 → Fin 128 → EReal) (a b c d : FVec Ideal S8x128 .f32)
    (ha : ∀ i l, a (ix2 i l) = X 0 i l) (hb : ∀ i l, b (ix2 i l) = X 1 i l) (hc : ∀ i l, c (ix2 i l) = X 2 i l)
    (hd : ∀ i l, d (ix2 i l) = X 3 i l) (r : Fin 32) (l : Fin 128) :
    (if h : r.val < 8 then a (ix2 ⟨r.val, h⟩ l) else if h : r.val - 8 < 8 then b (ix2 ⟨r.val - 8, h⟩ l)
      else if h : r.val - 8 - 8 < 8 then c (ix2 ⟨r.val - 8 - 8, h⟩ l) else d (ix2 ⟨r.val - 8 - 8 - 8, by omega⟩ l))
    = X ⟨r.val / 8, by omega⟩ ⟨r.val % 8, by omega⟩ l := by
  have hr := r.isLt
  split_ifs with h0 h1 h2
  · rw [ha]
    exact congrArg₂ (fun p q => X p q l) (Fin.ext (by show 0 = r.val / 8; omega)) (Fin.ext (by show r.val = r.val % 8; omega))
  · rw [hb]
    exact congrArg₂ (fun p q => X p q l) (Fin.ext (by show 1 = r.val / 8; omega)) (Fin.ext (by show r.val - 8 = r.val % 8; omega))
  · rw [hc]
    exact congrArg₂ (fun p q => X p q l) (Fin.ext (by show 2 = r.val / 8; omega)) (Fin.ext (by show r.val - 8 - 8 = r.val % 8; omega))
  · rw [hd]
    exact congrArg₂ (fun p q => X p q l) (Fin.ext (by show 3 = r.val / 8; omega)) (Fin.ext (by show r.val - 8 - 8 - 8 = r.val % 8; omega))

theorem pay12_at (a b c d : FVec Ideal S8x128 .f32) (X : Fin 4 → Fin 8 → Fin 128 → EReal)
    (ha : ∀ i l, a (ix2 i l) = X 0 i l) (hb : ∀ i l, b (ix2 i l) = X 1 i l) (hc : ∀ i l, c (ix2 i l) = X 2 i l)
    (hd : ∀ i l, d (ix2 i l) = X 3 i l) (r : Fin 32) (l : Fin 128) :
    k0_pay12 (F := Ideal) a b c d (ix2 r l) = X ⟨r.val / 8, by omega⟩ ⟨r.val % 8, by omega⟩ l := by
  refine Eq.trans ?_ (pick X a b c d ha hb hc hd r l)
  pointwise [k0_pay12]
theorem pay13_at (a b c d : FVec Ideal S8x128 .f32) (X : Fin 4 → Fin 8 → Fin 128 → EReal)
    (ha : ∀ i l, a (ix2 i l) = X 0 i l) (hb : ∀ i l, b (ix2 i l) = X 1 i l) (hc : ∀ i l, c (ix2 i l) = X 2 i l)
    (hd : ∀ i l, d (ix2 i l) = X 3 i l) (r : Fin 32) (l : Fin 128) :
    k0_pay13 (F := Ideal) a b c d (ix2 r l) = X ⟨r.val / 8, by omega⟩ ⟨r.val % 8, by omega⟩ l := by
  refine Eq.trans ?_ (pick X a b c d ha hb hc hd r l)
  pointwise [k0_pay13]
theorem pay14_at (a b c d : FVec Ideal S8x128 .f32) (X : Fin 4 → Fin 8 → Fin 128 → EReal)
    (ha : ∀ i l, a (ix2 i l) = X 0 i l) (hb : ∀ i l, b (ix2 i l) = X 1 i l) (hc : ∀ i l, c (ix2 i l) = X 2 i l)
    (hd : ∀ i l, d (ix2 i l) = X 3 i l) (r : Fin 32) (l : Fin 128) :
    k0_pay14 (F := Ideal) a b c d (ix2 r l) = X ⟨r.val / 8, by omega⟩ ⟨r.val % 8, by omega⟩ l := by
  refine Eq.trans ?_ (pick X a b c d ha hb hc hd r l)
  pointwise [k0_pay14]
theorem pay17_at (a b c d : FVec Ideal S8x128 .f32) (X : Fin 4 → Fin 8 → Fin 128 → EReal)
    (ha : ∀ i l, a (ix2 i l) = X 0 i l) (hb : ∀ i l, b (ix2 i l) = X 1 i l) (hc : ∀ i l, c (ix2 i l) = X 2 i l)
    (hd : ∀ i l, d (ix2 i l) = X 3 i l) (r : Fin 32) (l : Fin 128) :
    k0_pay17 (F := Ideal) (k0_pay15 a) (k0_pay16 b) c d (ix2 r l) = X ⟨r.val / 8, by omega⟩ ⟨r.val % 8, by omega⟩ l := by
  refine Eq.trans ?_ (pick X a b c d ha hb hc hd r l)
  pointwise [k0_pay17, k0_pay15, k0_pay16]
theorem pay18_at (M : IVec S32x1024 1) (q : FVec Ideal S32x128 .bf16) (k : FVec Ideal S1x1x1024x128 .f32) (r : Fin 32)
    (j : Fin 1024) : k0_pay18 (F := Ideal) M q k (ix2 r j) = row M r (fun d => q (ix2 r d)) (fun j d => k (ix4 0 0 j d)) j := by
  unfold row score
  pointwise [k0_pay18]
  rfl
theorem pay19_at (M : IVec S32x1024 1) (q : FVec Ideal S32x128 .bf16) (k : FVec Ideal S1x1x1024x128 .f32) (r : Fin 32)
    (j : Fin 1024) : k0_pay19 (F := Ideal) M q k (ix2 r j) = row M r (fun d => q (ix2 r d)) (fun j d => k (ix4 0 0 j d)) j := by
  unfold row score
  pointwise [k0_pay19]
  rfl
theorem pay20_at (M : IVec S32x1024 1) (q : FVec Ideal S32x128 .bf16) (k : FVec Ideal S1x1x1024x128 .f32) (r : Fin 32)
    (j : Fin 1024) : k0_pay20 (F := Ideal) M q k (ix2 r j) = row M r (fun d => q (ix2 r d)) (fun j d => k (ix4 0 0 j d)) j := by
  unfold row score
  pointwise [k0_pay20]
  rfl
theorem mean0_at (s : FVec Ideal S32x1024 .f32) (v : FVec Ideal S1x1x1024x128 .f32) (r : Fin 32) (l : Fin 128) :
    k0_pay28 (F := Ideal) s v (ix2 r l) = avg (wts fun j => s (ix2 r j)) fun j => v (ix4 0 0 j l) := by
  pointwise [k0_pay28, avg, wts, top]
theorem mean1_at (s : FVec Ideal S32x1024 .f32) (v : FVec Ideal S1x1x1024x128 .f32) (r : Fin 32) (l : Fin 128) :
    k0_pay30 (F := Ideal) (k0_pay25 s) (k0_pay29 s) v (ix2 r l) = avg (wts fun j => s (ix2 r j)) fun j => v (ix4 0 0 j l) := by
  pointwise [k0_pay30, k0_pay25, k0_pay29, k0_pay22, avg, wts, top]
theorem mean2_at (s : FVec Ideal S32x1024 .f32) (v : FVec Ideal S1x1x1024x128 .f32) (r : Fin 32) (l : Fin 128) :
    k0_pay31 (F := Ideal) (k0_pay23 s) (k0_pay26 s) v (ix2 r l) = avg (wts fun j => s (ix2 r j)) fun j => v (ix4 0 0 j l) := by
  pointwise [k0_pay31, k0_pay23, k0_pay26, avg, wts, top]
theorem mean3_at (M : IVec S32x1024 1) (q : FVec Ideal S32x128 .bf16) (k v : FVec Ideal S1x1x1024x128 .f32) (r : Fin 32) (l : Fin 128) :
    k0_pay32 (F := Ideal) (k0_pay24 M q (k0_pay21 k)) (k0_pay27 M q (k0_pay21 k)) v (ix2 r l)
      = avg (wts (row M r (fun d => q (ix2 r d)) fun j d => k (ix4 0 0 j d))) fun j => v (ix4 0 0 j l) := by
  unfold avg wts top row score
  pointwise [k0_pay32, k0_pay24, k0_pay27, k0_pay21]
  rfl

/-- A query's head in one of the four sequences of a tile. -/
abbrev query (x0 : FVec Ideal S32x512 .f32) (s h : Fin 4) (i : Fin 8) (d : Fin 128) : EReal :=
  x0 (ix2 ⟨8 * s.val + i.val, by omega⟩ ⟨128 * h.val + d.val, by omega⟩)

theorem ld_q (x0 : FVec Ideal S32x512 .f32) (o0 o1 : ℕ) (hb : ∀ a, (![o0, o1] : Fin 2 → ℕ) a + S8x128.size a ≤ S32x512.size a)
    (s h : Fin 4) (e0 : o0 = 8 * s.val) (e1 : o1 = 128 * h.val) (i : Fin 8) (d : Fin 128) :
    (View.ld (Val := Elt Ideal) (e' := .f32) x0 (Rect.unit (s := S32x512) ![o0, o1] S8x128.size hb) : FVec Ideal S8x128 .f32) (ix2 i d)
      = query x0 s h i d := by
  subst e0 e1
  refine View.ld_unit_apply_of _ _ _ _ _ _ (fun a => ?_)
  match a with
  | ⟨0, _⟩ => rfl
  | ⟨1, _⟩ => rfl

theorem ld_kv (x : FVec Ideal S1x4x1024x128 .f32) (o : ℕ)
    (hb : ∀ a, (![0, o, 0, 0] : Fin 4 → ℕ) a + S1x1x1024x128.size a ≤ S1x4x1024x128.size a)
    (s : Fin 4) (e : o = s.val) (j : Fin 1024) (d : Fin 128) :
    (View.ld (Val := Elt Ideal) (e' := .f32) x (Rect.unit (s := S1x4x1024x128) ![0, o, 0, 0] S1x1x1024x128.size hb)
      : FVec Ideal S1x1x1024x128 .f32) (ix4 0 0 j d) = x (ix4 0 s j d) := by
  subst e
  refine View.ld_unit_apply_of _ _ _ _ _ _ (fun a => ?_)
  match a with
  | ⟨0, _⟩ => rfl
  | ⟨1, _⟩ => rfl
  | ⟨2, _⟩ => exact (Nat.zero_add _).symm
  | ⟨3, _⟩ => exact (Nat.zero_add _).symm

/-- What a row of the tile is to hold: the mean of the head's values under the head's scores. -/
def goal (x0 : FVec Ideal S32x512 .f32) (x1 x2 : FVec Ideal S1x4x1024x128 .f32) (s h : Fin 4) (i : Fin 8) (l : Fin 128) : EReal :=
  avg (wts fun k => score (query x0 s h i) fun d => x1 (ix4 0 s (place h k) d)) fun k => x2 (ix4 0 s (place h k) l)

/-- The masked mean over all heads' keys is the mean over the head's. -/
theorem seq_at (x0 : FVec Ideal S32x512 .f32) (x1 x2 : FVec Ideal S1x4x1024x128 .f32) (h0 : ∀ i, IsR (x0 i)) (h1 : ∀ i, IsR (x1 i))
    (s h : Fin 4) (i : Fin 8) (l : Fin 128) (r : Fin 32) (hr : r.val = 8 * h.val + i.val) :
    avg (wts (row k0_pay11 r (query x0 s ⟨r.val / 8, by omega⟩ ⟨r.val % 8, by omega⟩) fun j d => x1 (ix4 0 s j d)))
      (fun j => x2 (ix4 0 s j l)) = goal x0 x1 x2 s h i l := by
  have eh : (⟨r.val / 8, by omega⟩ : Fin 4) = h := Fin.ext (by show r.val / 8 = h.val; omega)
  have ei : (⟨r.val % 8, by omega⟩ : Fin 8) = i := Fin.ext (by show r.val % 8 = i.val; omega)
  rw [eh, ei]
  refine avg_masked (fun k => (IsR.sum _ _ fun d => (h0 _).mul (h1 _)).mul word_scale) (fun k => ?_) (fun j hj => ?_) _
  · have e : k0_pay11 (ix2 r (place h k)) = 1#1 :=
      (mask_at r _).trans (if_pos (by show (4 * k.val + h.val) % 4 = r.val / 8; omega))
    exact if_pos e
  · have e : k0_pay11 (ix2 r j) = 0#1 := (mask_at r _).trans (if_neg (by omega))
    refine (if_neg ?_).trans word_bot
    rw [e]
    decide

theorem row_congr (M : IVec S32x1024 1) (r : Fin 32) {q q' : Fin 128 → EReal} {K K' : Fin 1024 → Fin 128 → EReal}
    (hq : ∀ d, q d = q' d) (hK : ∀ j d, K j d = K' j d) : row M r q K = row M r q' K' := by
  rw [funext hq, funext fun j => funext (hK j)]

theorem out0_at (x0 : FVec Ideal S32x512 .f32) (x1 x2 : FVec Ideal S1x4x1024x128 .f32) (h0 : ∀ i, IsR (x0 i)) (h1 : ∀ i, IsR (x1 i))
    (h : Fin 4) (i : Fin 8) (l : Fin 128) (r : Fin 32) (hr : r.val = 8 * h.val + i.val) :
    k0_pay45 (F := Ideal) x0 x1 x2 (ix2 r l) = goal x0 x1 x2 0 h i l := by
  unfold k0_pay45 k0_pay39
  refine (mean0_at _ _ r l).trans (Eq.trans ?_ (seq_at x0 x1 x2 h0 h1 0 h i l r hr))
  exact congrArg₂ (fun a b => avg (wts a) b) (funext fun j => (pay18_at _ _ _ r j).trans (congrFun (row_congr _ r (fun d => pay12_at _ _ _ _ (query x0 0) (ld_q x0 0 0 _ 0 0 rfl rfl) (ld_q x0 0 128 _ 0 1 rfl rfl) (ld_q x0 0 256 _ 0 2 rfl rfl) (ld_q x0 0 384 _ 0 3 rfl rfl) r d)
      fun j d => ld_kv x1 0 _ 0 rfl j d) j))
    (funext fun j => ld_kv x2 0 _ 0 rfl j l)
theorem out1_at (x0 : FVec Ideal S32x512 .f32) (x1 x2 : FVec Ideal S1x4x1024x128 .f32) (h0 : ∀ i, IsR (x0 i)) (h1 : ∀ i, IsR (x1 i))
    (h : Fin 4) (i : Fin 8) (l : Fin 128) (r : Fin 32) (hr : r.val = 8 * h.val + i.val) :
    k0_pay47 (F := Ideal) x0 x1 x2 (ix2 r l) = goal x0 x1 x2 1 h i l := by
  unfold k0_pay47 k0_pay44 k0_pay46 k0_pay41 k0_pay39
  refine (mean1_at _ _ r l).trans (Eq.trans ?_ (seq_at x0 x1 x2 h0 h1 1 h i l r hr))
  exact congrArg₂ (fun a b => avg (wts a) b) (funext fun j => (pay19_at _ _ _ r j).trans (congrFun (row_congr _ r (fun d => pay13_at _ _ _ _ (query x0 1) (ld_q x0 8 0 _ 1 0 rfl rfl) (ld_q x0 8 128 _ 1 1 rfl rfl) (ld_q x0 8 256 _ 1 2 rfl rfl) (ld_q x0 8 384 _ 1 3 rfl rfl) r d)
      fun j d => ld_kv x1 1 _ 1 rfl j d) j))
    (funext fun j => ld_kv x2 1 _ 1 rfl j l)
theorem out2_at (x0 : FVec Ideal S32x512 .f32) (x1 x2 : FVec Ideal S1x4x1024x128 .f32) (h0 : ∀ i, IsR (x0 i)) (h1 : ∀ i, IsR (x1 i))
    (h : Fin 4) (i : Fin 8) (l : Fin 128) (r : Fin 32) (hr : r.val = 8 * h.val + i.val) :
    k0_pay48 (F := Ideal) x0 x1 x2 (ix2 r l) = goal x0 x1 x2 2 h i l := by
  unfold k0_pay48 k0_pay42 k0_pay39
  refine (mean2_at _ _ r l).trans (Eq.trans ?_ (seq_at x0 x1 x2 h0 h1 2 h i l r hr))
  exact congrArg₂ (fun a b => avg (wts a) b) (funext fun j => (pay20_at _ _ _ r j).trans (congrFun (row_congr _ r (fun d => pay14_at _ _ _ _ (query x0 2) (ld_q x0 16 0 _ 2 0 rfl rfl) (ld_q x0 16 128 _ 2 1 rfl rfl) (ld_q x0 16 256 _ 2 2 rfl rfl) (ld_q x0 16 384 _ 2 3 rfl rfl) r d)
      fun j d => ld_kv x1 2 _ 2 rfl j d) j))
    (funext fun j => ld_kv x2 2 _ 2 rfl j l)
theorem out3_at (x0 : FVec Ideal S32x512 .f32) (x1 x2 : FVec Ideal S1x4x1024x128 .f32) (h0 : ∀ i, IsR (x0 i)) (h1 : ∀ i, IsR (x1 i))
    (h : Fin 4) (i : Fin 8) (l : Fin 128) (r : Fin 32) (hr : r.val = 8 * h.val + i.val) :
    k0_pay49 (F := Ideal) x0 x1 x2 (ix2 r l) = goal x0 x1 x2 3 h i l := by
  unfold k0_pay49 k0_pay40 k0_pay43 k0_pay39
  refine (mean3_at _ _ _ _ r l).trans (Eq.trans ?_ (seq_at x0 x1 x2 h0 h1 3 h i l r hr))
  exact congrArg₂ (fun a b => avg (wts a) b) (row_congr _ r (fun d => pay17_at _ _ _ _ (query x0 3) (ld_q x0 24 0 _ 3 0 rfl rfl) (ld_q x0 24 128 _ 3 1 rfl rfl) (ld_q x0 24 256 _ 3 2 rfl rfl) (ld_q x0 24 384 _ 3 3 rfl rfl) r d) fun j d => ld_kv x1 3 _ 3 rfl j d)
    (funext fun j => ld_kv x2 3 _ 3 rfl j l)
theorem part00_at (v : FVec Ideal S32x128 .f32) (i : Fin 8) (l : Fin 128) :
    k0_pay33 (F := Ideal) v (ix2 i l) = v (ix2 ⟨0 + i.val, by omega⟩ l) := by
  pointwise [k0_pay33]
theorem part01_at (v : FVec Ideal S32x128 .f32) (i : Fin 8) (l : Fin 128) :
    k0_pay34 (F := Ideal) v (ix2 i l) = v (ix2 ⟨8 + i.val, by omega⟩ l) := by
  pointwise [k0_pay34]
theorem part02_at (v : FVec Ideal S32x128 .f32) (i : Fin 8) (l : Fin 128) :
    k0_pay35 (F := Ideal) v (ix2 i l) = v (ix2 ⟨16 + i.val, by omega⟩ l) := by
  pointwise [k0_pay35]
theorem part03_at (v : FVec Ideal S32x128 .f32) (i : Fin 8) (l : Fin 128) :
    k0_pay36 (F := Ideal) v (ix2 i l) = v (ix2 ⟨24 + i.val, by omega⟩ l) := by
  pointwise [k0_pay36]
theorem part20_at (v : FVec Ideal S32x128 .f32) (i : Fin 8) (l : Fin 128) :
    k0_pay3 (F := Ideal) v (ix2 i l) = v (ix2 ⟨0 + i.val, by omega⟩ l) := by
  pointwise [k0_pay3]
theorem part21_at (v : FVec Ideal S32x128 .f32) (i : Fin 8) (l : Fin 128) :
    k0_pay4 (F := Ideal) v (ix2 i l) = v (ix2 ⟨8 + i.val, by omega⟩ l) := by
  pointwise [k0_pay4]
theorem part22_at (v : FVec Ideal S32x128 .f32) (i : Fin 8) (l : Fin 128) :
    k0_pay5 (F := Ideal) v (ix2 i l) = v (ix2 ⟨16 + i.val, by omega⟩ l) := by
  pointwise [k0_pay5]
theorem part23_at (v : FVec Ideal S32x128 .f32) (i : Fin 8) (l : Fin 128) :
    k0_pay6 (F := Ideal) v (ix2 i l) = v (ix2 ⟨24 + i.val, by omega⟩ l) := by
  pointwise [k0_pay6]
theorem part30_at (v : FVec Ideal S32x128 .f32) (i : Fin 8) (l : Fin 128) :
    k0_pay7 (F := Ideal) v (ix2 i l) = v (ix2 ⟨0 + i.val, by omega⟩ l) := by
  pointwise [k0_pay7]
theorem part31_at (v : FVec Ideal S32x128 .f32) (i : Fin 8) (l : Fin 128) :
    k0_pay8 (F := Ideal) v (ix2 i l) = v (ix2 ⟨8 + i.val, by omega⟩ l) := by
  pointwise [k0_pay8]
theorem part32_at (v : FVec Ideal S32x128 .f32) (i : Fin 8) (l : Fin 128) :
    k0_pay9 (F := Ideal) v (ix2 i l) = v (ix2 ⟨16 + i.val, by omega⟩ l) := by
  pointwise [k0_pay9]
theorem part33_at (v : FVec Ideal S32x128 .f32) (i : Fin 8) (l : Fin 128) :
    k0_pay10 (F := Ideal) v (ix2 i l) = v (ix2 ⟨24 + i.val, by omega⟩ l) := by
  pointwise [k0_pay10]
theorem part12_at (v : FVec Ideal S32x128 .f32) (i : Fin 8) (l : Fin 128) :
    k0_pay1 (F := Ideal) v (ix2 i l) = v (ix2 ⟨16 + i.val, by omega⟩ l) := by
  pointwise [k0_pay1]
theorem part13_at (v : FVec Ideal S32x128 .f32) (i : Fin 8) (l : Fin 128) :
    k0_pay2 (F := Ideal) v (ix2 i l) = v (ix2 ⟨24 + i.val, by omega⟩ l) := by
  pointwise [k0_pay2]
theorem part10_at (a : FVec Ideal S32x1 .f32) (b : FVec Ideal S32x1024 .bf16) (v : FVec Ideal S1x1x1024x128 .f32) (i : Fin 8) (l : Fin 128) :
    k0_pay37 (F := Ideal) a b v (ix2 i l) = k0_pay30 (F := Ideal) a b v (ix2 ⟨0 + i.val, by omega⟩ l) := by
  pointwise [k0_pay37]
theorem part11_at (a : FVec Ideal S32x1 .f32) (b : FVec Ideal S32x1024 .bf16) (v : FVec Ideal S1x1x1024x128 .f32) (i : Fin 8) (l : Fin 128) :
    k0_pay38 (F := Ideal) a b v (ix2 i l) = k0_pay30 (F := Ideal) a b v (ix2 ⟨8 + i.val, by omega⟩ l) := by
  pointwise [k0_pay38]
end Cert.CachedIdeal.Proofs

end

end
-- ==== Proof.CachedValue.lean ====
/- The sample's cross-attention into the cached memory tokens: the array that the idealized call leaves is the reference's. -/
module

public import proofs.«01_k».proof.Proof.CachedTile
public import Idealize.ShloMosaic.Lib.ReduceAll

@[expose] public section

set_option maxRecDepth 16384

noncomputable section

namespace Cert.CachedIdeal.Proofs

open Cert.CachedIdeal Cert.CachedIdeal.Gen Idealize.ShloMosaic Idealize.ShloMosaic.TcCoe Idealize.SL.Sem
open Idealize.ShloMosaic.Pipeline (Dat)
open Cert.Common

/-- A largest-value reduction along the last of four axes, read at an index. -/
theorem reduce_max_last {n0 n1 n2 n3 : ℕ} {u : Shape} (y : FVec Ideal ⟨4, ![n0, n1, n2, n3]⟩ .f32) (i0 : u.Idx → EReal)
    (h : (⟨4, ![n0, n1, n2, n3]⟩ : Shape).ReducesTo [3] ⟨3, ![n0, n1, n2]⟩) (hu : 0 < u.numel)
    (a : Fin n0) (b : Fin n1) (c : Fin n2) :
    Host.reduce (FloatOps.maximumf (F := Ideal) (φ := .f32)) y i0 h hu (ix3 a b c)
      = (Finset.univ : Finset (Fin n3)).fold max (i0 (Shape.Idx.first hu)) (fun j => y (ix4 a b c j)) := by
  rw [Host.reduce_eq_fold]
  refine (h.fold_fiber_r4_a3 (ix3 a b c) _ _ _).trans ?_
  rfl

theorem cst0_at (i : Cert.CachedRefIdeal.S_.Idx) :
    Cert.CachedRefIdeal.Read.val_main_cst_0 (F := Ideal) i = Ideal.ofBits FTy.f32 4286578688#32 := by
  pointwise [Cert.CachedRefIdeal.Read.val_main_cst_0]

theorem cst1_at (i : Cert.CachedRefIdeal.S128x4x8.Idx) :
    Cert.CachedRefIdeal.Read.val_main_v6 (F := Ideal) i = Ideal.ofBits FTy.f32 4286578688#32 := by
  rw [Cert.CachedRefIdeal.Read.val_main_v6_apply]
  pointwise [Cert.CachedRefIdeal.Read.val_main_cst_1]

section Ref

variable (q : FVec Ideal Cert.CachedRefIdeal.S128x8x4x128 .f32) (k v : FVec Ideal Cert.CachedRefIdeal.S2x128x256x4x128 .f32)

open Cert.CachedRefIdeal.Read

theorem ref_v4 (b : Fin 128) (h : Fin 4) (i : Fin 8) (j : Fin 256) :
    val_main_v4 (F := Ideal) q k (ix4 b h i j) = score (fun d => q (ix4 b i h d)) (fun d => k (ix5 1 b j h d)) := by
  pointwise [val_main_v4, val_main_v3, val_main_v2, val_main_v1, val_main_v0, val_main_cst, score]

theorem ref_v5 (b : Fin 128) (h : Fin 4) (i : Fin 8) :
    val_main_v5 (F := Ideal) q k (ix3 b h i) = top fun j => val_main_v4 (F := Ideal) q k (ix4 b h i j) := by
  unfold val_main_v5 top
  generalize val_main_v4 (F := Ideal) q k = y
  rw [reduce_max_last, cst0_at]

theorem ref_v7 (b : Fin 128) (h : Fin 4) (i : Fin 8) :
    val_main_v7 (F := Ideal) q k (ix3 b h i)
      = max (Ideal.ofBits FTy.f32 4286578688#32) (top fun j => val_main_v4 (F := Ideal) q k (ix4 b h i j)) := by
  rw [val_main_v7_apply, cst1_at, ref_v5]
  generalize (top fun j => val_main_v4 (F := Ideal) q k (ix4 b h i j)) = y
  rfl

theorem ref_v11 (b : Fin 128) (h : Fin 4) (i : Fin 8) (j : Fin 256) :
    val_main_v11 (F := Ideal) q k (ix4 b h i j) = wts (fun j => val_main_v4 (F := Ideal) q k (ix4 b h i j)) j := by
  have e := ref_v7 q k b h i
  rw [show Ideal.ofBits FTy.f32 4286578688#32 = ⊥ from word_bot, max_eq_right bot_le] at e
  unfold wts
  rw [← e]
  pointwise [val_main_v11, val_main_v10, val_main_v9, val_main_v8]

theorem ref_v18 (b : Fin 128) (h : Fin 4) (d : Fin 128) (i : Fin 8) :
    val_main_v18 (F := Ideal) q k v (ix4 b h d i)
      = ∑ j, v (ix5 1 b j h d) * Ideal.div (val_main_v11 (F := Ideal) q k (ix4 b h i j))
          (∑ j, val_main_v11 (F := Ideal) q k (ix4 b h i j)) := by
  pointwise [val_main_v18, val_main_v17, val_main_v16, val_main_v15, val_main_v14, val_main_v13, val_main_v12, val_main_cst_2]

theorem ref_v21 (r : Fin 1024) (l : Fin 512) :
    val_main_v21 (F := Ideal) q k v (ix2 r l)
      = val_main_v18 (F := Ideal) q k v
          (ix4 ⟨r.val / 8, by omega⟩ ⟨l.val / 128, by omega⟩ ⟨l.val % 128, by omega⟩ ⟨r.val % 8, by omega⟩) := by
  pointwise [val_main_v21, val_main_v20, val_main_v19]

theorem ref_at (hq : ∀ i, IsR (q i)) (hk : ∀ b j h d, IsR (k (ix5 1 b j h d))) (r : Fin 1024) (l : Fin 512) (b : Fin 128) (h : Fin 4) (d : Fin 128) (i : Fin 8)
    (e0 : r.val = 8 * b.val + i.val) (e1 : l.val = 128 * h.val + d.val) :
    val_main_v21 (F := Ideal) q k v (ix2 r l)
      = avg (wts fun j => score (fun d => q (ix4 b i h d)) (fun d => k (ix5 1 b j h d))) fun j => v (ix5 1 b j h d) := by
  rw [ref_v21]
  have eb : (⟨r.val / 8, by omega⟩ : Fin 128) = b := Fin.ext (by show r.val / 8 = b.val; omega)
  have eh : (⟨l.val / 128, by omega⟩ : Fin 4) = h := Fin.ext (by show l.val / 128 = h.val; omega)
  have ed : (⟨l.val % 128, by omega⟩ : Fin 128) = d := Fin.ext (by show l.val % 128 = d.val; omega)
  have ei : (⟨r.val % 8, by omega⟩ : Fin 8) = i := Fin.ext (by show r.val % 8 = i.val; omega)
  rw [eb, eh, ed, ei, ref_v18]
  refine Eq.trans ?_ (avg_eq (s := fun j => score (fun d => q (ix4 b i h d)) (fun d => k (ix5 1 b j h d)))
    (fun j => (IsR.sum _ _ fun d => (hq _).mul (hk _ _ _ _)).mul word_scale) _).symm
  simp only [ref_v11, ref_v4]

end Ref

variable (m : (ℓ : Loc nD τ sig) → Buf (Elt Ideal) ℓ)

theorem idx : ∀ t : Fin cfg0.N, win0_0.index t = ![t.val, 0] ∧ win0_1.index t = ![1, t.val, 0, 0]
    ∧ win0_2.index t = ![1, t.val, 0, 0] ∧ win0_3.index t = ![t.val, 0] :=
  (by decide +kernel : ∀ t : Fin grid0.N, _)

theorem lt_t (t : Fin cfg0.N) : t.val < 32 := lt_of_lt_of_eq t.isLt N_0

theorem q_at (c : Dev nD) (r : Fin 1024) (l : Fin 512) :
    V m c main_v0 (ix2 r l) = m ((c : Thread nD τ).loc main_arg0)
      (ix4 ⟨r.val / 8, by omega⟩ ⟨r.val % 8, by omega⟩ ⟨l.val / 128, by omega⟩ ⟨l.val % 128, by omega⟩) := by
  entry_read; pointwise []
theorem k_at (c : Dev nD) (y : Fin 2) (b : Fin 128) (j : Fin 1024) (d : Fin 128) :
    V m c main_v1 (ix4 y b j d) = m ((c : Thread nD τ).loc main_arg1) (ix5 y b ⟨j.val / 4, by omega⟩ ⟨j.val % 4, by omega⟩ d) := by
  entry_read; pointwise []
theorem v_at (c : Dev nD) (y : Fin 2) (b : Fin 128) (j : Fin 1024) (d : Fin 128) :
    V m c main_v2 (ix4 y b j d) = m ((c : Thread nD τ).loc main_arg2) (ix5 y b ⟨j.val / 4, by omega⟩ ⟨j.val % 4, by omega⟩ d) := by
  entry_read; pointwise []

theorem q_blk (c : Dev nD) (t : Fin cfg0.N) (r : Fin 32) (l : Fin 512) :
    iblk m c 0 t (ix2 r l) = V m c main_v0 (ix2 (⟨t.val * 32 + r.val, by have := lt_t t; omega⟩ : Fin 1024) l) := by
  blk_ext [iblk, idx t]
theorem k_blk (c : Dev nD) (t : Fin cfg0.N) (s : Fin 4) (j : Fin 1024) (d : Fin 128) :
    iblk m c 1 t (ix4 0 s j d) = V m c main_v1 (ix4 1 (⟨t.val * 4 + s.val, by have := lt_t t; omega⟩ : Fin 128) j d) := by
  blk_ext [iblk, idx t]
theorem v_blk (c : Dev nD) (t : Fin cfg0.N) (s : Fin 4) (j : Fin 1024) (d : Fin 128) :
    iblk m c 2 t (ix4 0 s j d) = V m c main_v2 (ix4 1 (⟨t.val * 4 + s.val, by have := lt_t t; omega⟩ : Fin 128) j d) := by
  blk_ext [iblk, idx t]

theorem q_real (c : Dev nD) (hq : ∀ i, IsR (m ((c : Thread nD τ).loc main_arg0) i)) (t : Fin cfg0.N) (i : S32x512.Idx) :
    IsR (iblk m c 0 t i) := by
  idx_vars i
  rw [q_blk, q_at]
  exact hq _
theorem k_real (c : Dev nD) (hk : ∀ b j h d, IsR (m ((c : Thread nD τ).loc main_arg1) (ix5 1 b j h d))) (t : Fin cfg0.N) (i : S1x4x1024x128.Idx) :
    IsR (iblk m c 1 t i) := by
  idx_vars i
  obtain rfl : i0 = 0 := Subsingleton.elim _ _
  rw [k_blk, k_at]
  exact hk _ _ _ _

/-- One row of a head in one sequence of a tile is the reference's. -/
theorem tile_eq (c : Dev nD) (hq : ∀ i, IsR (m ((c : Thread nD τ).loc main_arg0) i)) (hk : ∀ b j h d, IsR (m ((c : Thread nD τ).loc main_arg1) (ix5 1 b j h d)))
    (t : Fin cfg0.N) (s h : Fin 4) (i : Fin 8) (l : Fin 128) (y0 : Fin 32) (y1 : Fin 512)
    (e0 : y0.val = 8 * s.val + i.val) (e1 : y1.val = 128 * h.val + l.val) :
    goal (iblk m c 0 t) (iblk m c 1 t) (iblk m c 2 t) s h i l
    = Cert.CachedRefIdeal.Read.val_main_v21 (F := Ideal) (m ((c : Thread nD τ).loc main_arg0)) (m ((c : Thread nD τ).loc main_arg1))
        (m ((c : Thread nD τ).loc main_arg2)) (ix2 (⟨t.val * 32 + y0.val, by have := lt_t t; omega⟩ : Fin 1024) y1) := by
  have ht := lt_t t
  rw [ref_at _ _ _ hq hk _ _ (⟨t.val * 4 + s.val, by omega⟩ : Fin 128) h l i
    (by show t.val * 32 + y0.val = 8 * (t.val * 4 + s.val) + i.val; omega) e1]
  unfold goal
  have ek : ∀ k : Fin 256, (⟨(place h k).val / 4, by omega⟩ : Fin 256) = k := fun k =>
    Fin.ext (by show (4 * k.val + h.val) / 4 = k.val; omega)
  have eh : ∀ k : Fin 256, (⟨(place h k).val % 4, by omega⟩ : Fin 4) = h := fun k =>
    Fin.ext (by show (4 * k.val + h.val) % 4 = h.val; omega)
  refine congrArg₂ (fun a b => avg (wts a) b) (funext fun k => congrArg₂ score (funext fun d => ?_) (funext fun d => ?_)) (funext fun k => ?_)
  · unfold query
    rw [q_blk, q_at]
    congr 2
    · exact Fin.ext (by show (t.val * 32 + (8 * s.val + i.val)) / 8 = t.val * 4 + s.val; omega)
    · exact Fin.ext (by show (t.val * 32 + (8 * s.val + i.val)) % 8 = i.val; omega)
    · exact Fin.ext (by show (128 * h.val + d.val) / 128 = h.val; omega)
    · exact Fin.ext (by show (128 * h.val + d.val) % 128 = d.val; omega)
  · rw [k_blk, k_at, ek, eh]
  · rw [v_blk, v_at, ek, eh]

theorem final (c : Dev nD) (hq : ∀ i, IsR (m ((c : Thread nD τ).loc main_arg0) i)) (hk : ∀ b j h d, IsR (m ((c : Thread nD τ).loc main_arg1) (ix5 1 b j h d))) :
    (dats m 0 c).arrAt 3 (cfgs 0).N
    = Cert.CachedRefIdeal.Read.val_main_v21 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  idx_vars y;
  have ee : ((win0_3.blk t).view.emb (ix2 y0 y1)) = ix2 (⟨t.val * 32 + y0.val, by have := lt_t t; omega⟩ : Fin 1024) y1 := by
    blk_ext [idx t]
  refine Eq.trans ?_ (congrArg _ ee).symm
  have hx0 := q_real m c hq t
  have hx1 := k_real m c hk t
  refine View.canon_eq_of_allAt _ _ _ (View.cover_of_tiled_head _ _ _ (by rfl) _) ?_
  refine View.allAt_cons_unit _ _ _ _ _ (fun x hx => ?_) ?_
  · idx_vars x; have h0 := hx 0; have h1 := hx 1; simp at h0 h1
    exact (part33_at _ x0 x1).trans ((out3_at _ _ _ hx0 hx1 3 x0 x1 _ rfl).trans
      (tile_eq m c hq hk t 3 3 x0 x1 y0 y1 (by show y0.val = 24 + x0.val; omega) (by show y1.val = 384 + x1.val; omega)))
  refine View.allAt_cons_unit _ _ _ _ _ (fun x hx => ?_) ?_
  · idx_vars x; have h0 := hx 0; have h1 := hx 1; simp at h0 h1
    exact (part32_at _ x0 x1).trans ((out3_at _ _ _ hx0 hx1 2 x0 x1 _ rfl).trans
      (tile_eq m c hq hk t 3 2 x0 x1 y0 y1 (by show y0.val = 24 + x0.val; omega) (by show y1.val = 256 + x1.val; omega)))
  refine View.allAt_cons_unit _ _ _ _ _ (fun x hx => ?_) ?_
  · idx_vars x; have h0 := hx 0; have h1 := hx 1; simp at h0 h1
    exact (part31_at _ x0 x1).trans ((out3_at _ _ _ hx0 hx1 1 x0 x1 _ rfl).trans
      (tile_eq m c hq hk t 3 1 x0 x1 y0 y1 (by show y0.val = 24 + x0.val; omega) (by show y1.val = 128 + x1.val; omega)))
  refine View.allAt_cons_unit _ _ _ _ _ (fun x hx => ?_) ?_
  · idx_vars x; have h0 := hx 0; have h1 := hx 1; simp at h0 h1
    exact (part30_at _ x0 x1).trans ((out3_at _ _ _ hx0 hx1 0 x0 x1 _ rfl).trans
      (tile_eq m c hq hk t 3 0 x0 x1 y0 y1 (by show y0.val = 24 + x0.val; omega) (by show y1.val = 0 + x1.val; omega)))
  refine View.allAt_cons_unit _ _ _ _ _ (fun x hx => ?_) ?_
  · idx_vars x; have h0 := hx 0; have h1 := hx 1; simp at h0 h1
    exact (part23_at _ x0 x1).trans ((out2_at _ _ _ hx0 hx1 3 x0 x1 _ rfl).trans
      (tile_eq m c hq hk t 2 3 x0 x1 y0 y1 (by show y0.val = 16 + x0.val; omega) (by show y1.val = 384 + x1.val; omega)))
  refine View.allAt_cons_unit _ _ _ _ _ (fun x hx => ?_) ?_
  · idx_vars x; have h0 := hx 0; have h1 := hx 1; simp at h0 h1
    exact (part22_at _ x0 x1).trans ((out2_at _ _ _ hx0 hx1 2 x0 x1 _ rfl).trans
      (tile_eq m c hq hk t 2 2 x0 x1 y0 y1 (by show y0.val = 16 + x0.val; omega) (by show y1.val = 256 + x1.val; omega)))
  refine View.allAt_cons_unit _ _ _ _ _ (fun x hx => ?_) ?_
  · idx_vars x; have h0 := hx 0; have h1 := hx 1; simp at h0 h1
    exact (part21_at _ x0 x1).trans ((out2_at _ _ _ hx0 hx1 1 x0 x1 _ rfl).trans
      (tile_eq m c hq hk t 2 1 x0 x1 y0 y1 (by show y0.val = 16 + x0.val; omega) (by show y1.val = 128 + x1.val; omega)))
  refine View.allAt_cons_unit _ _ _ _ _ (fun x hx => ?_) ?_
  · idx_vars x; have h0 := hx 0; have h1 := hx 1; simp at h0 h1
    exact (part20_at _ x0 x1).trans ((out2_at _ _ _ hx0 hx1 0 x0 x1 _ rfl).trans
      (tile_eq m c hq hk t 2 0 x0 x1 y0 y1 (by show y0.val = 16 + x0.val; omega) (by show y1.val = 0 + x1.val; omega)))
  refine View.allAt_cons_unit _ _ _ _ _ (fun x hx => ?_) ?_
  · idx_vars x; have h0 := hx 0; have h1 := hx 1; simp at h0 h1
    exact (part13_at _ x0 x1).trans ((out1_at _ _ _ hx0 hx1 3 x0 x1 _ rfl).trans
      (tile_eq m c hq hk t 1 3 x0 x1 y0 y1 (by show y0.val = 8 + x0.val; omega) (by show y1.val = 384 + x1.val; omega)))
  refine View.allAt_cons_unit _ _ _ _ _ (fun x hx => ?_) ?_
  · idx_vars x; have h0 := hx 0; have h1 := hx 1; simp at h0 h1
    exact (part12_at _ x0 x1).trans ((out1_at _ _ _ hx0 hx1 2 x0 x1 _ rfl).trans
      (tile_eq m c hq hk t 1 2 x0 x1 y0 y1 (by show y0.val = 8 + x0.val; omega) (by show y1.val = 256 + x1.val; omega)))
  refine View.allAt_cons_unit _ _ _ _ _ (fun x hx => ?_) ?_
  · idx_vars x; have h0 := hx 0; have h1 := hx 1; simp at h0 h1
    exact (part11_at _ _ _ x0 x1).trans ((out1_at _ _ _ hx0 hx1 1 x0 x1 _ rfl).trans
      (tile_eq m c hq hk t 1 1 x0 x1 y0 y1 (by show y0.val = 8 + x0.val; omega) (by show y1.val = 128 + x1.val; omega)))
  refine View.allAt_cons_unit _ _ _ _ _ (fun x hx => ?_) ?_
  · idx_vars x; have h0 := hx 0; have h1 := hx 1; simp at h0 h1
    exact (part10_at _ _ _ x0 x1).trans ((out1_at _ _ _ hx0 hx1 0 x0 x1 _ rfl).trans
      (tile_eq m c hq hk t 1 0 x0 x1 y0 y1 (by show y0.val = 8 + x0.val; omega) (by show y1.val = 0 + x1.val; omega)))
  refine View.allAt_cons_unit _ _ _ _ _ (fun x hx => ?_) ?_
  · idx_vars x; have h0 := hx 0; have h1 := hx 1; simp at h0 h1
    exact (part03_at _ x0 x1).trans ((out0_at _ _ _ hx0 hx1 3 x0 x1 _ rfl).trans
      (tile_eq m c hq hk t 0 3 x0 x1 y0 y1 (by show y0.val = 0 + x0.val; omega) (by show y1.val = 384 + x1.val; omega)))
  refine View.allAt_cons_unit _ _ _ _ _ (fun x hx => ?_) ?_
  · idx_vars x; have h0 := hx 0; have h1 := hx 1; simp at h0 h1
    exact (part02_at _ x0 x1).trans ((out0_at _ _ _ hx0 hx1 2 x0 x1 _ rfl).trans
      (tile_eq m c hq hk t 0 2 x0 x1 y0 y1 (by show y0.val = 0 + x0.val; omega) (by show y1.val = 256 + x1.val; omega)))
  refine View.allAt_cons_unit _ _ _ _ _ (fun x hx => ?_) ?_
  · idx_vars x; have h0 := hx 0; have h1 := hx 1; simp at h0 h1
    exact (part01_at _ x0 x1).trans ((out0_at _ _ _ hx0 hx1 1 x0 x1 _ rfl).trans
      (tile_eq m c hq hk t 0 1 x0 x1 y0 y1 (by show y0.val = 0 + x0.val; omega) (by show y1.val = 128 + x1.val; omega)))
  refine View.allAt_cons_unit _ _ _ _ _ (fun x hx => ?_) ?_
  · idx_vars x; have h0 := hx 0; have h1 := hx 1; simp at h0 h1
    exact (part00_at _ x0 x1).trans ((out0_at _ _ _ hx0 hx1 0 x0 x1 _ rfl).trans
      (tile_eq m c hq hk t 0 0 x0 x1 y0 y1 (by show y0.val = 0 + x0.val; omega) (by show y1.val = 0 + x1.val; omega)))
  exact fun p hp => absurd hp List.not_mem_nil

end Cert.CachedIdeal.Proofs

end

end
-- ==== Proof.CachedClaims.lean ====
/- What is claimed of `Cached`: its three runs, and the value of its result. -/
module

public import proofs.«01_k».proof.Defs
public import proofs.«01_k».proof.Proof.CachedValue
public import proofs.«01_k».proof.Proof.Finite
public import proofs.«01_k».proof.Proof.Gen.Pre_finite_scores
public import proofs.«01_k».proof.Proof.Gen.Cached.Frame
public import proofs.«01_k».proof.Proof.Gen.CachedIdeal.Frame
public import proofs.«01_k».proof.Proof.Gen.CachedRefIdeal.Run
public import proofs.«01_k».proof.Proof.Gen.CachedRefIdeal.Read
public import Idealize.ShloMosaic.Lib.Claim

@[expose] public section

noncomputable section

namespace Cert.CachedIdeal.Proofs

open Cert.CachedIdeal Cert.CachedIdeal.Gen Idealize.ShloMosaic Idealize.ShloMosaic.TcCoe Idealize.SL.Sem
open Cert.Common

instance : Subsingleton Cert.Pre_finite_scores.S_.Idx := ⟨fun a b => funext fun i => i.elim0⟩

/-- Reading the condition: the queries, and the keys of the layer read, are real numbers. -/
theorem finite_of_pre (m : (ℓ : Loc nD τ sig) → Buf (Elt Ideal) ℓ) (h : Cert.Pre_CachedIdeal_finite_scores m) (c : Dev nD) :
    (∀ i, IsR (m ((c : Thread nD τ).loc main_arg0) i)) ∧ ∀ b j h d, IsR (m ((c : Thread nD τ).loc main_arg1) (ix5 1 b j h d)) := by
  have e := congrFun (h c) (Shape.Idx.first Cert.Pre_finite_scores.Gen.h_S_)
  dsimp only [Cert.Pre_finite_scores.fn] at e
  obtain ⟨e0, e1⟩ := IntOp.andi_eq_one.mp e
  refine ⟨isR_of_all _ _ _ _ _ e0, fun b j h d => ?_⟩
  have r := isR_of_all _ _ _ _ _ e1 (ix4 b j h d)
  refine Eq.mp (congrArg IsR ?_) r
  pointwise []

end Cert.CachedIdeal.Proofs

namespace Cert.Proof.Cached

open Idealize.ShloMosaic Idealize.SL.Sem

/-- The program runs to its end and leaves its arguments. -/
theorem runs : Cert.quiescent_Cached := fun m ρ _ => Cert.Cached.Gen.frame m ρ

/-- So does the idealized program. -/
theorem runs_ideal : Cert.quiescent_CachedIdeal := fun m ρ _ => Cert.CachedIdeal.Gen.frame m ρ

/-- The same, of finite scores. -/
theorem runs_ideal_finite : Cert.quiescent_CachedIdeal_pre_finite_scores := fun m ρ _ => Cert.CachedIdeal.Gen.frame m ρ

/-- So does the reference. -/
theorem runs_reference : Cert.quiescent_CachedRefIdeal := fun m g _ =>
  (θ_run Cert.CachedRefIdeal.defs _ _).mono
    (fun r h => ⟨fun c => (h c).2, Idealize.ShloMosaic.sem_eq_zero_of_no_sems (by decide) r.2⟩)
    (Cert.CachedRefIdeal.Value.run (F := Ideal) m g)

/-- The same, of finite scores. -/
theorem runs_reference_finite : Cert.quiescent_CachedRefIdeal_pre_finite_scores := fun m g _ => runs_reference m g trivial

/-- The idealized program's result is the reference's. -/
theorem value : Cert.algebraic_CachedIdeal_CachedRefIdeal_pre_finite_scores := by
  intro m g m' g' hpre hag
  refine ⟨fun c => Cert.CachedRefIdeal.Read.val_main_v21 (F := Ideal) (m ((c.tc : Thread Cert.CachedIdeal.nD Cert.CachedIdeal.τ).loc Cert.CachedIdeal.main_arg0)) (m ((c.tc : Thread Cert.CachedIdeal.nD Cert.CachedIdeal.τ).loc Cert.CachedIdeal.main_arg1)) (m ((c.tc : Thread Cert.CachedIdeal.nD Cert.CachedIdeal.τ).loc Cert.CachedIdeal.main_arg2)), ?_, ?_⟩
  · run_from Cert.CachedIdeal.Gen.run_main m g
    exact Cert.CachedIdeal.Proofs.final m c (Cert.CachedIdeal.Proofs.finite_of_pre m hpre c).1 (Cert.CachedIdeal.Proofs.finite_of_pre m hpre c).2
  · refine (θ_run Cert.CachedRefIdeal.defs _ _).mono (fun r h c => ⟨(h c).1.trans ?_, (h c).2⟩)
      (Cert.CachedRefIdeal.Value.run (F := Ideal) m' g')
    obtain ⟨h0, h1, h2⟩ := hag c
    refine (Cert.CachedRefIdeal.Read.val_main_v21_eq _ _ _).trans ?_
    rw [h0, h1, h2]

end Cert.Proof.Cached

end

end
-- ==== Proof.lean ====
module

public import proofs.«01_k».proof.Defs
public import proofs.«01_k».proof.Proof.DecodeClaims
public import proofs.«01_k».proof.Proof.MlpClaims
public import proofs.«01_k».proof.Proof.Gen.MlpIdeal.Value
public import proofs.«01_k».proof.Proof.Gen.MlpRefIdeal.Run
public import proofs.«01_k».proof.Proof.Gen.MlpRefIdeal.Read
public import proofs.«01_k».proof.Proof.MergeClaims
public import proofs.«01_k».proof.Proof.Gen.MergeIdeal.Value
public import proofs.«01_k».proof.Proof.Gen.MergeRefIdeal.Run
public import proofs.«01_k».proof.Proof.Gen.MergeRefIdeal.Read
public import proofs.«01_k».proof.Proof.ProjAClaims
public import proofs.«01_k».proof.Proof.Gen.ProjAIdeal.Value
public import proofs.«01_k».proof.Proof.Gen.ProjARefIdeal.Run
public import proofs.«01_k».proof.Proof.Gen.ProjARefIdeal.Read
public import proofs.«01_k».proof.Proof.ProjBClaims
public import proofs.«01_k».proof.Proof.Gen.ProjBIdeal.Value
public import proofs.«01_k».proof.Proof.Gen.ProjBRefIdeal.Run
public import proofs.«01_k».proof.Proof.Gen.ProjBRefIdeal.Read
public import proofs.«01_k».proof.Proof.CrossClaims
public import proofs.«01_k».proof.Proof.Gen.CrossIdeal.Value
public import proofs.«01_k».proof.Proof.Gen.CrossRefIdeal.Run
public import proofs.«01_k».proof.Proof.Gen.CrossRefIdeal.Read
public import proofs.«01_k».proof.Proof.MemKClaims
public import proofs.«01_k».proof.Proof.Gen.MemKIdeal.Value
public import proofs.«01_k».proof.Proof.Gen.MemKRefIdeal.Run
public import proofs.«01_k».proof.Proof.Gen.MemKRefIdeal.Read
public import proofs.«01_k».proof.Proof.MemVClaims
public import proofs.«01_k».proof.Proof.Gen.MemVIdeal.Value
public import proofs.«01_k».proof.Proof.Gen.MemVRefIdeal.Run
public import proofs.«01_k».proof.Proof.Gen.MemVRefIdeal.Read
public import proofs.«01_k».proof.Proof.OutClaims
public import proofs.«01_k».proof.Proof.Gen.OutIdeal.Value
public import proofs.«01_k».proof.Proof.Gen.OutRefIdeal.Run
public import proofs.«01_k».proof.Proof.Gen.OutRefIdeal.Read
public import proofs.«01_k».proof.Proof.CachedClaims
public import proofs.«01_k».proof.Proof.Gen.CachedIdeal.Value
public import proofs.«01_k».proof.Proof.Gen.CachedRefIdeal.Run
public import proofs.«01_k».proof.Proof.Gen.CachedRefIdeal.Read
public import proofs.«01_k».proof.Proof.Gen.Pre_pages_exist
public import proofs.«01_k».proof.Proof.Gen.Pre_finite_args
public import proofs.«01_k».proof.Proof.Gen.Pre_finite_scores
public import Idealize.ShloMosaic.Adequacy
public import Idealize.ShloMosaic.Init

@[expose] public section

noncomputable section

namespace Cert.Proof

open Idealize.ShloMosaic Idealize.SL.Sem

/-- Every claim, in the order in which the statement lists them. -/
theorem claim : Cert.Claim :=
  ⟨Cert.Kernel.Gen.facts,
   Cert.KernelIdeal.Gen.facts,
   Cert.ReferenceIdeal.Gen.facts,
   Cert.Mlp.Gen.facts,
   Cert.MlpIdeal.Gen.facts,
   Cert.MlpRefIdeal.Gen.facts,
   Cert.Merge.Gen.facts,
   Cert.MergeIdeal.Gen.facts,
   Cert.MergeRefIdeal.Gen.facts,
   Cert.ProjA.Gen.facts,
   Cert.ProjAIdeal.Gen.facts,
   Cert.ProjARefIdeal.Gen.facts,
   Cert.ProjB.Gen.facts,
   Cert.ProjBIdeal.Gen.facts,
   Cert.ProjBRefIdeal.Gen.facts,
   Cert.Cross.Gen.facts,
   Cert.CrossIdeal.Gen.facts,
   Cert.CrossRefIdeal.Gen.facts,
   Cert.MemK.Gen.facts,
   Cert.MemKIdeal.Gen.facts,
   Cert.MemKRefIdeal.Gen.facts,
   Cert.MemV.Gen.facts,
   Cert.MemVIdeal.Gen.facts,
   Cert.MemVRefIdeal.Gen.facts,
   Cert.Out.Gen.facts,
   Cert.OutIdeal.Gen.facts,
   Cert.OutRefIdeal.Gen.facts,
   Cert.Cached.Gen.facts,
   Cert.CachedIdeal.Gen.facts,
   Cert.CachedRefIdeal.Gen.facts,
   Cert.Pre_pages_exist.Gen.facts,
   Cert.Pre_finite_args.Gen.facts,
   Cert.Pre_finite_scores.Gen.facts,
   Decode.runs,
   Decode.runs_ideal,
   Decode.runs_reference,
   Mlp.runs,
   Mlp.runs_ideal,
   Mlp.runs_reference,
   Merge.runs,
   Merge.runs_ideal,
   Merge.runs_reference,
   ProjA.runs,
   ProjA.runs_ideal,
   ProjA.runs_reference,
   ProjB.runs,
   ProjB.runs_ideal,
   ProjB.runs_reference,
   Cross.runs,
   Cross.runs_ideal,
   Cross.runs_ideal_finite,
   Cross.runs_reference,
   Cross.runs_reference_finite,
   MemK.runs,
   MemK.runs_ideal,
   MemK.runs_reference,
   MemV.runs,
   MemV.runs_ideal,
   MemV.runs_reference,
   Out.runs,
   Out.runs_ideal,
   Out.runs_reference,
   Cached.runs,
   Cached.runs_ideal,
   Cached.runs_ideal_finite,
   Cached.runs_reference,
   Cached.runs_reference_finite,
   trivial,
   trivial,
   Mlp.value,
   trivial,
   Merge.value,
   trivial,
   ProjA.value,
   trivial,
   ProjB.value,
   trivial,
   Cross.value,
   trivial,
   MemK.value,
   trivial,
   MemV.value,
   trivial,
   Out.value,
   trivial,
   Cached.value⟩

end Cert.Proof

end

end
